-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S2048x1024 : Shape := ⟨2, ![2048, 1024]⟩
abbrev S1024x1024 : Shape := ⟨2, ![1024, 1024]⟩
abbrev S3x256x1024 : Shape := ⟨3, ![3, 256, 1024]⟩
abbrev S3x64x1024 : Shape := ⟨3, ![3, 64, 1024]⟩
abbrev S4 : Shape := ⟨1, ![4]⟩
abbrev S3 : Shape := ⟨1, ![3]⟩
abbrev S_ : Shape := ⟨0, ![]⟩
abbrev S1x512x1024 : Shape := ⟨3, ![1, 512, 1024]⟩
abbrev S512x1024 : Shape := ⟨2, ![512, 1024]⟩
abbrev S256x512 : Shape := ⟨2, ![256, 512]⟩
abbrev S256x1 : Shape := ⟨2, ![256, 1]⟩
abbrev S256x1024 : Shape := ⟨2, ![256, 1024]⟩
abbrev S1 : Shape := ⟨1, ![1]⟩
abbrev S1x256x1024 : Shape := ⟨3, ![1, 256, 1024]⟩
abbrev S1x64x1024 : Shape := ⟨3, ![1, 64, 1024]⟩
abbrev S64x1024 : Shape := ⟨2, ![64, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S2048x1, .i32⟩
  | .local _ .vmem, ⟨2, _⟩ => ⟨S4x512x1024, .f32⟩
  | .local _ .vmem, ⟨3, _⟩ => ⟨S2048x1024, .f32⟩
  | .local _ .vmem, ⟨4, _⟩ => ⟨S2048x1024, .bf16⟩
  | .local _ .vmem, ⟨5, _⟩ => ⟨S4x512x1024, .bf16⟩
  | .local _ .vmem, ⟨6, _⟩ => ⟨S1024x1024, .bf16⟩
  | .local _ .vmem, ⟨7, _⟩ => ⟨S3x256x1024, .bf16⟩
  | .local _ .vmem, ⟨8, _⟩ => ⟨S3x64x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 2 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_18 : BitVec 32 := 1#32
  let v32 : BitVec 32 := Scalar.muli v12 c1_i32_18
  let v33 : BitVec 32 := Scalar.addi c0_i32_19 v32
  v33.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_7 : BitVec 32 := 8#32
  let v13 : BitVec 32 := Scalar.muli v3 c8_i32_7
  let c8_i32_0 : BitVec 32 := 8#32
  let v4 : BitVec 32 := Scalar.remsi v2 c8_i32_0
  let c2_i32_4 : BitVec 32 := 2#32
  let v9 : BitVec 32 := Scalar.remsi v4 c2_i32_4
  let c0_i32 : BitVec 32 := 0#32
  let v14 : BitVec 1 := Scalar.cmpi .eq v9 c0_i32
  let c3_i32 : BitVec 32 := 3#32
  let c1_i32_8 : BitVec 32 := 1#32
  let v15 : BitVec 32 := Scalar.select v14 c3_i32 c1_i32_8
  let v16 : BitVec 32 := Scalar.addi v4 v15
  let c8_i32_9 : BitVec 32 := 8#32
  let v17 : BitVec 32 := Scalar.remsi v16 c8_i32_9
  let v18 : BitVec 32 := Scalar.addi v13 v17
  let c1_i32_21 : BitVec 32 := 1#32
  let v34 : BitVec 32 := Scalar.muli v18 c1_i32_21
  let v35 : BitVec 32 := Scalar.addi c0_i32_22 v34
  v35.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_10 : BitVec 32 := 8#32
  let v19 : BitVec 32 := Scalar.muli v3 c8_i32_10
  let c8_i32_0 : BitVec 32 := 8#32
  let v4 : BitVec 32 := Scalar.remsi v2 c8_i32_0
  let c2_i32_4 : BitVec 32 := 2#32
  let v9 : BitVec 32 := Scalar.remsi v4 c2_i32_4
  let c0_i32_11 : BitVec 32 := 0#32
  let v20 : BitVec 1 := Scalar.cmpi .eq v9 c0_i32_11
  let c7_i32 : BitVec 32 := 7#32
  let c5_i32 : BitVec 32 := 5#32
  let v21 : BitVec 32 := Scalar.select v20 c7_i32 c5_i32
  let v22 : BitVec 32 := Scalar.addi v4 v21
  let c8_i32_12 : BitVec 32 := 8#32
  let v23 : BitVec 32 := Scalar.remsi v22 c8_i32_12
  let v24 : BitVec 32 := Scalar.addi v19 v23
  let c1_i32_24 : BitVec 32 := 1#32
  let v36 : BitVec 32 := Scalar.muli v24 c1_i32_24
  let v37 : BitVec 32 := Scalar.addi c0_i32_25 v36
  v37.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_13 : BitVec 32 := 8#32
  let v25 : BitVec 32 := Scalar.addi v2 c8_i32_13
  let c32_i32_14 : BitVec 32 := 32#32
  let v26 : BitVec 32 := Scalar.remsi v25 c32_i32_14
  let c1_i32_27 : BitVec 32 := 1#32
  let v38 : BitVec 32 := Scalar.muli v26 c1_i32_27
  let v39 : BitVec 32 := Scalar.addi c0_i32_28 v38
  v39.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v27 : BitVec 32 := Scalar.addi v2 c16_i32
  let c32_i32_15 : BitVec 32 := 32#32
  let v28 : BitVec 32 := Scalar.remsi v27 c32_i32_15
  let c1_i32_30 : BitVec 32 := 1#32
  let v40 : BitVec 32 := Scalar.muli v28 c1_i32_30
  let v41 : BitVec 32 := Scalar.addi c0_i32_31 v40
  v41.toNat
def k0_dev6 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v29 : BitVec 32 := Scalar.addi v2 c24_i32
  let c32_i32_16 : BitVec 32 := 32#32
  let v30 : BitVec 32 := Scalar.remsi v29 c32_i32_16
  let c1_i32_33 : BitVec 32 := 1#32
  let v42 : BitVec 32 := Scalar.muli v30 c1_i32_33
  let v43 : BitVec 32 := Scalar.addi c0_i32_34 v42
  v43.toNat
def k0_off1 (d0 : Dev nD) (c0_i32_57 : BitVec 32) : Fin 2 → Nat :=
  let c1_i32_59 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let v74 : BitVec 32 := Scalar.subi c1_i32_59 v7
  let c4_i32_60 : BitVec 32 := 4#32
  let v75 : BitVec 32 := Scalar.muli v74 c4_i32_60
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let v76 : BitVec 32 := Scalar.addi v75 v73
  let c256_i32 : BitVec 32 := 256#32
  let v77 : BitVec 32 := Scalar.muli v76 c256_i32
  let v78 : Index := Scalar.indexCast v77
  let c0_61 : Index := 0#32
  ![v78.toNat, 0]
def k0_off2 (d0 : Dev nD) (c0_i32_57 : BitVec 32) : Fin 2 → Nat :=
  let c1_i32_59 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let v74 : BitVec 32 := Scalar.subi c1_i32_59 v7
  let c4_i32_60 : BitVec 32 := 4#32
  let v75 : BitVec 32 := Scalar.muli v74 c4_i32_60
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let v76 : BitVec 32 := Scalar.addi v75 v73
  let c256_i32 : BitVec 32 := 256#32
  let v77 : BitVec 32 := Scalar.muli v76 c256_i32
  let v82 : Index := Scalar.indexCast v77
  let c0_62 : Index := 0#32
  ![v82.toNat, 0]
def k0_off3 (d0 : Dev nD) (c0_i32_57 : BitVec 32) : Fin 2 → Nat :=
  let c1_i32_59 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let v74 : BitVec 32 := Scalar.subi c1_i32_59 v7
  let c4_i32_60 : BitVec 32 := 4#32
  let v75 : BitVec 32 := Scalar.muli v74 c4_i32_60
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let v76 : BitVec 32 := Scalar.addi v75 v73
  let c256_i32 : BitVec 32 := 256#32
  let v77 : BitVec 32 := Scalar.muli v76 c256_i32
  let v139 : Index := Scalar.indexCast v77
  let c0_87 : Index := 0#32
  ![v139.toNat, 0]
def k0_off4 (d0 : Dev nD) (c0_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let c256_i32_89 : BitVec 32 := 256#32
  let v145 : BitVec 32 := Scalar.muli v73 c256_i32_89
  let c0_i32_94 : BitVec 32 := 0#32
  ![v145.toNat, 0]
def k0_off5 (d0 : Dev nD) (c0_i32_57 : BitVec 32) : Fin 2 → Nat :=
  let c1_i32_55 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let v69 : BitVec 32 := Scalar.subi c1_i32_55 v7
  let c1024_i32_56 : BitVec 32 := 1024#32
  let v70 : BitVec 32 := Scalar.muli v69 c1024_i32_56
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let c256_i32_88 : BitVec 32 := 256#32
  let v143 : BitVec 32 := Scalar.muli v73 c256_i32_88
  let v144 : BitVec 32 := Scalar.addi v70 v143
  let c0_i32_95 : BitVec 32 := 0#32
  ![v144.toNat, 0]
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_92 : BitVec 32 := 1#32
  let v146 : BitVec 32 := Scalar.muli v12 c1_i32_92
  let v147 : BitVec 32 := Scalar.addi c0_i32_93 v146
  v147.toNat
def k0_off6 (d0 : Dev nD) (c0_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c4_i32_96 : BitVec 32 := 4#32
  let v154 : BitVec 32 := Scalar.muli v7 c4_i32_96
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let v155 : BitVec 32 := Scalar.addi v154 v73
  let c256_i32_97 : BitVec 32 := 256#32
  let v156 : BitVec 32 := Scalar.muli v155 c256_i32_97
  let v157 : Index := Scalar.indexCast v156
  let c0_98 : Index := 0#32
  ![v157.toNat, 0]
def k0_off7 (d0 : Dev nD) (c0_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c4_i32_96 : BitVec 32 := 4#32
  let v154 : BitVec 32 := Scalar.muli v7 c4_i32_96
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let v155 : BitVec 32 := Scalar.addi v154 v73
  let c256_i32_97 : BitVec 32 := 256#32
  let v156 : BitVec 32 := Scalar.muli v155 c256_i32_97
  let v161 : Index := Scalar.indexCast v156
  let c0_99 : Index := 0#32
  ![v161.toNat, 0]
def k0_off8 (d0 : Dev nD) (c0_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c4_i32_96 : BitVec 32 := 4#32
  let v154 : BitVec 32 := Scalar.muli v7 c4_i32_96
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let v155 : BitVec 32 := Scalar.addi v154 v73
  let c256_i32_97 : BitVec 32 := 256#32
  let v156 : BitVec 32 := Scalar.muli v155 c256_i32_97
  let v218 : Index := Scalar.indexCast v156
  let c0_125 : Index := 0#32
  ![v218.toNat, 0]
def k0_off9 (d0 : Dev nD) (c0_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let c256_i32_134 : BitVec 32 := 256#32
  let v228 : BitVec 32 := Scalar.muli v73 c256_i32_134
  let v229 : BitVec 32 := Scalar.addi v68 v228
  let v230 : Index := Scalar.indexCast v229
  let c0_135 : Index := 0#32
  ![v230.toNat, 0]
def k0_off10 (d0 : Dev nD) (c0_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let c256_i32_136 : BitVec 32 := 256#32
  let v232 : BitVec 32 := Scalar.muli v73 c256_i32_136
  let v233 : Index := Scalar.indexCast v232
  let c0_137 : Index := 0#32
  ![v233.toNat, 0]
def k0_off11 (d0 : Dev nD) (c0_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let c2_i32_3 : BitVec 32 := 2#32
  let v8 : BitVec 32 := Scalar.divsi v4 c2_i32_3
  let v71 : BitVec 32 := Scalar.subi v8 c0_i32_57
  let c8_i32_58 : BitVec 32 := 8#32
  let v72 : BitVec 32 := Scalar.addi v71 c8_i32_58
  let c4_i32 : BitVec 32 := 4#32
  let v73 : BitVec 32 := Scalar.remsi v72 c4_i32
  let c256_i32_134 : BitVec 32 := 256#32
  let v228 : BitVec 32 := Scalar.muli v73 c256_i32_134
  let v229 : BitVec 32 := Scalar.addi v68 v228
  let c0_i32_146 : BitVec 32 := 0#32
  ![v229.toNat, 0]
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_7 : BitVec 32 := 8#32
  let v13 : BitVec 32 := Scalar.muli v3 c8_i32_7
  let c8_i32_0 : BitVec 32 := 8#32
  let v4 : BitVec 32 := Scalar.remsi v2 c8_i32_0
  let c2_i32_4 : BitVec 32 := 2#32
  let v9 : BitVec 32 := Scalar.remsi v4 c2_i32_4
  let c0_i32 : BitVec 32 := 0#32
  let v14 : BitVec 1 := Scalar.cmpi .eq v9 c0_i32
  let c3_i32 : BitVec 32 := 3#32
  let c1_i32_8 : BitVec 32 := 1#32
  let v15 : BitVec 32 := Scalar.select v14 c3_i32 c1_i32_8
  let v16 : BitVec 32 := Scalar.addi v4 v15
  let c8_i32_9 : BitVec 32 := 8#32
  let v17 : BitVec 32 := Scalar.remsi v16 c8_i32_9
  let v18 : BitVec 32 := Scalar.addi v13 v17
  let c1_i32_142 : BitVec 32 := 1#32
  let v240 : BitVec 32 := Scalar.muli v18 c1_i32_142
  let v241 : BitVec 32 := Scalar.addi c0_i32_143 v240
  v241.toNat
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_185 : BitVec 32 := 1#32
  let v324 : BitVec 32 := Scalar.muli v12 c1_i32_185
  let v325 : BitVec 32 := Scalar.addi c0_i32_186 v324
  v325.toNat
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_7 : BitVec 32 := 8#32
  let v13 : BitVec 32 := Scalar.muli v3 c8_i32_7
  let c8_i32_0 : BitVec 32 := 8#32
  let v4 : BitVec 32 := Scalar.remsi v2 c8_i32_0
  let c2_i32_4 : BitVec 32 := 2#32
  let v9 : BitVec 32 := Scalar.remsi v4 c2_i32_4
  let c0_i32 : BitVec 32 := 0#32
  let v14 : BitVec 1 := Scalar.cmpi .eq v9 c0_i32
  let c3_i32 : BitVec 32 := 3#32
  let c1_i32_8 : BitVec 32 := 1#32
  let v15 : BitVec 32 := Scalar.select v14 c3_i32 c1_i32_8
  let v16 : BitVec 32 := Scalar.addi v4 v15
  let c8_i32_9 : BitVec 32 := 8#32
  let v17 : BitVec 32 := Scalar.remsi v16 c8_i32_9
  let v18 : BitVec 32 := Scalar.addi v13 v17
  let c1_i32_248 : BitVec 32 := 1#32
  let v434 : BitVec 32 := Scalar.muli v18 c1_i32_248
  let v435 : BitVec 32 := Scalar.addi c0_i32_249 v434
  v435.toNat
def k0_dev11 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_291 : BitVec 32 := 1#32
  let v518 : BitVec 32 := Scalar.muli v12 c1_i32_291
  let v519 : BitVec 32 := Scalar.addi c0_i32_292 v518
  v519.toNat
def k0_dev12 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_7 : BitVec 32 := 8#32
  let v13 : BitVec 32 := Scalar.muli v3 c8_i32_7
  let c8_i32_0 : BitVec 32 := 8#32
  let v4 : BitVec 32 := Scalar.remsi v2 c8_i32_0
  let c2_i32_4 : BitVec 32 := 2#32
  let v9 : BitVec 32 := Scalar.remsi v4 c2_i32_4
  let c0_i32 : BitVec 32 := 0#32
  let v14 : BitVec 1 := Scalar.cmpi .eq v9 c0_i32
  let c3_i32 : BitVec 32 := 3#32
  let c1_i32_8 : BitVec 32 := 1#32
  let v15 : BitVec 32 := Scalar.select v14 c3_i32 c1_i32_8
  let v16 : BitVec 32 := Scalar.addi v4 v15
  let c8_i32_9 : BitVec 32 := 8#32
  let v17 : BitVec 32 := Scalar.remsi v16 c8_i32_9
  let v18 : BitVec 32 := Scalar.addi v13 v17
  let c1_i32_354 : BitVec 32 := 1#32
  let v628 : BitVec 32 := Scalar.muli v18 c1_i32_354
  let v629 : BitVec 32 := Scalar.addi c0_i32_355 v628
  v629.toNat
def k0_dev13 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_397 : BitVec 32 := 1#32
  let v712 : BitVec 32 := Scalar.muli v12 c1_i32_397
  let v713 : BitVec 32 := Scalar.addi c0_i32_398 v712
  v713.toNat
def k0_off12 (d0 : Dev nD) (c0_i32_460 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_459 : BitVec 32 := 1#32
  let v824 : BitVec 32 := Scalar.addi v3 c1_i32_459
  let v825 : BitVec 32 := Scalar.addi v824 c0_i32_460
  let c4_i32_461 : BitVec 32 := 4#32
  let v826 : BitVec 32 := Scalar.remsi v825 c4_i32_461
  let v827 : BitVec 1 := Scalar.cmpi .sgt v3 v826
  let c1_i32_462 : BitVec 32 := 1#32
  let v828 : BitVec 32 := Scalar.subi v3 c1_i32_462
  let v829 : BitVec 32 := Scalar.select v827 v828 v3
  ![v829.toNat]
def k0_off13 (d0 : Dev nD) (c0_i32_460 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_459 : BitVec 32 := 1#32
  let v824 : BitVec 32 := Scalar.addi v3 c1_i32_459
  let v825 : BitVec 32 := Scalar.addi v824 c0_i32_460
  let c4_i32_461 : BitVec 32 := 4#32
  let v826 : BitVec 32 := Scalar.remsi v825 c4_i32_461
  let v827 : BitVec 1 := Scalar.cmpi .sgt v3 v826
  let c1_i32_462 : BitVec 32 := 1#32
  let v828 : BitVec 32 := Scalar.subi v3 c1_i32_462
  let v829 : BitVec 32 := Scalar.select v827 v828 v3
  let c0_i32_467 : BitVec 32 := 0#32
  let c0_i32_468 : BitVec 32 := 0#32
  ![v829.toNat, 0, 0]
def k0_off14 (d0 : Dev nD) (c0_i32_460 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let c2_i32_3 : BitVec 32 := 2#32
  let v8 : BitVec 32 := Scalar.divsi v4 c2_i32_3
  let c1_i32_457 : BitVec 32 := 1#32
  let v822 : BitVec 32 := Scalar.addi v8 c1_i32_457
  let c4_i32_458 : BitVec 32 := 4#32
  let v823 : BitVec 32 := Scalar.remsi v822 c4_i32_458
  let c256_i32_463 : BitVec 32 := 256#32
  let v830 : BitVec 32 := Scalar.muli v823 c256_i32_463
  let v831 : BitVec 32 := Scalar.addi v68 v830
  let c8_i32 : BitVec 32 := 8#32
  let v3 : BitVec 32 := Scalar.divsi v2 c8_i32
  let c1_i32_459 : BitVec 32 := 1#32
  let v824 : BitVec 32 := Scalar.addi v3 c1_i32_459
  let v825 : BitVec 32 := Scalar.addi v824 c0_i32_460
  let c4_i32_461 : BitVec 32 := 4#32
  let v826 : BitVec 32 := Scalar.remsi v825 c4_i32_461
  let c64_i32 : BitVec 32 := 64#32
  let v832 : BitVec 32 := Scalar.muli v826 c64_i32
  let v833 : BitVec 32 := Scalar.addi v831 v832
  let c0_i32_469 : BitVec 32 := 0#32
  ![v833.toNat, 0]
def k0_dev14 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_13 : BitVec 32 := 8#32
  let v25 : BitVec 32 := Scalar.addi v2 c8_i32_13
  let c32_i32_14 : BitVec 32 := 32#32
  let v26 : BitVec 32 := Scalar.remsi v25 c32_i32_14
  let c1_i32_465 : BitVec 32 := 1#32
  let v834 : BitVec 32 := Scalar.muli v26 c1_i32_465
  let v835 : BitVec 32 := Scalar.addi c0_i32_466 v834
  v835.toNat
def k0_dev15 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v27 : BitVec 32 := Scalar.addi v2 c16_i32
  let c32_i32_15 : BitVec 32 := 32#32
  let v28 : BitVec 32 := Scalar.remsi v27 c32_i32_15
  let c1_i32_477 : BitVec 32 := 1#32
  let v853 : BitVec 32 := Scalar.muli v28 c1_i32_477
  let v854 : BitVec 32 := Scalar.addi c0_i32_478 v853
  v854.toNat
def k0_dev16 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v29 : BitVec 32 := Scalar.addi v2 c24_i32
  let c32_i32_16 : BitVec 32 := 32#32
  let v30 : BitVec 32 := Scalar.remsi v29 c32_i32_16
  let c1_i32_489 : BitVec 32 := 1#32
  let v872 : BitVec 32 := Scalar.muli v30 c1_i32_489
  let v873 : BitVec 32 := Scalar.addi c0_i32_490 v872
  v873.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let c2_i32_3 : BitVec 32 := 2#32
  let v8 : BitVec 32 := Scalar.divsi v4 c2_i32_3
  let c1_i32_457 : BitVec 32 := 1#32
  let v822 : BitVec 32 := Scalar.addi v8 c1_i32_457
  let c4_i32_458 : BitVec 32 := 4#32
  let v823 : BitVec 32 := Scalar.remsi v822 c4_i32_458
  let c256_i32_524 : BitVec 32 := 256#32
  let v905 : BitVec 32 := Scalar.muli v823 c256_i32_524
  let v906 : BitVec 32 := Scalar.addi v68 v905
  let c8_i32 : BitVec 32 := 8#32
  let v3 : BitVec 32 := Scalar.divsi v2 c8_i32
  let c64_i32_525 : BitVec 32 := 64#32
  let v907 : BitVec 32 := Scalar.muli v3 c64_i32_525
  let v908 : BitVec 32 := Scalar.addi v906 v907
  let v909 : Index := Scalar.indexCast v908
  let c0_526 : Index := 0#32
  ![v909.toNat, 0]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let c2_i32_3 : BitVec 32 := 2#32
  let v8 : BitVec 32 := Scalar.divsi v4 c2_i32_3
  let c1_i32_457 : BitVec 32 := 1#32
  let v822 : BitVec 32 := Scalar.addi v8 c1_i32_457
  let c4_i32_458 : BitVec 32 := 4#32
  let v823 : BitVec 32 := Scalar.remsi v822 c4_i32_458
  let c256_i32_542 : BitVec 32 := 256#32
  let v931 : BitVec 32 := Scalar.muli v823 c256_i32_542
  let v932 : BitVec 32 := Scalar.addi v68 v931
  let c8_i32 : BitVec 32 := 8#32
  let v3 : BitVec 32 := Scalar.divsi v2 c8_i32
  let c64_i32_543 : BitVec 32 := 64#32
  let v933 : BitVec 32 := Scalar.muli v3 c64_i32_543
  let v934 : BitVec 32 := Scalar.addi v932 v933
  let c0_i32_548 : BitVec 32 := 0#32
  ![v934.toNat, 0]
def k0_dev17 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_13 : BitVec 32 := 8#32
  let v25 : BitVec 32 := Scalar.addi v2 c8_i32_13
  let c32_i32_14 : BitVec 32 := 32#32
  let v26 : BitVec 32 := Scalar.remsi v25 c32_i32_14
  let c1_i32_546 : BitVec 32 := 1#32
  let v938 : BitVec 32 := Scalar.muli v26 c1_i32_546
  let v939 : BitVec 32 := Scalar.addi c0_i32_547 v938
  v939.toNat
def k0_dev18 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v27 : BitVec 32 := Scalar.addi v2 c16_i32
  let c32_i32_15 : BitVec 32 := 32#32
  let v28 : BitVec 32 := Scalar.remsi v27 c32_i32_15
  let c1_i32_559 : BitVec 32 := 1#32
  let v960 : BitVec 32 := Scalar.muli v28 c1_i32_559
  let v961 : BitVec 32 := Scalar.addi c0_i32_560 v960
  v961.toNat
def k0_dev19 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v29 : BitVec 32 := Scalar.addi v2 c24_i32
  let c32_i32_16 : BitVec 32 := 32#32
  let v30 : BitVec 32 := Scalar.remsi v29 c32_i32_16
  let c1_i32_572 : BitVec 32 := 1#32
  let v982 : BitVec 32 := Scalar.muli v30 c1_i32_572
  let v983 : BitVec 32 := Scalar.addi c0_i32_573 v982
  v983.toNat
def k0_off17 (d0 : Dev nD) (c0_i32_576 : BitVec 32) (c1_i32_577 : BitVec 32) (c0_i32_578 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let c2_i32_3 : BitVec 32 := 2#32
  let v8 : BitVec 32 := Scalar.divsi v4 c2_i32_3
  let c1_i32_457 : BitVec 32 := 1#32
  let v822 : BitVec 32 := Scalar.addi v8 c1_i32_457
  let c4_i32_458 : BitVec 32 := 4#32
  let v823 : BitVec 32 := Scalar.remsi v822 c4_i32_458
  let c256_i32_581 : BitVec 32 := 256#32
  let v996 : BitVec 32 := Scalar.muli v823 c256_i32_581
  let v997 : BitVec 32 := Scalar.addi v68 v996
  let c8_i32 : BitVec 32 := 8#32
  let v3 : BitVec 32 := Scalar.divsi v2 c8_i32
  let v990 : BitVec 1 := Scalar.cmpi .sle v3 c0_i32_576
  let v991 : BitVec 32 := Scalar.select v990 c1_i32_577 c0_i32_578
  let c64_i32_582 : BitVec 32 := 64#32
  let v998 : BitVec 32 := Scalar.muli v991 c64_i32_582
  let v999 : BitVec 32 := Scalar.addi v997 v998
  let c0_i32_587 : BitVec 32 := 0#32
  ![v999.toNat, 0]
def k0_off17_at (r : Fin 3) : BitVec 32 × BitVec 32 × BitVec 32 :=
  if r.val < 1 then
    (0#32, 1#32, 0#32)
  else
    if r.val < 2 then
      (1#32, 2#32, 1#32)
    else
      (2#32, 3#32, 2#32)
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let c2_i32_3 : BitVec 32 := 2#32
  let v8 : BitVec 32 := Scalar.divsi v4 c2_i32_3
  let c1_i32_457 : BitVec 32 := 1#32
  let v822 : BitVec 32 := Scalar.addi v8 c1_i32_457
  let c4_i32_458 : BitVec 32 := 4#32
  let v823 : BitVec 32 := Scalar.remsi v822 c4_i32_458
  let c256_i32_615 : BitVec 32 := 256#32
  let v1038 : BitVec 32 := Scalar.muli v823 c256_i32_615
  let v1039 : BitVec 32 := Scalar.addi v68 v1038
  let c0_i32_620 : BitVec 32 := 0#32
  ![v1039.toNat, 0]
def k0_dev20 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_618 : BitVec 32 := 1#32
  let v1040 : BitVec 32 := Scalar.muli v12 c1_i32_618
  let v1041 : BitVec 32 := Scalar.addi c0_i32_619 v1040
  v1041.toNat
def k0_off19 (d0 : Dev nD) (c0_i32_623 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let c2_i32_3 : BitVec 32 := 2#32
  let v8 : BitVec 32 := Scalar.divsi v4 c2_i32_3
  let c1_i32_622 : BitVec 32 := 1#32
  let v1048 : BitVec 32 := Scalar.addi v8 c1_i32_622
  let v1049 : BitVec 32 := Scalar.subi v1048 c0_i32_623
  let c8_i32_624 : BitVec 32 := 8#32
  let v1050 : BitVec 32 := Scalar.addi v1049 c8_i32_624
  let c4_i32_625 : BitVec 32 := 4#32
  let v1051 : BitVec 32 := Scalar.remsi v1050 c4_i32_625
  let c256_i32_626 : BitVec 32 := 256#32
  let v1052 : BitVec 32 := Scalar.muli v1051 c256_i32_626
  let v1053 : BitVec 32 := Scalar.addi v68 v1052
  let c0_i32_631 : BitVec 32 := 0#32
  ![v1053.toNat, 0]
def k0_dev21 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_7 : BitVec 32 := 8#32
  let v13 : BitVec 32 := Scalar.muli v3 c8_i32_7
  let c8_i32_0 : BitVec 32 := 8#32
  let v4 : BitVec 32 := Scalar.remsi v2 c8_i32_0
  let c2_i32_4 : BitVec 32 := 2#32
  let v9 : BitVec 32 := Scalar.remsi v4 c2_i32_4
  let c0_i32 : BitVec 32 := 0#32
  let v14 : BitVec 1 := Scalar.cmpi .eq v9 c0_i32
  let c3_i32 : BitVec 32 := 3#32
  let c1_i32_8 : BitVec 32 := 1#32
  let v15 : BitVec 32 := Scalar.select v14 c3_i32 c1_i32_8
  let v16 : BitVec 32 := Scalar.addi v4 v15
  let c8_i32_9 : BitVec 32 := 8#32
  let v17 : BitVec 32 := Scalar.remsi v16 c8_i32_9
  let v18 : BitVec 32 := Scalar.addi v13 v17
  let c1_i32_629 : BitVec 32 := 1#32
  let v1054 : BitVec 32 := Scalar.muli v18 c1_i32_629
  let v1055 : BitVec 32 := Scalar.addi c0_i32_630 v1054
  v1055.toNat
def k0_dev22 (d0 : Dev nD) : Nat :=
  let c0_i32_646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_645 : BitVec 32 := 1#32
  let v1073 : BitVec 32 := Scalar.muli v12 c1_i32_645
  let v1074 : BitVec 32 := Scalar.addi c0_i32_646 v1073
  v1074.toNat
def k0_dev23 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_7 : BitVec 32 := 8#32
  let v13 : BitVec 32 := Scalar.muli v3 c8_i32_7
  let c8_i32_0 : BitVec 32 := 8#32
  let v4 : BitVec 32 := Scalar.remsi v2 c8_i32_0
  let c2_i32_4 : BitVec 32 := 2#32
  let v9 : BitVec 32 := Scalar.remsi v4 c2_i32_4
  let c0_i32 : BitVec 32 := 0#32
  let v14 : BitVec 1 := Scalar.cmpi .eq v9 c0_i32
  let c3_i32 : BitVec 32 := 3#32
  let c1_i32_8 : BitVec 32 := 1#32
  let v15 : BitVec 32 := Scalar.select v14 c3_i32 c1_i32_8
  let v16 : BitVec 32 := Scalar.addi v4 v15
  let c8_i32_9 : BitVec 32 := 8#32
  let v17 : BitVec 32 := Scalar.remsi v16 c8_i32_9
  let v18 : BitVec 32 := Scalar.addi v13 v17
  let c1_i32_656 : BitVec 32 := 1#32
  let v1087 : BitVec 32 := Scalar.muli v18 c1_i32_656
  let v1088 : BitVec 32 := Scalar.addi c0_i32_657 v1087
  v1088.toNat
def k0_dev24 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_672 : BitVec 32 := 1#32
  let v1106 : BitVec 32 := Scalar.muli v12 c1_i32_672
  let v1107 : BitVec 32 := Scalar.addi c0_i32_673 v1106
  v1107.toNat
def k0_dev25 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_7 : BitVec 32 := 8#32
  let v13 : BitVec 32 := Scalar.muli v3 c8_i32_7
  let c8_i32_0 : BitVec 32 := 8#32
  let v4 : BitVec 32 := Scalar.remsi v2 c8_i32_0
  let c2_i32_4 : BitVec 32 := 2#32
  let v9 : BitVec 32 := Scalar.remsi v4 c2_i32_4
  let c0_i32 : BitVec 32 := 0#32
  let v14 : BitVec 1 := Scalar.cmpi .eq v9 c0_i32
  let c3_i32 : BitVec 32 := 3#32
  let c1_i32_8 : BitVec 32 := 1#32
  let v15 : BitVec 32 := Scalar.select v14 c3_i32 c1_i32_8
  let v16 : BitVec 32 := Scalar.addi v4 v15
  let c8_i32_9 : BitVec 32 := 8#32
  let v17 : BitVec 32 := Scalar.remsi v16 c8_i32_9
  let v18 : BitVec 32 := Scalar.addi v13 v17
  let c1_i32_683 : BitVec 32 := 1#32
  let v1120 : BitVec 32 := Scalar.muli v18 c1_i32_683
  let v1121 : BitVec 32 := Scalar.addi c0_i32_684 v1120
  v1121.toNat
def k0_dev26 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_699 : BitVec 32 := 1#32
  let v1139 : BitVec 32 := Scalar.muli v12 c1_i32_699
  let v1140 : BitVec 32 := Scalar.addi c0_i32_700 v1139
  v1140.toNat
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let c1024_i32 : BitVec 32 := 1024#32
  let v68 : BitVec 32 := Scalar.muli v7 c1024_i32
  let v1147 : Index := Scalar.indexCast v68
  let c0_703 : Index := 0#32
  ![v1147.toNat, 0]
def k0_off21 (d0 : Dev nD) (c0_i32_714 : BitVec 32) : Fin 2 → Nat :=
  let c1_i32_55 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v5 : BitVec 32 := Scalar.addi v4 c1_i32_1
  let c2_i32 : BitVec 32 := 2#32
  let v6 : BitVec 32 := Scalar.divsi v5 c2_i32
  let c2_i32_2 : BitVec 32 := 2#32
  let v7 : BitVec 32 := Scalar.remsi v6 c2_i32_2
  let v69 : BitVec 32 := Scalar.subi c1_i32_55 v7
  let c1024_i32_56 : BitVec 32 := 1024#32
  let v70 : BitVec 32 := Scalar.muli v69 c1024_i32_56
  let c2_i32_3 : BitVec 32 := 2#32
  let v8 : BitVec 32 := Scalar.divsi v4 c2_i32_3
  let c1_i32_713 : BitVec 32 := 1#32
  let v1158 : BitVec 32 := Scalar.addi v8 c1_i32_713
  let v1159 : BitVec 32 := Scalar.subi v1158 c0_i32_714
  let c8_i32_715 : BitVec 32 := 8#32
  let v1160 : BitVec 32 := Scalar.addi v1159 c8_i32_715
  let c4_i32_716 : BitVec 32 := 4#32
  let v1161 : BitVec 32 := Scalar.remsi v1160 c4_i32_716
  let c256_i32_717 : BitVec 32 := 256#32
  let v1162 : BitVec 32 := Scalar.muli v1161 c256_i32_717
  let v1163 : BitVec 32 := Scalar.addi v70 v1162
  let v1164 : Index := Scalar.indexCast v1163
  let c0_718 : Index := 0#32
  ![v1164.toNat, 0]
def k0_dev27 (d0 : Dev nD) : Nat :=
  let c0_i32_870_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c1_i32_6 : BitVec 32 := 1#32
  let v11 : BitVec 32 := Scalar.xori v4 c1_i32_6
  let v12 : BitVec 32 := Scalar.addi v10 v11
  let c1_i32_869_r0 : BitVec 32 := 1#32
  let v1307_r0 : BitVec 32 := Scalar.muli v12 c1_i32_869_r0
  let v1308_r0 : BitVec 32 := Scalar.addi c0_i32_870_r0 v1307_r0
  v1308_r0.toNat
def k0_dev28 (d0 : Dev nD) : Nat :=
  let c0_i32_873_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_7 : BitVec 32 := 8#32
  let v13 : BitVec 32 := Scalar.muli v3 c8_i32_7
  let c8_i32_0 : BitVec 32 := 8#32
  let v4 : BitVec 32 := Scalar.remsi v2 c8_i32_0
  let c2_i32_4 : BitVec 32 := 2#32
  let v9 : BitVec 32 := Scalar.remsi v4 c2_i32_4
  let c0_i32 : BitVec 32 := 0#32
  let v14 : BitVec 1 := Scalar.cmpi .eq v9 c0_i32
  let c3_i32 : BitVec 32 := 3#32
  let c1_i32_8 : BitVec 32 := 1#32
  let v15 : BitVec 32 := Scalar.select v14 c3_i32 c1_i32_8
  let v16 : BitVec 32 := Scalar.addi v4 v15
  let c8_i32_9 : BitVec 32 := 8#32
  let v17 : BitVec 32 := Scalar.remsi v16 c8_i32_9
  let v18 : BitVec 32 := Scalar.addi v13 v17
  let c1_i32_872_r0 : BitVec 32 := 1#32
  let v1309_r0 : BitVec 32 := Scalar.muli v18 c1_i32_872_r0
  let v1310_r0 : BitVec 32 := Scalar.addi c0_i32_873_r0 v1309_r0
  v1310_r0.toNat
def k0_dev29 (d0 : Dev nD) : Nat :=
  let c0_i32_876_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_10 : BitVec 32 := 8#32
  let v19 : BitVec 32 := Scalar.muli v3 c8_i32_10
  let c8_i32_0 : BitVec 32 := 8#32
  let v4 : BitVec 32 := Scalar.remsi v2 c8_i32_0
  let c2_i32_4 : BitVec 32 := 2#32
  let v9 : BitVec 32 := Scalar.remsi v4 c2_i32_4
  let c0_i32_11 : BitVec 32 := 0#32
  let v20 : BitVec 1 := Scalar.cmpi .eq v9 c0_i32_11
  let c7_i32 : BitVec 32 := 7#32
  let c5_i32 : BitVec 32 := 5#32
  let v21 : BitVec 32 := Scalar.select v20 c7_i32 c5_i32
  let v22 : BitVec 32 := Scalar.addi v4 v21
  let c8_i32_12 : BitVec 32 := 8#32
  let v23 : BitVec 32 := Scalar.remsi v22 c8_i32_12
  let v24 : BitVec 32 := Scalar.addi v19 v23
  let c1_i32_875_r0 : BitVec 32 := 1#32
  let v1311_r0 : BitVec 32 := Scalar.muli v24 c1_i32_875_r0
  let v1312_r0 : BitVec 32 := Scalar.addi c0_i32_876_r0 v1311_r0
  v1312_r0.toNat
def k0_dev30 (d0 : Dev nD) : Nat :=
  let c0_i32_879_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_13 : BitVec 32 := 8#32
  let v25 : BitVec 32 := Scalar.addi v2 c8_i32_13
  let c32_i32_14 : BitVec 32 := 32#32
  let v26 : BitVec 32 := Scalar.remsi v25 c32_i32_14
  let c1_i32_878_r0 : BitVec 32 := 1#32
  let v1313_r0 : BitVec 32 := Scalar.muli v26 c1_i32_878_r0
  let v1314_r0 : BitVec 32 := Scalar.addi c0_i32_879_r0 v1313_r0
  v1314_r0.toNat
def k0_dev31 (d0 : Dev nD) : Nat :=
  let c0_i32_882_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v27 : BitVec 32 := Scalar.addi v2 c16_i32
  let c32_i32_15 : BitVec 32 := 32#32
  let v28 : BitVec 32 := Scalar.remsi v27 c32_i32_15
  let c1_i32_881_r0 : BitVec 32 := 1#32
  let v1315_r0 : BitVec 32 := Scalar.muli v28 c1_i32_881_r0
  let v1316_r0 : BitVec 32 := Scalar.addi c0_i32_882_r0 v1315_r0
  v1316_r0.toNat
def k0_dev32 (d0 : Dev nD) : Nat :=
  let c0_i32_885_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v29 : BitVec 32 := Scalar.addi v2 c24_i32
  let c32_i32_16 : BitVec 32 := 32#32
  let v30 : BitVec 32 := Scalar.remsi v29 c32_i32_16
  let c1_i32_884_r0 : BitVec 32 := 1#32
  let v1317_r0 : BitVec 32 := Scalar.muli v30 c1_i32_884_r0
  let v1318_r0 : BitVec 32 := Scalar.addi c0_i32_885_r0 v1317_r0
  v1318_r0.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S2048 : Shape := ⟨1, ![2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S128x512x1024, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x512x1024, .f32⟩
  | .hbm, ⟨14, _⟩ => ⟨S2048x1024, .f32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S2048x1, .i1⟩
  | .hbm, ⟨23, _⟩ => ⟨S_, .f32⟩
  | .hbm, ⟨24, _⟩ => ⟨S2048x1024, .f32⟩
  | .hbm, ⟨25, _⟩ => ⟨S2048x1024, .i1⟩
  | .hbm, ⟨26, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_call0_v0 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Mesh.lean ====
/-
# The mesh: where a device sits, whom it exchanges with, and which rows it works on

The 32 devices form four planes of eight (`c / 8`); in a plane the eight form two columns
(`xc`) of four (`yy`). A device exchanges with its partner in the other column (`pX`), passes
along the ring of its own column (`pY`, from `pYb`), and with the three devices at its place
in the other planes (`pZ`). The arithmetic the kernel computes its addresses and offsets by
is stated here in closed form.
-/
module

public import proofs.«01_k».proof.Proof.Gen.KernelIdeal

@[expose] public section

noncomputable section

namespace Cert.MoeProof

open Cert.KernelIdeal Cert.KernelIdeal.Gen
open Idealize.ShloMosaic

/-- The column of a device in its plane. -/
def xc (c : Dev nD) : ℕ := ((c.val % 8 + 1) / 2) % 2
/-- The place of a device in its column. -/
def yy (c : Dev nD) : ℕ := (c.val % 8) / 2
/-- The plane of a device. -/
def zz (c : Dev nD) : ℕ := c.val / 8

/-- The device at the same place of the other column. -/
def pX (c : Dev nD) : Dev nD :=
  ⟨(8 * (c.val / 8) + (if c.val % 2 = 0 then c.val % 8 + 1 else c.val % 8 - 1)) % 32, Nat.mod_lt _ (by decide)⟩
/-- The next device of the column's ring. -/
def pY (c : Dev nD) : Dev nD :=
  ⟨(8 * (c.val / 8) + (c.val % 8 + (if c.val % 8 % 2 = 0 then 3 else 1)) % 8) % 32, Nat.mod_lt _ (by decide)⟩
/-- The previous device of the column's ring. -/
def pYb (c : Dev nD) : Dev nD :=
  ⟨(8 * (c.val / 8) + (c.val % 8 + (if c.val % 8 % 2 = 0 then 7 else 5)) % 8) % 32, Nat.mod_lt _ (by decide)⟩
/-- The device `j + 1` planes further round, at the same place. -/
def pZ (j : Fin 3) (c : Dev nD) : Dev nD := ⟨(c.val + 8 * (j.val + 1)) % 32, Nat.mod_lt _ (by decide)⟩

/-- The slot a device writes on its `j`-th peer of the other planes: its own plane's number,
    the peer's plane left out. -/
def zsl (c : Dev nD) (j : Fin 3) : Fin 3 :=
  ⟨(if zz c < (zz c + 1 + j.val) % 4 then zz c else zz c - 1) % 3, Nat.mod_lt _ (by decide)⟩
/-- The slot in which a device keeps what its `j`-th peer of the other planes sends. -/
def zsi (c : Dev nD) (j : Fin 3) : Fin 3 := zsl (pZ j c) ⟨2 - j.val, by omega⟩
/-- The device whose contribution slot `i` holds. -/
def zpeer (i : Fin 3) (c : Dev nD) : Dev nD :=
  ⟨(8 * (if i.val < zz c then i.val else i.val + 1) + c.val % 8) % 32, Nat.mod_lt _ (by decide)⟩

/-- First row of the `j`-th strip of a device's own half (strips are counted back round the ring). -/
def mrow (c : Dev nD) (j : ℕ) : ℕ := 1024 * xc c + 256 * ((yy c + 8 - j) % 4)
/-- First row of the `j`-th strip of the other half. -/
def trow (c : Dev nD) (j : ℕ) : ℕ := 1024 * (1 - xc c) + 256 * ((yy c + 8 - j) % 4)
/-- First row of the `j`-th strip in the buffer of half the rows. -/
def xrow (c : Dev nD) (j : ℕ) : ℕ := 256 * ((yy c + 8 - j) % 4)
/-- First row of the part of plane `u` in the strip a device finishes. -/
def srow (c : Dev nD) (u : ℕ) : ℕ := mrow c 3 + 64 * u

/-! ## The exchanges undo each other -/

theorem pX_pX : ∀ c, pX (pX c) = c := by decide +kernel
theorem pYb_pY : ∀ c, pYb (pY c) = c := by decide +kernel
theorem pY_pYb : ∀ c, pY (pYb c) = c := by decide +kernel
theorem pYb3 : ∀ c, pYb (pYb (pYb c)) = pY c := by decide +kernel
theorem pYb2 : ∀ c, pYb (pYb c) = pY (pY c) := by decide +kernel
theorem pZ_pZ : ∀ (j : Fin 3) (c : Dev nD), pZ ⟨2 - j.val, by omega⟩ (pZ j c) = c := by decide +kernel
theorem zpeer_zsl : ∀ (j : Fin 3) (c : Dev nD), zpeer (zsl c j) (pZ j c) = c := by decide +kernel
theorem zpeer_zsi : ∀ (j : Fin 3) (c : Dev nD), zpeer (zsi c j) c = pZ j c := by decide +kernel
theorem zsi_inj : ∀ (c : Dev nD) (i j : Fin 3), zsi c i = zsi c j → i = j := by decide +kernel

/-! ## Rows as the partners see them -/

theorem xc_lt : ∀ c, xc c < 2 := by decide +kernel
theorem yy_lt : ∀ c, yy c < 4 := by decide +kernel
theorem zz_lt : ∀ c, zz c < 4 := by decide +kernel
theorem trow_pX : ∀ (c : Dev nD) (j : Fin 4), trow (pX c) j = mrow c j := by decide +kernel
theorem mrow_pX : ∀ (c : Dev nD) (j : Fin 4), mrow (pX c) j = trow c j := by decide +kernel
theorem xrow_pX : ∀ (c : Dev nD) (j : Fin 4), xrow (pX c) j = xrow c j := by decide +kernel
theorem mrow_pY : ∀ (c : Dev nD) (j : Fin 4), mrow (pY c) (j + 1 : ℕ) = mrow c j := by decide +kernel
theorem mrow_pYb : ∀ (c : Dev nD) (j : Fin 4), mrow (pYb c) j = mrow c (j + 1 : ℕ) := by decide +kernel
theorem mrow_four : ∀ (c : Dev nD), mrow c 4 = mrow c 0 := by decide +kernel
theorem srow_pZ : ∀ (i : Fin 3) (c : Dev nD) (u : ℕ), srow (pZ i c) u = srow c u := by
  have h : ∀ (i : Fin 3) (c : Dev nD), mrow (pZ i c) 3 = mrow c 3 := by decide +kernel
  intro i c u; unfold srow; rw [h]
theorem srow_zpeer : ∀ (i : Fin 3) (c : Dev nD) (u : ℕ), srow (zpeer i c) u = srow c u := by
  have h : ∀ (i : Fin 3) (c : Dev nD), mrow (zpeer i c) 3 = mrow c 3 := by decide +kernel
  intro i c u; unfold srow; rw [h]

/-! ## The devices the kernel addresses -/

theorem dev_X : ∀ c : Dev nD, k0_dev1 c = (pX c).val ∧ k0_dev7 c = (pX c).val ∧ k0_dev9 c = (pX c).val
    ∧ k0_dev11 c = (pX c).val ∧ k0_dev13 c = (pX c).val ∧ k0_dev20 c = (pX c).val ∧ k0_dev22 c = (pX c).val
    ∧ k0_dev24 c = (pX c).val ∧ k0_dev26 c = (pX c).val ∧ k0_dev27 c = (pX c).val := by decide +kernel
theorem dev_Y : ∀ c : Dev nD, k0_dev2 c = (pY c).val ∧ k0_dev8 c = (pY c).val ∧ k0_dev10 c = (pY c).val
    ∧ k0_dev12 c = (pY c).val ∧ k0_dev21 c = (pY c).val ∧ k0_dev23 c = (pY c).val ∧ k0_dev25 c = (pY c).val
    ∧ k0_dev28 c = (pY c).val := by decide +kernel
theorem dev_Yb : ∀ c : Dev nD, k0_dev3 c = (pYb c).val ∧ k0_dev29 c = (pYb c).val := by decide +kernel
theorem dev_Z0 : ∀ c : Dev nD, k0_dev4 c = (pZ 0 c).val ∧ k0_dev14 c = (pZ 0 c).val ∧ k0_dev17 c = (pZ 0 c).val
    ∧ k0_dev30 c = (pZ 0 c).val := by decide +kernel
theorem dev_Z1 : ∀ c : Dev nD, k0_dev5 c = (pZ 1 c).val ∧ k0_dev15 c = (pZ 1 c).val ∧ k0_dev18 c = (pZ 1 c).val
    ∧ k0_dev31 c = (pZ 1 c).val := by decide +kernel
theorem dev_Z2 : ∀ c : Dev nD, k0_dev6 c = (pZ 2 c).val ∧ k0_dev16 c = (pZ 2 c).val ∧ k0_dev19 c = (pZ 2 c).val
    ∧ k0_dev32 c = (pZ 2 c).val := by decide +kernel

/-! ## The offsets the kernel computes -/

/-- The offsets of the other half's strip `j`. -/
theorem off_their : ∀ (c : Dev nD) (j : Fin 4), k0_off1 c (BitVec.ofNat 32 j.val) = ![trow c j, 0]
    ∧ k0_off2 c (BitVec.ofNat 32 j.val) = ![trow c j, 0] ∧ k0_off3 c (BitVec.ofNat 32 j.val) = ![trow c j, 0]
    ∧ k0_off5 c (BitVec.ofNat 32 j.val) = ![trow c j, 0] := by decide +kernel
/-- The offsets of the own half's strip `j`. -/
theorem off_mine : ∀ (c : Dev nD) (j : Fin 4), k0_off6 c (BitVec.ofNat 32 j.val) = ![mrow c j, 0]
    ∧ k0_off7 c (BitVec.ofNat 32 j.val) = ![mrow c j, 0] ∧ k0_off8 c (BitVec.ofNat 32 j.val) = ![mrow c j, 0]
    ∧ k0_off9 c (BitVec.ofNat 32 j.val) = ![mrow c j, 0] := by decide +kernel
/-- The offsets of strip `j` of the half-size buffer. -/
theorem off_x : ∀ (c : Dev nD) (j : Fin 4), k0_off4 c (BitVec.ofNat 32 j.val) = ![xrow c j, 0]
    ∧ k0_off10 c (BitVec.ofNat 32 j.val) = ![xrow c j, 0] := by decide +kernel
theorem off_y : ∀ (c : Dev nD) (j : Fin 3), k0_off11 c (BitVec.ofNat 32 j.val) = ![mrow c j, 0]
    ∧ k0_off19 c (BitVec.ofNat 32 j.val) = ![mrow c (j + 3), 0] := by decide +kernel
theorem off_z : ∀ (c : Dev nD) (j : Fin 3), k0_off12 c (BitVec.ofNat 32 j.val) = ![(zsl c j).val]
    ∧ k0_off13 c (BitVec.ofNat 32 j.val) = ![(zsl c j).val, 0, 0]
    ∧ k0_off14 c (BitVec.ofNat 32 j.val) = ![srow c (zz (pZ j c)), 0] := by decide +kernel
theorem off_sub : ∀ (c : Dev nD), k0_off15 c = ![srow c (zz c), 0] ∧ k0_off16 c = ![srow c (zz c), 0]
    ∧ k0_off18 c = ![mrow c 3, 0] ∧ k0_off20 c = ![1024 * xc c, 0] := by decide +kernel
theorem off_last : ∀ (c : Dev nD) (i : Fin 4), k0_off21 c (BitVec.ofNat 32 i.val) = ![trow c (i + 3), 0] := by
  decide +kernel

end Cert.MoeProof
-- ==== Proof.Contents.lean ====
/-
# What the buffers hold

Every stage of the exchange is named as one array over all rows of the result: a device's
partial products (`P`), their sum with the partner's (`A1`), the sums gathered along the
column's ring (`Acc`), over the four planes (`Z`), and the finished array (`Fn`), the same on
every device. A buffer that receives rows is described by the array those rows come from. The
kernel's vector payloads are read off these arrays block by block.
-/
module

public import proofs.«01_k».proof.Proof.Mesh
public import proofs.«01_k».proof.Proof.Gen.KernelIdeal.Skeleton
public import Idealize.ShloMosaic.Lib.Pointwise.Index
public import Idealize.ShloMosaic.Lib.Pipeline.Value
public import Idealize.ShloMosaic.Lib.Pipeline.Launch
public import Idealize.ShloMosaic.Lib.Pipeline.Kit

@[expose] public section

noncomputable section

namespace Cert.MoeProof

open Cert.KernelIdeal Cert.KernelIdeal.Gen
open Idealize.ShloMosaic Idealize.ShloMosaic.TcCoe

variable {F : FTy → Type} [FloatOps F]

/-- Row `r` (taken modulo the number of rows), column `l`. -/
def at2 (R : ℕ) {C : ℕ} (hR : 0 < R) (r : ℕ) (l : Fin C) : (⟨2, ![R, C]⟩ : Shape).Idx := ix2 ⟨r % R, Nat.mod_lt _ hR⟩ l

/-- The index of row `r` in the arrays over all rows. -/
abbrev oix (r : ℕ) (l : Fin 1024) : S2048x1024.Idx := at2 2048 (by decide) r l

variable (xA : Dev nD → Vec F S2048x512 .f32) (rA : Dev nD → Vec F S2048x1 .i32) (wA : Dev nD → Vec F S4x512x1024 .f32)

/-- Rows `a ..` of a device's activations, of its routing, and one expert's matrix. -/
def xblk (a : ℕ) (f : Vec F S2048x512 .f32) : Vec F S256x512 .f32 := fun j => f (at2 2048 (by decide) (a + (j 0).val) (j 1))
def rblk (a : ℕ) (f : Vec F S2048x1 .i32) : Vec F S256x1 .i32 := fun j => f (at2 2048 (by decide) (a + (j 0).val) (j 1))
def wblk {φ : EltTy} (k : Fin 4) (f : Vec F S4x512x1024 φ) : Vec F S1x512x1024 φ := fun j => f (ix3 k (j 1) (j 2))

/-- The experts' matrices as the kernel multiplies by them. -/
def WB (c : Dev nD) : FVec F S4x512x1024 .bf16 := truncf .bf16 (wA c) bitsLt_bf16_f32

/-- The device's number as the kernel reads it. -/
def wd (c : Dev nD) : BitVec 32 := Scalar.remsi (Scalar.divsi (Dev.word c) 1#32) 32#32

/-- One block of 256 rows through a device's four experts. -/
def comp (w : BitVec 32) (xb : Vec F S256x512 .f32) (rb : Vec F S256x1 .i32) (w0 w1 w2 w3 : Vec F S1x512x1024 .bf16) : FVec F S256x1024 .bf16 :=
  k0_pay9 (k0_pay6 xb) (k0_pay7 rb) (k0_pay8 w (k0_pay6 xb) (k0_pay7 rb) (Scalar.ofBits .f32 0x00000000#32) w0 w1 w2)
    (Scalar.muli 4#32 w) w3

/-- A device's products of the block of rows from `a`. -/
def blockP (c : Dev nD) (a : ℕ) : FVec F S256x1024 .bf16 :=
  comp (wd c) (xblk a (xA c)) (rblk a (rA c)) (wblk 0 (WB wA c)) (wblk 1 (WB wA c)) (wblk 2 (WB wA c)) (wblk 3 (WB wA c))

/-- A device's partial products, all rows. -/
def P (c : Dev nD) : FVec F S2048x1024 .bf16 := fun i =>
  blockP xA rA wA c (256 * ((i 0).val / 256)) (at2 256 (by decide) (i 0).val (i 1))

/-- With the partner's. -/
def A1 (c : Dev nD) : FVec F S2048x1024 .bf16 := addf (P xA rA wA c) (P xA rA wA (pX c))

/-- With what came round the ring in `j` steps. -/
def Acc : ℕ → Dev nD → FVec F S2048x1024 .bf16
  | 0, c => A1 xA rA wA c
  | j + 1, c => addf (A1 xA rA wA c) (Acc j (pYb c))

/-- Over the four planes. -/
def Z (c : Dev nD) : FVec F S2048x1024 .bf16 :=
  addf (addf (addf (Acc xA rA wA 3 c) (Acc xA rA wA 3 (zpeer 0 c))) (Acc xA rA wA 3 (zpeer 1 c))) (Acc xA rA wA 3 (zpeer 2 c))

/-- The device that finishes row `r`. -/
def owner (r : ℕ) : Dev nD :=
  ⟨(8 * (r % 256 / 64) + 2 * ((r % 1024 / 256 + 3) % 4)
    + (if ((r % 1024 / 256 + 3) % 4) % 2 = r / 1024 then 0 else 1)) % 32, Nat.mod_lt _ (by decide)⟩

/-- The finished array. -/
def Fn : FVec F S2048x1024 .bf16 := fun i => Z xA rA wA (owner (i 0).val) i

/-- The result. -/
def OutG : FVec F S2048x1024 .f32 := extf .f32 (Fn xA rA wA) bitsLt_bf16_f32

/-! ## The receiving buffers -/

/-- The buffer of half the rows: the partner's products of the device's own half. -/
def XSt (c : Dev nD) : FVec F S1024x1024 .bf16 := fun i => P xA rA wA (pX c) (oix (1024 * xc c + (i 0).val) (i 1))
/-- Slot `j`: the previous device's sums of the strip it passes at step `j`. -/
def YSt (c : Dev nD) : FVec F S3x256x1024 .bf16 := fun i =>
  Acc xA rA wA (i 0).val (pYb c) (oix (mrow c ((i 0).val + 1) + (i 1).val) (i 2))
/-- Slot `i`: the sums of another plane's device of the rows this device finishes. -/
def ZSt (c : Dev nD) : FVec F S3x64x1024 .bf16 := fun i =>
  Acc xA rA wA 3 (zpeer (i 0) c) (oix (srow c (zz c) + (i 1).val) (i 2))

/-! ## Blocks of rows -/

/-- Rows `a ..` of an array over all rows. -/
def bk {φ : FTy} (n a : ℕ) (f : FVec F S2048x1024 φ) : FVec F ⟨2, ![n, 1024]⟩ φ := fun j => f (oix (a + (j 0).val) (j 1))
/-- Rows `a ..` of the buffer of half the rows. -/
def bkx (a : ℕ) (f : FVec F S1024x1024 .bf16) : FVec F S256x1024 .bf16 := fun j => f (at2 1024 (by decide) (a + (j 0).val) (j 1))
/-- Slot `k` of a receiving buffer. -/
def bky (k : Fin 3) (f : FVec F S3x256x1024 .bf16) : FVec F S1x256x1024 .bf16 := fun j => f (ix3 k (j 1) (j 2))
def bkz (k : Fin 3) (f : FVec F S3x64x1024 .bf16) : FVec F S1x64x1024 .bf16 := fun j => f (ix3 k (j 1) (j 2))

theorem at2_0 (R : ℕ) {C : ℕ} (hR : 0 < R) (r : ℕ) (l : Fin C) : (at2 R hR r l 0).val = r % R := rfl
theorem at2_1 (R : ℕ) {C : ℕ} (hR : 0 < R) (r : ℕ) (l : Fin C) : at2 R hR r l 1 = l := rfl

/-- A block of rows of the partial products is the block's own computation. -/
theorem bk_P (c : Dev nD) (a : ℕ) (h : a % 256 = 0) (ha : a < 2048) :
    bk 256 a (P xA rA wA c) = blockP xA rA wA c a := by
  funext j
  have hj : (j 0).val < 256 := (j 0).isLt
  have e1 : (a + (j 0).val) % 2048 = a + (j 0).val := Nat.mod_eq_of_lt (by omega)
  show blockP xA rA wA c (256 * ((a + (j 0).val) % 2048 / 256)) (at2 256 (by decide) ((a + (j 0).val) % 2048) (j 1)) = _
  rw [e1, show 256 * ((a + (j 0).val) / 256) = a by omega]
  congr 1
  funext b
  match b with
  | ⟨0, _⟩ => exact Fin.ext (by show (a + (j 0).val) % 256 = (j 0).val; omega)
  | ⟨1, _⟩ => rfl

theorem owner_srow : ∀ (c : Dev nD) (k : Fin 64), owner (srow c (zz c) + k.val) = c := by decide +kernel
theorem srow_lt : ∀ (c : Dev nD) (u : Fin 4), srow c u.val + 64 ≤ 2048 := by decide +kernel
theorem mrow_lt : ∀ (c : Dev nD) (j : ℕ), mrow c j + 256 ≤ 2048 := by
  intro c j; have := xc_lt c; unfold mrow; omega
theorem trow_lt : ∀ (c : Dev nD) (j : ℕ), trow c j + 256 ≤ 2048 := by
  intro c j; have := xc_lt c; unfold trow; omega
theorem xrow_lt : ∀ (c : Dev nD) (j : ℕ), xrow c j + 256 ≤ 1024 := by
  intro c j; unfold xrow; omega
theorem mrow_mod (c : Dev nD) (j : ℕ) : mrow c j % 256 = 0 := by unfold mrow; omega
theorem trow_mod (c : Dev nD) (j : ℕ) : trow c j % 256 = 0 := by unfold trow; omega

/-- On the rows a device finishes the finished array is its own sum. -/
theorem Fn_srow (c : Dev nD) (r : ℕ) (l : Fin 1024) (h : srow c (zz c) ≤ r) (h' : r < srow c (zz c) + 64) :
    Fn xA rA wA (oix r l) = Z xA rA wA c (oix r l) := by
  have hl := srow_lt c ⟨zz c, zz_lt c⟩
  have hr : r % 2048 = r := Nat.mod_eq_of_lt (by dsimp only at hl; omega)
  show Z xA rA wA (owner (r % 2048)) _ = _
  have := owner_srow c ⟨r - srow c (zz c), by omega⟩
  rw [hr, show owner r = c by rw [← this]; congr 1; show r = _ + (r - _); omega]

/-- The own block plus the partner's. -/
theorem pay_x (c : Dev nD) (j : Fin 4) :
    addf (bk 256 (mrow c j) (P xA rA wA c)) (bkx (xrow c j) (XSt xA rA wA c)) = bk 256 (mrow c j) (A1 xA rA wA c) := by
  have hx : bkx (xrow c j) (XSt xA rA wA c) = bk 256 (mrow c j) (P xA rA wA (pX c)) := by
    funext k
    have hk : (k 0).val < 256 := (k 0).isLt
    have := xrow_lt c j
    show P xA rA wA (pX c) (oix (1024 * xc c + (xrow c j + (k 0).val) % 1024) (k 1)) = P xA rA wA (pX c) (oix (mrow c j + (k 0).val) (k 1))
    rw [Nat.mod_eq_of_lt (by omega : xrow c j + (k 0).val < 1024), show 1024 * xc c + (xrow c j + (k 0).val) = mrow c j + (k 0).val by
      unfold mrow xrow; omega]
  rw [hx]; rfl

/-- The own sum plus what the ring brought. -/
theorem pay_y (c : Dev nD) (j : Fin 3) :
    addf (bk 256 (mrow c (j.val + 1)) (A1 xA rA wA c))
        (shapeCast S256x1024 (bky j (YSt xA rA wA c)) shapeCasts_S1x256x1024_S256x1024)
      = bk 256 (mrow c (j.val + 1)) (Acc xA rA wA (j.val + 1) c) := by
  have hy : shapeCast S256x1024 (bky j (YSt xA rA wA c)) shapeCasts_S1x256x1024_S256x1024
      = bk 256 (mrow c (j.val + 1)) (Acc xA rA wA j.val (pYb c)) := by
    funext k
    exact Idealize.ShloMosaic.shapeCast_dropUnit_apply ![256, 1024] (bky j (YSt xA rA wA c)) shapeCasts_S1x256x1024_S256x1024 k
  rw [hy]; rfl

/-- The sum over the planes. -/
theorem pay_z (c : Dev nD) :
    k0_pay60 (bk 64 (srow c (zz c)) (Acc xA rA wA 3 c)) (bkz 0 (ZSt xA rA wA c)) (bkz 1 (ZSt xA rA wA c)) (bkz 2 (ZSt xA rA wA c))
      = bk 64 (srow c (zz c)) (Fn xA rA wA) := by
  have hz : ∀ i : Fin 3, shapeCast S64x1024 (bkz i (ZSt xA rA wA c)) shapeCasts_S1x64x1024_S64x1024
      = bk 64 (srow c (zz c)) (Acc xA rA wA 3 (zpeer i c)) := by
    intro i; funext k
    exact Idealize.ShloMosaic.shapeCast_dropUnit_apply ![64, 1024] (bkz i (ZSt xA rA wA c)) shapeCasts_S1x64x1024_S64x1024 k
  unfold k0_pay60
  dsimp only
  rw [hz, hz, hz, Idealize.ShloMosaic.shapeCast_self]
  funext k
  have hk : (k 0).val < 64 := (k 0).isLt
  refine Eq.trans ?_ (Fn_srow xA rA wA c (srow c (zz c) + (k 0).val) (k 1) (by omega) (by omega)).symm
  rfl

/-- The result's rows from the finished array's. -/
theorem pay_out (n a : ℕ) : extf .f32 (bk n a (Fn xA rA wA)) bitsLt_bf16_f32 = bk n a (OutG xA rA wA) := rfl

end Cert.MoeProof
-- ==== Proof.Pieces.lean ====
/-
# Pieces of buffers, and the steps over them

A device holds its buffers in pieces: blocks of rows of a two-dimensional buffer, slots of a
three-dimensional one. Here are the pieces, and what a load and a store over one do, each as a
step of the program in front of it.
-/
module

public import proofs.«01_k».proof.Proof.Contents
public import proofs.«01_k».proof.Proof.Gen.KernelIdeal.Launch
public import Idealize.ShloMosaic.Lib.Tactic

@[expose] public section

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds, and the kernel's own with at most six payers a round. -/
abbrev UU : Type := UR sig nD τ × URounds (GSem nD τ sig) (Fin 6)

local notation "𝕄" => MT nD τ sig Unit (Elt F) ℕ UU ℕ

/-! ## Rows and slots -/

/-- Rows `a ..< a + n`. -/
def rowsOf (R C a n : ℕ) : Finset (⟨2, ![R, C]⟩ : Shape).Idx := Finset.univ.filter fun i => a ≤ (i 0).val ∧ (i 0).val < a + n
/-- Slot `k`. -/
def slotOf (K R C k : ℕ) : Finset (⟨3, ![K, R, C]⟩ : Shape).Idx := Finset.univ.filter fun i => (i 0).val = k

theorem mem_rowsOf {R C a n : ℕ} {i : (⟨2, ![R, C]⟩ : Shape).Idx} : i ∈ rowsOf R C a n ↔ a ≤ (i 0).val ∧ (i 0).val < a + n := by
  simp [rowsOf]
theorem mem_slotOf {K R C k : ℕ} {i : (⟨3, ![K, R, C]⟩ : Shape).Idx} : i ∈ slotOf K R C k ↔ (i 0).val = k := by
  simp [slotOf]

theorem rect_set {R C a n : ℕ} {off : Fin 2 → ℕ} {inb} (h : off = ![a, 0]) :
    (Rect.unit (s := (⟨2, ![R, C]⟩ : Shape)) off ![n, C] inb).set = rowsOf R C a n := by
  subst h
  ext i
  rw [Rect.mem_set_unit, mem_rowsOf]
  constructor
  · intro H; exact H 0
  · intro H b
    match b with
    | ⟨0, _⟩ => exact H
    | ⟨1, _⟩ => exact ⟨Nat.zero_le _, by have := (i 1).isLt; show (i 1).val < 0 + C; rw [Nat.zero_add]; exact this⟩

theorem rect_emb {R C a n : ℕ} {off : Fin 2 → ℕ} {inb} (h : off = ![a, 0]) (hR : 0 < R)
    (j : (⟨2, ![n, C]⟩ : Shape).Idx) :
    (Rect.unit (s := (⟨2, ![R, C]⟩ : Shape)) off ![n, C] inb).emb j = at2 R hR (a + (j 0).val) (j 1) := by
  subst h
  have h0 : a + n ≤ R := inb 0
  have hj : (j 0).val < n := (j 0).isLt
  funext b
  match b with
  | ⟨0, _⟩ => exact Fin.ext (by show a + 1 * (j 0).val = (a + (j 0).val) % R; rw [Nat.mod_eq_of_lt (by omega)]; omega)
  | ⟨1, _⟩ => exact Fin.ext (by show 0 + 1 * (j 1).val = (j 1).val; omega)

theorem slot_set {K R C k : ℕ} {off : Fin 3 → ℕ} {inb} (h : off = ![k, 0, 0]) :
    (Rect.unit (s := (⟨3, ![K, R, C]⟩ : Shape)) off ![1, R, C] inb).set = slotOf K R C k := by
  subst h
  ext i
  rw [Rect.mem_set_unit, mem_slotOf]
  constructor
  · intro H
    have h1 : k ≤ (i 0).val := (H 0).1
    have h2 : (i 0).val < k + 1 := (H 0).2
    omega
  · intro H b
    match b with
    | ⟨0, _⟩ => exact ⟨by show k ≤ (i 0).val; omega, by show (i 0).val < k + 1; omega⟩
    | ⟨1, _⟩ => exact ⟨Nat.zero_le _, by have := (i 1).isLt; show (i 1).val < 0 + R; rw [Nat.zero_add]; exact this⟩
    | ⟨2, _⟩ => exact ⟨Nat.zero_le _, by have := (i 2).isLt; show (i 2).val < 0 + C; rw [Nat.zero_add]; exact this⟩

theorem slot_emb {K R C : ℕ} (k : Fin K) {off : Fin 3 → ℕ} {inb} (h : off = ![k.val, 0, 0]) (j : (⟨3, ![1, R, C]⟩ : Shape).Idx) :
    (Rect.unit (s := (⟨3, ![K, R, C]⟩ : Shape)) off ![1, R, C] inb).emb j = ix3 k (j 1) (j 2) := by
  subst h
  have h0 : (j 0).val < 1 := (j 0).isLt
  funext b
  match b with
  | ⟨0, _⟩ => exact Fin.ext (by show k.val + 1 * (j 0).val = k.val; omega)
  | ⟨1, _⟩ => exact Fin.ext (by show 0 + 1 * (j 1).val = (j 1).val; omega)
  | ⟨2, _⟩ => exact Fin.ext (by show 0 + 1 * (j 2).val = (j 2).val; omega)

/-! ## Loads and stores of a rectangle of a whole buffer -/

/-- The program logic's judgment at a device. -/
abbrev WPD (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A buffer's elements `S` at share `q`, holding `f`. -/
abbrev bufP (b : Ref sig .tc) (c : Dev nD) (S : Finset b.ty.shape.Idx) (q : PosShare TreeShare) (f : b.ty.Contents (Elt F)) : sProp 𝕄 :=
  iprop(((c : Thread nD τ).loc b) ↦[S]{q} f)

/-- A load reads the rectangle's elements. -/
theorem load_rect {s : Shape} {e : EltTy} (m : Memref sig .tc .vmem s e) (c : Dev nD) (r : Rect s)
    (S : Finset (Idx (m.view.loc (c : Thread nD τ)))) (hS : (m.access r).set ⊆ S) (q : PosShare TreeShare)
    (f : Buf (Elt F) (m.view.loc (c : Thread nD τ))) (v : r.shape.Idx → Elt F e) (hv : (m.access r).read (Elt F) f = v)
    {α : Type} {Q : α → sProp 𝕄} {hl} {k : (r.shape.Idx → Elt F e) → Prog (TpuEff nD τ sig (Elt F) Λ₀ .tc) α} :
    (m.view.loc (c : Thread nD τ) ↦[S]{q} f : sProp 𝕄) ⊢ iprop(((m.view.loc (c : Thread nD τ) ↦[S]{q} f) -∗ WPD c (k v) Q)
      -∗ WPD c (.op (.load m r.toLoadRect hl) k) Q) := by
  subst hv
  exact wp_load_rect Variants.none (c : Thread nD τ) none Set.univ (m := m) (r := r) hS

/-- A store writes the rectangle's elements, the rest stays: where the vector's elements are `g`'s
    there and the buffer already holds `g` elsewhere on the piece, the piece holds `g`. -/
theorem store_rect {s : Shape} {e : EltTy} (m : Memref sig .tc .vmem s e) (c : Dev nD) (r : Rect s)
    (S : Finset (Idx (m.view.loc (c : Thread nD τ)))) (hS : (m.access r).set ⊆ S)
    (f g : Buf (Elt F) (m.view.loc (c : Thread nD τ))) (w : r.shape.Idx → Elt F e)
    (hw : ∀ j, cast (congrArg (Elt F) (m.access r).elt_eq.symm) (w j) = g ((m.access r).emb j))
    (hfg : ∀ i ∈ S, i ∉ (m.access r).set → f i = g i) {α : Type} {Q : α → sProp 𝕄} {hx hm}
    {k : PUnit → Prog (TpuEff nD τ sig (Elt F) Λ₀ .tc) α} :
    (m.view.loc (c : Thread nD τ) ↦[S]{fullShare} f : sProp 𝕄) ⊢ iprop(((m.view.loc (c : Thread nD τ) ↦[S]{fullShare} g) -∗ WPD c (k ⟨⟩) Q)
      -∗ WPD c (.op (.store m r w Finset.univ hx hm) k) Q) := by
  have hv : ∀ i ∈ S, (m.access r).write (Elt F) f w Finset.univ i = g i := by
    intro i hi
    by_cases h : i ∈ (m.access r).set
    · obtain ⟨x, -, rfl⟩ := Finset.mem_map.1 h
      exact (View.write_emb_of_mem (v := m.access r) (Val := Elt F) f w (Finset.mem_univ x)).trans (hw x)
    · exact (View.write_of_not_mem (v := m.access r) (Val := Elt F) f w Finset.univ h).trans (hfg i hi h)
  have hp : (m.view.loc (c : Thread nD τ) ↦[S]{fullShare} g : sProp 𝕄)
      = (m.view.loc (c : Thread nD τ) ↦[S]{fullShare} ((m.access r).write (Elt F) f w Finset.univ)) :=
    (pointsTo_congr hv).symm
  rw [hp]
  exact wp_store Variants.none (c : Thread nD τ) none Set.univ (m := m) (r := r) (Mk := Finset.univ) hS

/-! ## The buffers -/

abbrev xM : Memref sig .tc .vmem S2048x512 .f32 := Memref.whole cc0_stg0_0
abbrev rM : Memref sig .tc .vmem S2048x1 .i32 := Memref.whole cc0_stg1_0
abbrev wM : Memref sig .tc .vmem S4x512x1024 .f32 := Memref.whole cc0_stg2_0
abbrev outM : Memref sig .tc .vmem S2048x1024 .f32 := Memref.whole cc0_stg3_0
abbrev obM : Memref sig .tc .vmem S2048x1024 .bf16 := Memref.whole cc0_scratch0
abbrev wbM : Memref sig .tc .vmem S4x512x1024 .bf16 := Memref.whole cc0_scratch1
abbrev xsM : Memref sig .tc .vmem S1024x1024 .bf16 := Memref.whole cc0_scratch2
abbrev ysM : Memref sig .tc .vmem S3x256x1024 .bf16 := Memref.whole cc0_scratch3
abbrev zsM : Memref sig .tc .vmem S3x64x1024 .bf16 := Memref.whole cc0_scratch4

abbrev xP (c : Dev nD) (f : Vec F S2048x512 .f32) : sProp 𝕄 := bufP (F := F) cc0_stg0_0 c Finset.univ fullShare f
abbrev rP (c : Dev nD) (f : Vec F S2048x1 .i32) : sProp 𝕄 := bufP (F := F) cc0_stg1_0 c Finset.univ fullShare f
abbrev wP (c : Dev nD) (f : Vec F S4x512x1024 .f32) : sProp 𝕄 := bufP (F := F) cc0_stg2_0 c Finset.univ fullShare f
abbrev outP (c : Dev nD) (a n : ℕ) (f : FVec F S2048x1024 .f32) : sProp 𝕄 := bufP (F := F) cc0_stg3_0 c (rowsOf 2048 1024 a n) fullShare f
abbrev obP (c : Dev nD) (a n : ℕ) (q : PosShare TreeShare) (f : FVec F S2048x1024 .bf16) : sProp 𝕄 :=
  bufP (F := F) cc0_scratch0 c (rowsOf 2048 1024 a n) q f
abbrev wbP (c : Dev nD) (f : FVec F S4x512x1024 .bf16) : sProp 𝕄 := bufP (F := F) cc0_scratch1 c Finset.univ fullShare f
abbrev xsP (c : Dev nD) (a n : ℕ) (f : FVec F S1024x1024 .bf16) : sProp 𝕄 := bufP (F := F) cc0_scratch2 c (rowsOf 1024 1024 a n) fullShare f
abbrev ysP (c : Dev nD) (k : ℕ) (f : FVec F S3x256x1024 .bf16) : sProp 𝕄 := bufP (F := F) cc0_scratch3 c (slotOf 3 256 1024 k) fullShare f
abbrev zsP (c : Dev nD) (k : ℕ) (f : FVec F S3x64x1024 .bf16) : sProp 𝕄 := bufP (F := F) cc0_scratch4 c (slotOf 3 64 1024 k) fullShare f

section Steps

variable (c : Dev nD)

/-- A load of 256 rows of the activations. -/
theorem load_x {α : Type} {Q : α → sProp 𝕄} (a : ℕ) {off : Fin 2 → ℕ} (h : off = ![a, 0]) {inb} {hl} (f : Vec F S2048x512 .f32)
    {k : Vec F S256x512 .f32 → Prog (TpuEff nD τ sig (Elt F) Λ₀ .tc) α} :
    xP c f ⊢ iprop((xP c f -∗ WPD c (k (xblk a f)) Q)
      -∗ WPD c (.op (.load xM (Rect.unit (s := S2048x512) off S256x512.size inb).toLoadRect hl) k) Q) :=
  load_rect xM c (Rect.unit (s := S2048x512) off S256x512.size inb) Finset.univ (Finset.subset_univ _) fullShare f (xblk a f)
    (show (xM.access (Rect.unit (s := S2048x512) off S256x512.size inb)).read (Elt F) f = xblk a f from funext fun j => congrArg f (rect_emb h (by decide) j))

/-- A load of 256 rows of the routing. -/
theorem load_r {α : Type} {Q : α → sProp 𝕄} (a : ℕ) {off : Fin 2 → ℕ} (h : off = ![a, 0]) {inb} {hl} (f : Vec F S2048x1 .i32)
    {k : Vec F S256x1 .i32 → Prog (TpuEff nD τ sig (Elt F) Λ₀ .tc) α} :
    rP (F := F) c f ⊢ iprop((rP (F := F) c f -∗ WPD c (k (rblk (F := F) a f)) Q)
      -∗ WPD c (.op (.load rM (Rect.unit (s := S2048x1) off S256x1.size inb).toLoadRect hl) k) Q) :=
  load_rect rM c (Rect.unit (s := S2048x1) off S256x1.size inb) Finset.univ (Finset.subset_univ _) fullShare f (rblk (F := F) a f)
    (show (rM.access (Rect.unit (s := S2048x1) off S256x1.size inb)).read (Elt F) f = rblk (F := F) a f from funext fun j => congrArg f (rect_emb h (by decide) j))

/-- A load of one expert's matrix, as it came. -/
theorem load_w {α : Type} {Q : α → sProp 𝕄} (e : Fin 4) {off : Fin 3 → ℕ} (h : off = ![e.val, 0, 0]) {inb} {hl} (f : Vec F S4x512x1024 .f32)
    {k : Vec F S1x512x1024 .f32 → Prog (TpuEff nD τ sig (Elt F) Λ₀ .tc) α} :
    wP c f ⊢ iprop((wP c f -∗ WPD c (k (wblk (F := F) (φ := .f32) e f)) Q)
      -∗ WPD c (.op (.load wM (Rect.unit (s := S4x512x1024) off S1x512x1024.size inb).toLoadRect hl) k) Q) :=
  load_rect wM c (Rect.unit (s := S4x512x1024) off S1x512x1024.size inb) Finset.univ (Finset.subset_univ _) fullShare f (wblk (F := F) (φ := .f32) e f)
    (show (wM.access (Rect.unit (s := S4x512x1024) off S1x512x1024.size inb)).read (Elt F) f = wblk (F := F) (φ := .f32) e f from funext fun j => congrArg f (slot_emb e h j))

/-- A load of one expert's matrix, converted. -/
theorem load_wb {α : Type} {Q : α → sProp 𝕄} (e : Fin 4) {off : Fin 3 → ℕ} (h : off = ![e.val, 0, 0]) {inb} {hl} (f : FVec F S4x512x1024 .bf16)
    {k : Vec F S1x512x1024 .bf16 → Prog (TpuEff nD τ sig (Elt F) Λ₀ .tc) α} :
    wbP c f ⊢ iprop((wbP c f -∗ WPD c (k (wblk (F := F) (φ := .bf16) e f)) Q)
      -∗ WPD c (.op (.load wbM (Rect.unit (s := S4x512x1024) off S1x512x1024.size inb).toLoadRect hl) k) Q) :=
  load_rect wbM c (Rect.unit (s := S4x512x1024) off S1x512x1024.size inb) Finset.univ (Finset.subset_univ _) fullShare f (wblk (F := F) (φ := .bf16) e f)
    (show (wbM.access (Rect.unit (s := S4x512x1024) off S1x512x1024.size inb)).read (Elt F) f = wblk (F := F) (φ := .bf16) e f from funext fun j => congrArg f (slot_emb e h j))

/-- The converted matrices with the first `n` experts' in place. -/
def wbUpTo (n : ℕ) (g f : FVec F S4x512x1024 .bf16) : FVec F S4x512x1024 .bf16 := fun i => if (i 0).val < n then g i else f i

/-- A store of the next expert's converted matrix. -/
theorem store_wb {α : Type} {Q : α → sProp 𝕄} (e : Fin 4) {off : Fin 3 → ℕ} (h : off = ![e.val, 0, 0]) {inb} (g f : FVec F S4x512x1024 .bf16) (w : Vec F S1x512x1024 .bf16)
    (hw : w = wblk (F := F) (φ := .bf16) e g) {hx hm}
    {k : PUnit → Prog (TpuEff nD τ sig (Elt F) Λ₀ .tc) α} :
    wbP c (wbUpTo e.val g f) ⊢ iprop((wbP c (wbUpTo (e.val + 1) g f) -∗ WPD c (k ⟨⟩) Q)
      -∗ WPD c (.op (.store wbM (Rect.unit (s := S4x512x1024) off S1x512x1024.size inb) w Finset.univ hx hm) k) Q) := by
  refine store_rect wbM c (Rect.unit (s := S4x512x1024) off S1x512x1024.size inb) Finset.univ (Finset.subset_univ _) (wbUpTo e.val g f)
    (wbUpTo (e.val + 1) g f) w (fun j => ?_) (fun i _ hi => ?_)
  · show w j = wbUpTo (e.val + 1) g f ((Rect.unit (s := S4x512x1024) off S1x512x1024.size inb).emb j)
    rw [hw, slot_emb e h j]
    exact (if_pos (Nat.lt_succ_self e.val)).symm
  · have hi' : ¬ ((i : S4x512x1024.Idx) 0).val = e.val := fun h' => hi
      (by rw [(View.set_slice_whole cc0_scratch1 (Rect.unit (s := S4x512x1024) off S1x512x1024.size inb)).trans (slot_set (K := 4) (R := 512) (C := 1024) (inb := inb) h)]; exact mem_slotOf.2 h')
    show (if (i 0).val < e.val then g i else f i) = if (i 0).val < e.val + 1 then g i else f i
    by_cases h1 : (i 0).val < e.val
    · rw [if_pos h1, if_pos (by omega)]
    · rw [if_neg h1, if_neg (by omega)]

theorem wbUpTo_zero (g f : FVec F S4x512x1024 .bf16) : wbUpTo 0 g f = f := funext fun i => if_neg (Nat.not_lt_zero _)
theorem wbUpTo_four (g f : FVec F S4x512x1024 .bf16) : wbUpTo 4 g f = g := funext fun i => if_pos (i 0).isLt

/-- A load of rows of the working buffer. -/
theorem load_ob {α : Type} {Q : α → sProp 𝕄} (n a : ℕ) {off : Fin 2 → ℕ} (h : off = ![a, 0]) {inb} {hl} (q : PosShare TreeShare) (f : FVec F S2048x1024 .bf16)
    {k : Vec F ⟨2, ![n, 1024]⟩ .bf16 → Prog (TpuEff nD τ sig (Elt F) Λ₀ .tc) α} :
    obP c a n q f ⊢ iprop((obP c a n q f -∗ WPD c (k (bk n a f)) Q)
      -∗ WPD c (.op (.load obM (Rect.unit (s := S2048x1024) off ![n, 1024] inb).toLoadRect hl) k) Q) :=
  load_rect obM c (Rect.unit (s := S2048x1024) off ![n, 1024] inb) _ (subset_of_eq ((View.set_slice_whole cc0_scratch0 (Rect.unit (s := S2048x1024) off ![n, 1024] inb)).trans (rect_set (R := 2048) (C := 1024) (n := n) (inb := inb) h))) q f (bk n a f)
    (show (obM.access (Rect.unit (s := S2048x1024) off ![n, 1024] inb)).read (Elt F) f = bk n a f from funext fun j => congrArg f (rect_emb h (by decide) j))

/-- A store of rows of the working buffer. -/
theorem store_ob {α : Type} {Q : α → sProp 𝕄} (n a : ℕ) {off : Fin 2 → ℕ} (h : off = ![a, 0]) {inb} (f g : FVec F S2048x1024 .bf16) (w : Vec F ⟨2, ![n, 1024]⟩ .bf16)
    (hw : w = bk n a g) {hx hm} {k : PUnit → Prog (TpuEff nD τ sig (Elt F) Λ₀ .tc) α} :
    obP c a n fullShare f ⊢ iprop((obP c a n fullShare g -∗ WPD c (k ⟨⟩) Q)
      -∗ WPD c (.op (.store obM (Rect.unit (s := S2048x1024) off ![n, 1024] inb) w Finset.univ hx hm) k) Q) :=
  store_rect obM c (Rect.unit (s := S2048x1024) off ![n, 1024] inb) (rowsOf 2048 1024 a n) (subset_of_eq ((View.set_slice_whole cc0_scratch0 (Rect.unit (s := S2048x1024) off ![n, 1024] inb)).trans (rect_set (R := 2048) (C := 1024) (n := n) (inb := inb) h))) f g w
    (fun j => show w j = g ((Rect.unit (s := S2048x1024) off ![n, 1024] inb).emb j) by rw [hw, rect_emb h (by decide) j]; rfl)
    (fun i hi hi' => absurd ((subset_of_eq ((View.set_slice_whole cc0_scratch0 (Rect.unit (s := S2048x1024) off ![n, 1024] inb)).trans (rect_set (R := 2048) (C := 1024) (n := n) (inb := inb) h)).symm) hi) hi')

/-- A load of rows of the result's buffer. -/
theorem load_out {α : Type} {Q : α → sProp 𝕄} (n a : ℕ) {off : Fin 2 → ℕ} (h : off = ![a, 0]) {inb} {hl} (f : FVec F S2048x1024 .f32)
    {k : Vec F ⟨2, ![n, 1024]⟩ .f32 → Prog (TpuEff nD τ sig (Elt F) Λ₀ .tc) α} :
    outP c a n f ⊢ iprop((outP c a n f -∗ WPD c (k (bk n a f)) Q)
      -∗ WPD c (.op (.load outM (Rect.unit (s := S2048x1024) off ![n, 1024] inb).toLoadRect hl) k) Q) :=
  load_rect outM c (Rect.unit (s := S2048x1024) off ![n, 1024] inb) _ (subset_of_eq ((View.set_slice_whole cc0_stg3_0 (Rect.unit (s := S2048x1024) off ![n, 1024] inb)).trans (rect_set (R := 2048) (C := 1024) (n := n) (inb := inb) h))) fullShare f (bk n a f)
    (show (outM.access (Rect.unit (s := S2048x1024) off ![n, 1024] inb)).read (Elt F) f = bk n a f from funext fun j => congrArg f (rect_emb h (by decide) j))

/-- A store of rows of the result's buffer. -/
theorem store_out {α : Type} {Q : α → sProp 𝕄} (n a : ℕ) {off : Fin 2 → ℕ} (h : off = ![a, 0]) {inb} (f g : FVec F S2048x1024 .f32) (w : Vec F ⟨2, ![n, 1024]⟩ .f32)
    (hw : w = bk n a g) {hx hm} {k : PUnit → Prog (TpuEff nD τ sig (Elt F) Λ₀ .tc) α} :
    outP c a n f ⊢ iprop((outP c a n g -∗ WPD c (k ⟨⟩) Q)
      -∗ WPD c (.op (.store outM (Rect.unit (s := S2048x1024) off ![n, 1024] inb) w Finset.univ hx hm) k) Q) :=
  store_rect outM c (Rect.unit (s := S2048x1024) off ![n, 1024] inb) (rowsOf 2048 1024 a n) (subset_of_eq ((View.set_slice_whole cc0_stg3_0 (Rect.unit (s := S2048x1024) off ![n, 1024] inb)).trans (rect_set (R := 2048) (C := 1024) (n := n) (inb := inb) h))) f g w
    (fun j => show w j = g ((Rect.unit (s := S2048x1024) off ![n, 1024] inb).emb j) by rw [hw, rect_emb h (by decide) j]; rfl)
    (fun i hi hi' => absurd ((subset_of_eq ((View.set_slice_whole cc0_stg3_0 (Rect.unit (s := S2048x1024) off ![n, 1024] inb)).trans (rect_set (R := 2048) (C := 1024) (n := n) (inb := inb) h)).symm) hi) hi')

/-- A load of the rows the partner sent. -/
theorem load_xs {α : Type} {Q : α → sProp 𝕄} (a : ℕ) {off : Fin 2 → ℕ} (h : off = ![a, 0]) {inb} {hl} (f : FVec F S1024x1024 .bf16)
    {k : Vec F S256x1024 .bf16 → Prog (TpuEff nD τ sig (Elt F) Λ₀ .tc) α} :
    xsP c a 256 f ⊢ iprop((xsP c a 256 f -∗ WPD c (k (bkx a f)) Q)
      -∗ WPD c (.op (.load xsM (Rect.unit (s := S1024x1024) off S256x1024.size inb).toLoadRect hl) k) Q) :=
  load_rect xsM c (Rect.unit (s := S1024x1024) off S256x1024.size inb) _ (subset_of_eq ((View.set_slice_whole cc0_scratch2 (Rect.unit (s := S1024x1024) off S256x1024.size inb)).trans (rect_set (R := 1024) (C := 1024) (n := 256) (inb := inb) h))) fullShare f (bkx a f)
    (show (xsM.access (Rect.unit (s := S1024x1024) off S256x1024.size inb)).read (Elt F) f = bkx a f from funext fun j => congrArg f (rect_emb h (by decide) j))

/-- A load of the strip the ring brought. -/
theorem load_ys {α : Type} {Q : α → sProp 𝕄} (s : Fin 3) {off : Fin 3 → ℕ} (h : off = ![s.val, 0, 0]) {inb} {hl} (f : FVec F S3x256x1024 .bf16)
    {k : Vec F S1x256x1024 .bf16 → Prog (TpuEff nD τ sig (Elt F) Λ₀ .tc) α} :
    ysP c s.val f ⊢ iprop((ysP c s.val f -∗ WPD c (k (bky s f)) Q)
      -∗ WPD c (.op (.load ysM (Rect.unit (s := S3x256x1024) off S1x256x1024.size inb).toLoadRect hl) k) Q) :=
  load_rect ysM c (Rect.unit (s := S3x256x1024) off S1x256x1024.size inb) _ (subset_of_eq ((View.set_slice_whole cc0_scratch3 (Rect.unit (s := S3x256x1024) off S1x256x1024.size inb)).trans (slot_set (K := 3) (R := 256) (C := 1024) (inb := inb) h))) fullShare f (bky s f)
    (show (ysM.access (Rect.unit (s := S3x256x1024) off S1x256x1024.size inb)).read (Elt F) f = bky s f from funext fun j => congrArg f (slot_emb s h j))

/-- A load of the rows another plane sent. -/
theorem load_zs {α : Type} {Q : α → sProp 𝕄} (s : Fin 3) {off : Fin 3 → ℕ} (h : off = ![s.val, 0, 0]) {inb} {hl} (f : FVec F S3x64x1024 .bf16)
    {k : Vec F S1x64x1024 .bf16 → Prog (TpuEff nD τ sig (Elt F) Λ₀ .tc) α} :
    zsP c s.val f ⊢ iprop((zsP c s.val f -∗ WPD c (k (bkz s f)) Q)
      -∗ WPD c (.op (.load zsM (Rect.unit (s := S3x64x1024) off S1x64x1024.size inb).toLoadRect hl) k) Q) :=
  load_rect zsM c (Rect.unit (s := S3x64x1024) off S1x64x1024.size inb) _ (subset_of_eq ((View.set_slice_whole cc0_scratch4 (Rect.unit (s := S3x64x1024) off S1x64x1024.size inb)).trans (slot_set (K := 3) (R := 64) (C := 1024) (inb := inb) h))) fullShare f (bkz s f)
    (show (zsM.access (Rect.unit (s := S3x64x1024) off S1x64x1024.size inb)).read (Elt F) f = bkz s f from funext fun j => congrArg f (slot_emb s h j))

end Steps

end Cert.MoeProof
-- ==== Proof.Sched.lean ====
/-
# The protocol of the semaphores

Each semaphore of a device is used in one round: it is paid by one transfer, or (the entry
barrier and the exit) by one signal from each of six devices, and waited for once. The
semaphores are numbered in the order in which the kernel waits for them, the payments in the
order in which it makes them, so that a device's standing in the protocol is two numbers:
payments made and waits done (`Ledger`). What a payment hands over is `pay`.
-/
module

public import proofs.«01_k».proof.Proof.Pieces

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own rounds within the ghost state. -/
abbrev ER : Emb (URounds (GSem nD τ sig) (Fin 6)) (MT nD τ sig Unit (Elt F) ℕ UU ℕ) := embR

/-- One more member of a separating conjunction. -/
theorem bigSep_ins {J : Type} [DecidableEq J] {i : J} {s : Finset J} (h : i ∉ s) {Φ : J → sProp 𝕄} :
    bigSep (insert i s) Φ = iprop(Φ i ∗ bigSep s Φ) := bigSep_insert h
/-- One member of a separating conjunction. -/
theorem bigSep_at {J : Type} [DecidableEq J] {i : J} {s : Finset J} (h : i ∈ s) {Φ : J → sProp 𝕄} :
    (bigSep s Φ : sProp 𝕄) ⊢ Φ i := bigSep_elim h

/-! ## The semaphores in waiting order -/

/-- The number of a semaphore's own cell among the transfers' semaphores, in waiting order. -/
def dmaIx (k : ℕ) : Fin 44 :=
  match k with
  | 1 => 8 | 2 => 9 | 3 => 15 | 4 => 10 | 5 => 16 | 6 => 11 | 7 => 17
  | 8 => 21 | 9 => 22 | 10 => 23 | 11 => 27 | 12 => 28 | 13 => 29 | 14 => 33 | 15 => 34 | 16 => 35
  | 17 => 40 | 18 => 41 | 19 => 42 | 20 => 43
  | 21 => 4 | 22 => 12 | 23 => 5 | 24 => 13 | 25 => 6 | 26 => 14 | 27 => 7
  | 28 => 18 | 29 => 19 | 30 => 20 | 31 => 24 | 32 => 25 | 33 => 26
  | 34 => 36 | 35 => 30 | 36 => 37 | 37 => 31 | 38 => 38 | 39 => 32 | 40 => 39
  | _ => 0

/-- The semaphore waited for at position `k`. -/
def csem (k : Fin 42) : SemLoc sig :=
  if k.val = 0 then .reg (SemArray.scalar barrier0 : Sems sig S_).sem else if k.val = 41 then .reg cc0_scoped0.sem else .dma (dmaIx k.val)

/-- The position at which a semaphore is waited for. -/
def cellIx (s : SemLoc sig) : Option (Fin 42) := (List.finRange 42).find? fun k => decide (csem k = s)

set_option maxRecDepth 8000 in
theorem cellIx_csem : ∀ k : Fin 42, cellIx (csem k) = some k := by decide +kernel
theorem csem_inj (k k' : Fin 42) (h : csem k = csem k') : k = k' :=
  Option.some.inj ((cellIx_csem k).symm.trans ((congrArg cellIx h).trans (cellIx_csem k')))

/-- Device `ck.1`'s semaphore `ck.2`. -/
abbrev kcell (ck : Dev nD × Fin 42) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_inj _ _ (congrArg Prod.snd h)
  subst h1; subst h2; rfl

/-! ## The payments in the order made -/

/-- Whom payment `e` goes to. -/
def ptgt (c : Dev nD) (e : ℕ) : Dev nD :=
  match e with
  | 0 => pX c | 1 => pY c | 2 => pYb c | 3 => pZ 0 c | 4 => pZ 1 c | 5 => pZ 2 c
  | 6 => pX c | 7 => pY c | 8 => pX c | 9 => pY c | 10 => pX c | 11 => pY c | 12 => pX c
  | 13 => pZ 0 c | 14 => pZ 1 c | 15 => pZ 2 c | 16 => pZ 0 c | 17 => pZ 1 c | 18 => pZ 2 c
  | 19 => pX c | 20 => pY c | 21 => pX c | 22 => pY c | 23 => pX c | 24 => pY c | 25 => pX c
  | 26 => pX c | 27 => pY c | 28 => pYb c | 29 => pZ 0 c | 30 => pZ 1 c | _ => pZ 2 c

/-- Which semaphore payment `e` is made to. -/
def pcell (c : Dev nD) (e : ℕ) : Fin 42 :=
  match e with
  | 0 => 0 | 1 => 0 | 2 => 0 | 3 => 0 | 4 => 0 | 5 => 0
  | 6 => 1 | 7 => 3 | 8 => 2 | 9 => 5 | 10 => 4 | 11 => 7 | 12 => 6
  | 13 => ⟨8 + (zsl c 0).val, by omega⟩ | 14 => ⟨8 + (zsl c 1).val, by omega⟩ | 15 => ⟨8 + (zsl c 2).val, by omega⟩
  | 16 => ⟨11 + (zsl c 0).val, by omega⟩ | 17 => ⟨11 + (zsl c 1).val, by omega⟩ | 18 => ⟨11 + (zsl c 2).val, by omega⟩
  | 19 => 17 | 20 => 14 | 21 => 18 | 22 => 15 | 23 => 19 | 24 => 16 | 25 => 20
  | _ => 41

/-- As which of the round's payers. -/
def pduty (e : ℕ) : Fin 6 :=
  match e with
  | 1 => 1 | 2 => 2 | 3 => 3 | 4 => 4 | 5 => 5
  | 27 => 1 | 28 => 2 | 29 => 3 | 30 => 4 | 31 => 5
  | _ => 0

/-- The semaphore by which the sender of payment `e` learns that its rows have been read. -/
def scell (e : ℕ) : Fin 42 := ⟨(e + 15) % 42, Nat.mod_lt _ (by decide)⟩

/-- What a transfer to a buffer of a shape adds to a semaphore. -/
def credOf (s : Shape) : ℕ := RefSig.tileCredit s .bf16
theorem dmaCredit_eq {s : Shape} (v : View sig .tc .vmem s .bf16) : v.dmaCredit = credOf s := rfl
theorem credOf_pos (s : Shape) (h : 0 < s.numel) : 0 < credOf s := RefSig.tileCredit_pos s .bf16 h

/-- What one payment adds to the semaphore waited for at position `k`. -/
def camt (k : Fin 42) : ℕ :=
  if k.val = 0 ∨ k.val = 41 then 1
  else if (8 ≤ k.val ∧ k.val ≤ 13) ∨ (28 ≤ k.val ∧ k.val ≤ 33) then credOf S64x1024 else credOf S256x1024

theorem camt_pos (k : Fin 42) : 0 < camt k := by
  unfold camt
  split
  · exact Nat.one_pos
  · split
    · exact credOf_pos _ (by decide)
    · exact credOf_pos _ (by decide)

/-- Who pays it: six devices at the barrier and the exit, one transfer otherwise. -/
def cduties (k : Fin 42) : Finset (Fin 6) := if k.val = 0 ∨ k.val = 41 then Finset.univ else {0}

/-- What it is waited for. -/
def ctot (k : Fin 42) : ℕ := if k.val = 0 ∨ k.val = 41 then 6 else camt k

/-! ## What the payments hand over -/

/-- The arrays the devices are given. -/
structure Ins (F : FTy → Type) [FloatOps F] where
  x : Dev nD → Vec F S2048x512 .f32
  r : Dev nD → Vec F S2048x1 .i32
  w : Dev nD → Vec F S4x512x1024 .f32

variable (I : Ins F)

abbrev Ins.P (c : Dev nD) : FVec F S2048x1024 .bf16 := MoeProof.P I.x I.r I.w c
abbrev Ins.Acc (j : ℕ) (c : Dev nD) : FVec F S2048x1024 .bf16 := MoeProof.Acc I.x I.r I.w j c
abbrev Ins.Fn : FVec F S2048x1024 .bf16 := MoeProof.Fn I.x I.r I.w
abbrev Ins.XSt (c : Dev nD) : FVec F S1024x1024 .bf16 := MoeProof.XSt I.x I.r I.w c
abbrev Ins.YSt (c : Dev nD) : FVec F S3x256x1024 .bf16 := MoeProof.YSt I.x I.r I.w c
abbrev Ins.ZSt (c : Dev nD) : FVec F S3x64x1024 .bf16 := MoeProof.ZSt I.x I.r I.w c

/-- Rows of the working buffer, whatever they hold. -/
def someOb (d : Dev nD) (a n : ℕ) : sProp 𝕄 := iprop(∃ f, obP (F := F) d a n fullShare f)
/-- Rows of the buffer for the partner's products, whatever they hold. -/
def someXs (d : Dev nD) (a : ℕ) : sProp 𝕄 := iprop(∃ f, xsP (F := F) d a 256 f)
/-- A slot of the ring's buffer, whatever it holds. -/
def someYs (d : Dev nD) (k : ℕ) : sProp 𝕄 := iprop(∃ f, ysP (F := F) d k f)
/-- A slot of the planes' buffer, whatever it holds. -/
def someZs (d : Dev nD) (k : ℕ) : sProp 𝕄 := iprop(∃ f, zsP (F := F) d k f)

instance (d : Dev nD) (a n : ℕ) : BI.Storable (upEmb : UEmb _ 𝕄) (someOb (F := F) d a n) := by unfold someOb; infer_instance
instance (d : Dev nD) (a : ℕ) : BI.Storable (upEmb : UEmb _ 𝕄) (someXs (F := F) d a) := by unfold someXs; infer_instance
instance (d : Dev nD) (a : ℕ) : BI.Storable (upEmb : UEmb _ 𝕄) (someYs (F := F) d a) := by unfold someYs; infer_instance
instance (d : Dev nD) (a : ℕ) : BI.Storable (upEmb : UEmb _ 𝕄) (someZs (F := F) d a) := by unfold someZs; infer_instance

/-- The parts of a share: the transfers across the planes borrow three parts of the left half,
    the partner's and the ring's transfers a part each of the right half. -/
abbrev qL : PosShare TreeShare := fullShare.left
abbrev qR : PosShare TreeShare := fullShare.right
abbrev qz0 : PosShare TreeShare := qL.left
abbrev qz1 : PosShare TreeShare := qL.right.left
abbrev qz2 : PosShare TreeShare := qL.right.right
abbrev qx : PosShare TreeShare := qR.left
abbrev qy : PosShare TreeShare := qR.right.left
abbrev qk : PosShare TreeShare := qR.right.right

/-- What payer `u` hands device `d` with its payment at position `k`: at the barrier the places
    it will be sent to write at; with a transfer what was written, and on the way out the rows
    that were sent with it. -/
def pay (k u : ℕ) (d : Dev nD) : sProp 𝕄 :=
  match k, u with
  | 0, 0 => iprop(someXs (F := F) (pX d) (xrow d 0) ∗ someXs (F := F) (pX d) (xrow d 1) ∗ someXs (F := F) (pX d) (xrow d 2) ∗ someXs (F := F) (pX d) (xrow d 3))
  | 0, 2 => iprop(someYs (F := F) (pY d) 0 ∗ someYs (F := F) (pY d) 1 ∗ someYs (F := F) (pY d) 2)
  | 0, 3 => someZs (F := F) (pZ 2 d) (zsl d 2).val
  | 0, 4 => someZs (F := F) (pZ 1 d) (zsl d 1).val
  | 0, 5 => someZs (F := F) (pZ 0 d) (zsl d 0).val
  | 1, _ => iprop(xsP d (xrow d 0) 256 (I.XSt d) ∗ someOb (F := F) (pX d) (mrow d 0) 256)
  | 2, _ => iprop(xsP d (xrow d 1) 256 (I.XSt d) ∗ someOb (F := F) (pX d) (mrow d 1) 256)
  | 4, _ => iprop(xsP d (xrow d 2) 256 (I.XSt d) ∗ someOb (F := F) (pX d) (mrow d 2) 256)
  | 6, _ => iprop(xsP d (xrow d 3) 256 (I.XSt d) ∗ someOb (F := F) (pX d) (mrow d 3) 256)
  | 3, _ => iprop(ysP d 0 (I.YSt d) ∗ someOb (F := F) (pYb d) (mrow d 1) 256)
  | 5, _ => iprop(ysP d 1 (I.YSt d) ∗ someOb (F := F) (pYb d) (mrow d 2) 256 ∗ someOb (F := F) (pYb (pYb d)) (mrow d 2) 256)
  | 7, _ => iprop(ysP d 2 (I.YSt d) ∗ someOb (F := F) (pYb d) (mrow d 3) 256 ∗ someOb (F := F) (pYb (pYb d)) (mrow d 3) 256
      ∗ someOb (F := F) (pYb (pYb (pYb d))) (mrow d 3) 256)
  | 8, _ => iprop(zsP d 0 (I.ZSt d) ∗ someOb (F := F) (zpeer 0 d) (srow d (zz d)) 64)
  | 9, _ => iprop(zsP d 1 (I.ZSt d) ∗ someOb (F := F) (zpeer 1 d) (srow d (zz d)) 64)
  | 10, _ => iprop(zsP d 2 (I.ZSt d) ∗ someOb (F := F) (zpeer 2 d) (srow d (zz d)) 64)
  | 11, _ => obP d (srow d (zz (zpeer 0 d))) 64 fullShare I.Fn
  | 12, _ => obP d (srow d (zz (zpeer 1 d))) 64 fullShare I.Fn
  | 13, _ => obP d (srow d (zz (zpeer 2 d))) 64 fullShare I.Fn
  | 14, _ => iprop(obP d (mrow d 0) 256 fullShare I.Fn ∗ someOb (F := F) (pY d) (mrow d 0) 256 ∗ someOb (F := F) (pY (pY d)) (mrow d 0) 256)
  | 15, _ => iprop(obP d (mrow d 1) 256 fullShare I.Fn ∗ someOb (F := F) (pY d) (mrow d 1) 256)
  | 16, _ => obP d (mrow d 2) 256 fullShare I.Fn
  | 17, _ => obP d (trow d 3) 256 fullShare I.Fn
  | 18, _ => obP d (trow d 0) 256 fullShare I.Fn
  | 19, _ => obP d (trow d 1) 256 fullShare I.Fn
  | 20, _ => obP d (trow d 2) 256 fullShare I.Fn
  | 31, _ => obP d (srow d (zz d)) 64 qz0 I.Fn
  | 32, _ => obP d (srow d (zz d)) 64 qz1 I.Fn
  | 33, _ => obP d (srow d (zz d)) 64 qz2 I.Fn
  | 34, _ => obP d (mrow d 3) 256 qx I.Fn
  | 35, _ => obP d (mrow d 3) 256 qy I.Fn
  | 36, _ => obP d (mrow d 0) 256 qx I.Fn
  | 37, _ => obP d (mrow d 0) 256 qy I.Fn
  | 38, _ => obP d (mrow d 1) 256 qx I.Fn
  | 39, _ => obP d (mrow d 1) 256 qy I.Fn
  | 40, _ => obP d (mrow d 2) 256 qx I.Fn
  | _, _ => iprop(emp)

instance pay_storable (k u : ℕ) (d : Dev nD) : BI.Storable (upEmb : UEmb _ 𝕄) (pay I k u d) := by
  unfold pay; split <;> infer_instance

/-- The schedule: one round at each semaphore. -/
def Rd : Rounds.Schedule (GSem nD τ sig) (Fin 6) 𝕄 where
  duties g r := if r = 0 ∧ g.1.2 = .tc then (cellIx g.2).elim ∅ cduties else ∅
  unitless _ := False
  amount g _ _ := (cellIx g.2).elim 1 camt
  payload g _ u := (cellIx g.2).elim iprop(emp) fun k => pay I k.val u.val g.1.1
  amount_pos g _ _ _ := by
    cases cellIx g.2 with
    | none => exact Nat.one_pos
    | some k => exact camt_pos k

instance Rd_storable (g : GSem nD τ sig) (r : ℕ) (u : Fin 6) : BI.Storable (upEmb : UEmb _ 𝕄) ((Rd I).payload g r u) := by
  show BI.Storable upEmb ((cellIx g.2).elim iprop(emp) fun k => pay I k.val u.val g.1.1)
  cases cellIx g.2 <;> dsimp only [Option.elim] <;> infer_instance

theorem Rd_duties (c : Dev nD) (k : Fin 42) : (Rd I).duties (kcell (c, k)) 0 = cduties k := by
  show (if (0 : ℕ) = 0 ∧ (c : Thread nD τ).2 = .tc then (cellIx (csem k)).elim ∅ cduties else ∅) = cduties k
  rw [if_pos ⟨rfl, rfl⟩, cellIx_csem]; rfl
theorem Rd_later (g : GSem nD τ sig) : ∀ r, 1 ≤ r → (Rd I).duties g r = ∅ :=
  fun r hr => if_neg fun h => by omega
theorem Rd_amount (c : Dev nD) (k : Fin 42) (r : ℕ) (u : Fin 6) : (Rd I).amount (kcell (c, k)) r u = camt k := by
  show (cellIx (csem k)).elim 1 camt = camt k
  rw [cellIx_csem]; rfl
theorem Rd_payload (c : Dev nD) (k : Fin 42) (r : ℕ) (u : Fin 6) : (Rd I).payload (kcell (c, k)) r u = pay I k.val u.val c := by
  show (cellIx (csem k)).elim iprop(emp) (fun k => pay I k.val u.val c) = pay I k.val u.val c
  rw [cellIx_csem]; rfl
theorem Rd_expect (c : Dev nD) (k : Fin 42) : (Rd I).expect (kcell (c, k)) 0 = ctot k := by
  unfold Schedule.expect Schedule.amountOf
  rw [Rd_duties, Finset.sum_congr rfl fun u _ => Rd_amount I c k 0 u, Finset.sum_const, smul_eq_mul]
  unfold cduties ctot
  by_cases h : k.val = 0 ∨ k.val = 41
  · rw [if_pos h, if_pos h, camt, if_pos h]; rfl
  · rw [if_neg h, if_neg h, Finset.card_singleton, Nat.one_mul]

/-! ## Levels, and what a device owes -/

def L (g : GSem nD τ sig) : Finset Unit := if g.1.2 = .tc then {()} else ∅
/-- A semaphore's level is its waiting position; the staging transfers come below all. -/
def lv (g : GSem nD τ sig) (_ : Unit) : ℕ := (cellIx g.2).elim 0 fun k => k.val + 1
theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 42) (u : Unit) : lv (kcell (c, k)) u = k.val + 1 := by
  show (cellIx (csem k)).elim 0 (fun k => k.val + 1) = k.val + 1
  rw [cellIx_csem]; rfl

/-- The payments from the `a`th on. -/
def evs (a : ℕ) : Finset (Fin 32) := Finset.univ.filter fun e => a ≤ e.val
/-- What device `c` owes once it has made `a` payments. -/
def Ob (c : Dev nD) (a : ℕ) : CellTallies nD τ sig Unit :=
  ∑ e ∈ evs a, tallyAt (kcell (ptgt c e.val, pcell c e.val)) () (camt (pcell c e.val))

theorem evs_step (e : Fin 32) : evs e.val = insert e (evs (e.val + 1)) := by
  ext y; simp only [evs, Finset.mem_filter, Finset.mem_univ, true_and, Finset.mem_insert, Fin.ext_iff]; omega
theorem evs_not (e : Fin 32) : e ∉ evs (e.val + 1) := by simp [evs]

theorem Ob_step (c : Dev nD) (e : Fin 32) :
    Ob c e.val = Ob c (e.val + 1) + tallyAt (kcell (ptgt c e.val, pcell c e.val)) () (camt (pcell c e.val)) := by
  unfold Ob; rw [evs_step e, Finset.sum_insert (evs_not e), add_comm]
theorem Ob_end (c : Dev nD) : Ob c 32 = 0 := by
  unfold Ob; rw [show evs 32 = ∅ by decide]; rfl

theorem Ob_pos {c : Dev nD} {a : ℕ} {g : GSem nD τ sig} {u : Unit} (h : 0 < Ob c a g u) :
    ∃ e : Fin 32, a ≤ e.val ∧ g = kcell (ptgt c e.val, pcell c e.val) := by
  by_contra hn
  have : Ob c a g u = 0 := by
    unfold Ob
    rw [Finset.sum_apply, Finsupp.finset_sum_apply]
    refine Finset.sum_eq_zero fun e he => ?_
    rw [tallyAt_apply]
    exact if_neg fun h' => hn ⟨e, (Finset.mem_filter.1 he).2, h'.1⟩
  omega

/-- The levels, known throughout. -/
@[irreducible] def Lev : sProp 𝕄 := levAts L lv
instance Lev_persistent : BI.Persistent (Lev (F := F)) := by unfold Lev; infer_instance

/-- A wait is allowed where everything still owed is waited for later. -/
theorem mayWait (c : Dev nD) (s : SemLoc sig) (n a : ℕ) (hs : lv ((c : Thread nD τ), s) () ≤ n)
    (h : ∀ e : Fin 32, a ≤ e.val → n < (pcell c e.val).val + 1) :
    Lev (F := F) ⊢ MayWait (c : Thread nD τ) s () (Ob c a) := by
  unfold Lev
  exact MayOwe.of_cut (L := L) (lev := lv) n (fun p hp => by rw [Finset.mem_singleton.mp hp, L_tc]; exact Finset.mem_singleton_self _)
    (fun g u hg => by obtain ⟨e, he, rfl⟩ := Ob_pos hg; exact Finset.mem_singleton_self _)
    (fun p hp => by rw [Finset.mem_singleton.mp hp]; exact hs)
    (fun g u hg => by obtain ⟨e, he, rfl⟩ := Ob_pos hg; rw [lv_kcell]; exact h e he)

theorem mayWait_k (c : Dev nD) (a : ℕ) (k : Fin 42) (h : ∀ e : Fin 32, a ≤ e.val → k.val + 1 < (pcell c e.val).val + 1) :
    Lev (F := F) ⊢ MayWait (c : Thread nD τ) (csem k) () (Ob c a) :=
  mayWait c (csem k) (k.val + 1) a (le_of_eq (lv_kcell c k ())) h

/-! ## A device's standing -/

variable (K : Dev nD × Fin 42 → ℕ)

/-- What holds throughout: the semaphores' invariants, that each round is open, the levels. -/
def Inv : sProp 𝕄 :=
  iprop(bigSep Finset.univ (fun ck : Dev nD × Fin 42 => cellInv ER (Rd I) (K ck) (kcell ck))
    ∗ bigSep Finset.univ (fun ck : Dev nD × Fin 42 => reached ER (kcell ck) 0) ∗ Lev)

instance Inv_persistent : BI.Persistent (Inv I K) := by unfold Inv; infer_instance

def ksFrom (b : ℕ) : Finset (Fin 42) := Finset.univ.filter fun k => b ≤ k.val
def ksTo (b : ℕ) : Finset (Fin 42) := Finset.univ.filter fun k => k.val < b
def ksCred (a b : ℕ) : Finset (Fin 42) := Finset.univ.filter fun k => b ≤ k.val ∧ (k.val ≤ 20 ∨ k.val = 41 ∨ k.val < a + 15)
def esSend (a : ℕ) : Finset (Fin 42) := Finset.univ.filter fun k => a + 15 ≤ k.val ∧ 21 ≤ k.val ∧ k.val ≤ 40

/-- Device `c`'s standing after `a` payments and `b` waits: what it owes, the right to make the
    other payments, the semaphores still to be waited for and those done, and the credits for
    what was sent its way. -/
def Ledger (c : Dev nD) (a b : ℕ) : sProp 𝕄 :=
  iprop((∃ W, owes (c : Thread nD τ) (Ob c a) W)
    ∗ bigSep (evs a) (fun e => dutyTok ER (kcell (ptgt c e.val, pcell c e.val)) 0 (pduty e.val))
    ∗ bigSep (esSend a) (fun k => dutyTok ER (kcell (c, k)) 0 (0 : Fin 6))
    ∗ bigSep (ksFrom b) (fun k => atPos ER (kcell (c, k)) 0 ∅ 0)
    ∗ bigSep (ksTo b) (fun k => semVal (kcell (c, k)) 0)
    ∗ bigSep (ksCred a b) (fun k => cred (tallyAt (kcell (c, k)) () (ctot k))))

theorem ksFrom_step (k : Fin 42) : ksFrom k.val = insert k (ksFrom (k.val + 1)) := by
  ext y; simp only [ksFrom, Finset.mem_filter, Finset.mem_univ, true_and, Finset.mem_insert, Fin.ext_iff]; omega
theorem ksTo_step (k : Fin 42) : ksTo (k.val + 1) = insert k (ksTo k.val) := by
  ext y; simp only [ksTo, Finset.mem_filter, Finset.mem_univ, true_and, Finset.mem_insert, Fin.ext_iff]; omega
theorem ksCred_wait (a : ℕ) (k : Fin 42) (h : k.val ≤ 20 ∨ k.val = 41 ∨ k.val < a + 15) : ksCred a k.val = insert k (ksCred a (k.val + 1)) := by
  ext y; simp only [ksCred, Finset.mem_filter, Finset.mem_univ, true_and, Finset.mem_insert, Fin.ext_iff]; omega
theorem ksCred_signal (a b : ℕ) (h : a + 1 ≤ 6 ∨ 26 ≤ a) : ksCred (a + 1) b = ksCred a b := by
  ext y; have := y.isLt; simp only [ksCred, Finset.mem_filter, Finset.mem_univ, true_and]; omega
theorem ksCred_send (a b : ℕ) (k : Fin 42) (hk : k.val = a + 15) (h : b ≤ k.val) (h6 : 21 ≤ k.val) : ksCred (a + 1) b = insert k (ksCred a b) := by
  ext y; simp only [ksCred, Finset.mem_filter, Finset.mem_univ, true_and, Finset.mem_insert, Fin.ext_iff]; omega
theorem esSend_signal (a : ℕ) (h : a + 1 ≤ 6 ∨ 26 ≤ a) : esSend (a + 1) = esSend a := by
  ext y; simp only [esSend, Finset.mem_filter, Finset.mem_univ, true_and]; omega
theorem esSend_send (a : ℕ) (k : Fin 42) (hk : k.val = a + 15) (h6 : 21 ≤ k.val) (h40 : k.val ≤ 40) : esSend a = insert k (esSend (a + 1)) := by
  ext y; simp only [esSend, Finset.mem_filter, Finset.mem_univ, true_and, Finset.mem_insert, Fin.ext_iff]; omega

theorem Inv_cell (ck : Dev nD × Fin 42) : Inv I K ⊢ cellInv ER (Rd I) (K ck) (kcell ck) := by
  unfold Inv
  iintro ⟨H, -, -⟩
  iapply (bigSep_at (Finset.mem_univ ck)) $$ H
theorem Inv_reached (ck : Dev nD × Fin 42) : Inv I K ⊢ reached ER (kcell ck) 0 := by
  unfold Inv
  iintro ⟨-, H, -⟩
  iapply (bigSep_at (Finset.mem_univ ck)) $$ H
theorem Inv_lev : Inv I K ⊢ Lev := by
  unfold Inv
  iintro ⟨-, -, H⟩; iexact H

theorem mayWait_inv (c : Dev nD) (a : ℕ) (k : Fin 42) (h : ∀ e : Fin 32, a ≤ e.val → k.val + 1 < (pcell c e.val).val + 1) :
    Inv I K ⊢ MayWait (c : Thread nD τ) (csem k) () (Ob c a) :=
  (Inv_lev I K).trans (mayWait_k c a k h)

/-- A wait: what was paid comes with it. -/
theorem wait_step (c : Dev nD) (a : ℕ) (k : Fin 42) (hcr : k.val ≤ 20 ∨ k.val = 41 ∨ k.val < a + 15)
    (hlev : ∀ e : Fin 32, a ≤ e.val → k.val + 1 < (pcell c e.val).val + 1)
    {w : TpuEff nD τ sig (Elt F) Λ₀ (c : Thread nD τ).2 PUnit}
    (hw : ∀ J : PUnit → sProp 𝕄, wpE (defs₀ (F := F)) Variants.none (c : Thread nD τ) none Set.univ w J = waitSpec (c : Thread nD τ) Set.univ (csem k) (ctot k) J)
    {α : Type} {Q : α → sProp 𝕄} {kk : PUnit → Prog (TpuEff nD τ sig (Elt F) Λ₀ .tc) α} :
    iprop(Inv I K ∗ Ledger (F := F) c a k.val)
      ⊢ iprop(((Ledger (F := F) c a (k.val + 1) ∗ bigSep (cduties k) (fun u => pay I k.val u.val c)) -∗ WPD c (kk ⟨⟩) Q)
        -∗ WPD c (.op w kk) Q) := by
  unfold Ledger
  rw [ksFrom_step, bigSep_ins (by simp [ksFrom]), ksTo_step, bigSep_ins (by simp [ksTo]), ksCred_wait a k hcr, bigSep_ins (by simp [ksCred])]
  iintro ⟨#HI, ⟨%W, HO⟩, HT, HS, ⟨Hat, HP⟩, HZ, Hc, HC⟩ Hk
  ihave #Hcell := (Inv_cell I K (c, k)) $$ HI
  have hm := mayWait_inv I K c a k hlev
  ihave Hm := hm $$ HI
  iapply (Rounds.wp_wait_rest_token Variants.none ER (Rd I) (c : Thread nD τ) none (κ := K (c, k)) hw (Set.mem_univ _) () (O := Ob c a) (W := W)
    (R := 0) (m := 0) (T := ∅) (by rw [Nat.zero_add]; exact (Rd_expect I c k).symm)) $$ [Hc HO Hat Hm]
  · isplitr; · iexact Hcell
    isplitl [Hc]; · iexact Hc
    isplitl [HO]; · iexact HO
    isplitl [Hm]; · iexact Hm
    iexact Hat
  iintro ⟨HO, Hat, -, Hpay⟩
  imod (Rounds.cell_close ER (Rd I) (Set.mem_univ (K (c, k))) (fun h => h) (R := 0 + 1) (Rd_later I (kcell (c, k)))) $$ [Hat] with Hz
  · isplitr; · iexact Hcell
    iexact Hat
  have hpay : bigSep ((Rd I).duties (kcell (c, k)) 0 \ ∅) (fun u => (Rd I).payload (kcell (c, k)) 0 u) = bigSep (cduties k) (fun u => pay I k.val u.val c) := by
    rw [Finset.sdiff_empty, Rd_duties]; exact bigSep_congr fun u _ => Rd_payload I c k 0 u
  ihave Hpay := (Entails.of_eq hpay) $$ Hpay
  iapply Hk
  isplitr [Hpay]
  · isplitl [HO]; · iexists _; iexact HO
    isplitl [HT]; · iexact HT
    isplitl [HS]; · iexact HS
    isplitl [HP]; · iexact HP
    isplitl [HZ Hz]
    · isplitl [Hz] <;> iassumption
    iexact HC
  iexact Hpay

/-- A signal to another device. -/
theorem signal_step (c n : Dev nD) (e : Fin 32) (b : ℕ) (he : e.val + 1 ≤ 6 ∨ 26 ≤ e.val) (hn : n = ptgt c e.val) {sem : Sem sig}
    (hs : csem (pcell c e.val) = .reg sem) (hk : camt (pcell c e.val) = 1) (hd : pduty e.val ∈ cduties (pcell c e.val))
    {α : Type} {Q : α → sProp 𝕄} {kk : PUnit → Prog (TpuEff nD τ sig (Elt F) Λ₀ .tc) α} :
    iprop(Inv I K ∗ Ledger (F := F) c e.val b ∗ pay I (pcell c e.val).val (pduty e.val).val n)
      ⊢ iprop((Ledger (F := F) c (e.val + 1) b -∗ WPD c (kk ⟨⟩) Q)
        -∗ WPD c (.op (.semSignal (n : Thread nD τ) sem 1) kk) Q) := by
  subst hn
  unfold Ledger
  rw [evs_step e, bigSep_ins (evs_not e), esSend_signal _ he, ksCred_signal _ _ he]
  iintro ⟨#HI, ⟨⟨%W, HO⟩, ⟨Ht, HT⟩, HS, HP, HZ, HC⟩, Hpay⟩ Hk
  have hcell : kcell (ptgt c e.val, pcell c e.val) = ((ptgt c e.val : Thread nD τ), .reg sem) := by rw [← hs]
  ihave #Hcell := (Inv_cell I K (ptgt c e.val, pcell c e.val)) $$ HI
  ihave #Hr := (Inv_reached I K (ptgt c e.val, pcell c e.val)) $$ HI
  have hO : Ob c e.val = Ob c (e.val + 1) + tallyAt ((ptgt c e.val : Thread nD τ), .reg sem) () 1 := by
    rw [Ob_step c e, hcell, hk]
  have hP : (Rd I).payload ((ptgt c e.val : Thread nD τ), .reg sem) 0 (pduty e.val) = pay I (pcell c e.val).val (pduty e.val).val (ptgt c e.val) := by
    rw [← hcell]; exact Rd_payload I _ _ _ _
  rw [hcell]
  iapply (Rounds.wp_signal Variants.none ER (Rd I) (c : Thread nD τ) none (dst := (ptgt c e.val : Thread nD τ)) (κ := K (ptgt c e.val, pcell c e.val))
      (r := 0) (d := pduty e.val) (by rw [← hcell, Rd_duties]; exact hd) (by rw [← hcell, Rd_amount]; exact hk) () (Ob c (e.val + 1)) hO) $$ [HO Ht Hpay]
  · isplitr; · iexact Hcell
    isplitl [HO]; · iexact HO
    isplitl [Ht]; · iexact Ht
    isplitl [Hpay]; · rw [hP]; iexact Hpay
    iexact Hr
  iintro HO
  iapply Hk
  isplitl [HO]; · iexists _; iexact HO
  isplitl [HT]; · iexact HT
  isplitl [HS]; · iexact HS
  isplitl [HP]; · iexact HP
  isplitl [HZ]; · iexact HZ
  iexact HC

end Cert.MoeProof
-- ==== Proof.Sends.lean ====
/-
# The transfers

A transfer writes the sender's rows over the receiver's rows or slot. Here each kind of transfer
is a step over pieces: the partner's, the ring's and the planes' on the way in, which hand the
sent rows to the receiver as a place to write at later; and those on the way out, which lend the
sent rows until the sender waits for them.
-/
module

public import proofs.«01_k».proof.Proof.Sched

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 42 → ℕ)

theorem cduties_zero (k : Fin 42) : (0 : Fin 6) ∈ cduties k := by
  unfold cduties; split
  · exact Finset.mem_univ _
  · exact Finset.mem_singleton_self _
theorem pduty_send : ∀ e : Fin 32, 6 ≤ e.val → e.val ≤ 25 → pduty e.val = 0 := by decide
theorem scell_val (e : Fin 32) (h : e.val ≤ 25) : (scell e.val).val = e.val + 15 := by
  show (e.val + 15) % 42 = e.val + 15; omega

/-- The written elements hold `g` where the sent ones are `g`'s there. -/
theorem landed {s : Shape} (vs vd : View sig .tc .vmem s .bf16) (c n : Dev nD) (fs : Buf (Elt F) (vs.loc (c : Thread nD τ)))
    (fd g : Buf (Elt F) (vd.loc (n : Thread nD τ)))
    (h : ∀ x, cast (congrArg (Elt F) vd.elt_eq.symm) (vs.read (Elt F) fs x) = g (vd.emb x)) :
    (vd.loc (n : Thread nD τ) ↦[vd.set]{fullShare} (vd.write (Elt F) fd (vs.read (Elt F) fs) Finset.univ) : sProp 𝕄)
      = (vd.loc (n : Thread nD τ) ↦[vd.set]{fullShare} g) :=
  pointsTo_congr fun i hi => by
    obtain ⟨x, -, rfl⟩ := Finset.mem_map.1 hi
    exact (View.write_emb_of_mem (v := vd) (Val := Elt F) fd (vs.read (Elt F) fs) (Finset.mem_univ x)).trans (h x)

section Core

variable (c n : Dev nD) (e : Fin 32) (b : ℕ)

/-- The sender's standing taken apart for a transfer. -/
theorem ledger_send (h6 : 6 ≤ e.val) (h25 : e.val ≤ 25) :
    Ledger (F := F) c e.val b = iprop((∃ W, owes (c : Thread nD τ) (Ob c e.val) W)
      ∗ (dutyTok ER (kcell (ptgt c e.val, pcell c e.val)) 0 (0 : Fin 6)
        ∗ bigSep (evs (e.val + 1)) (fun e => dutyTok ER (kcell (ptgt c e.val, pcell c e.val)) 0 (pduty e.val)))
      ∗ (dutyTok ER (kcell (c, scell e.val)) 0 (0 : Fin 6) ∗ bigSep (esSend (e.val + 1)) (fun k => dutyTok ER (kcell (c, k)) 0 (0 : Fin 6)))
      ∗ bigSep (ksFrom b) (fun k => atPos ER (kcell (c, k)) 0 ∅ 0)
      ∗ bigSep (ksTo b) (fun k => semVal (kcell (c, k)) 0)
      ∗ bigSep (ksCred e.val b) (fun k => cred (tallyAt (kcell (c, k)) () (ctot k)))) := by
  have hk := scell_val e h25
  unfold Ledger
  rw [evs_step e, bigSep_ins (evs_not e), pduty_send e h6 h25, esSend_send e.val (scell e.val) hk (by omega) (by omega),
    bigSep_ins (by simp only [esSend, Finset.mem_filter, Finset.mem_univ, true_and]; omega)]

/-- And put together after it. -/
theorem ledger_sent (h6 : 6 ≤ e.val) (h25 : e.val ≤ 25) (hb : b ≤ e.val + 15) :
    Ledger (F := F) c (e.val + 1) b = iprop((∃ W, owes (c : Thread nD τ) (Ob c (e.val + 1)) W)
      ∗ bigSep (evs (e.val + 1)) (fun e => dutyTok ER (kcell (ptgt c e.val, pcell c e.val)) 0 (pduty e.val))
      ∗ bigSep (esSend (e.val + 1)) (fun k => dutyTok ER (kcell (c, k)) 0 (0 : Fin 6))
      ∗ bigSep (ksFrom b) (fun k => atPos ER (kcell (c, k)) 0 ∅ 0)
      ∗ bigSep (ksTo b) (fun k => semVal (kcell (c, k)) 0)
      ∗ (cred (tallyAt (kcell (c, scell e.val)) () (camt (scell e.val)))
        ∗ bigSep (ksCred e.val b) (fun k => cred (tallyAt (kcell (c, k)) () (ctot k))))) := by
  have hk := scell_val e h25
  have ht : ctot (scell e.val) = camt (scell e.val) := by unfold ctot; exact if_neg (by omega)
  unfold Ledger
  rw [ksCred_send e.val b (scell e.val) hk (by omega) (by omega),
    bigSep_ins (by simp only [ksCred, Finset.mem_filter, Finset.mem_univ, true_and]; omega), ht]

variable {s : Shape} {src : Memref sig .tc .vmem s .bf16} {dst : Memref sig (Dev.tc n : Thread nD τ).2.kind .vmem s .bf16}
  {hsc : dst.view.ref.isScScratch = false} {sS sem : DmaSem sig} {hsrc : src.view.WordExact} {hdst : dst.view.WordExact}
  {hsem : DmaTarget.Typed .vmem (.dma sem) (.remote (Dev.tc n : Thread nD τ) dst (.dma sS) hsc)}
  {q : PosShare TreeShare} {fs : Buf (Elt F) (src.view.loc (c : Thread nD τ))} {fd : Buf (Elt F) (dst.view.loc (n : Thread nD τ))}
  (g : Buf (Elt F) (dst.view.loc (n : Thread nD τ)))

/-- A transfer whose sender waits for its rows. -/
theorem send_core (h6 : 6 ≤ e.val) (h25 : e.val ≤ 25) (hb : b ≤ e.val + 15) (hn : n = ptgt c e.val)
    (hs : csem (pcell c e.val) = .dma sem) (hS : csem (scell e.val) = .dma sS)
    (h1 : camt (scell e.val) = credOf s) (h2 : camt (pcell c e.val) = credOf s) (X : sProp 𝕄)
    (hg : ∀ x, cast (congrArg (Elt F) dst.view.elt_eq.symm) (src.view.read (Elt F) fs x) = g (dst.view.emb x))
    (hpay₁ : (src.view.loc (c : Thread nD τ) ↦[src.view.set]{q} fs : sProp 𝕄) ⊢ pay I (scell e.val).val 0 c)
    (hpay₂ : iprop((dst.view.loc (n : Thread nD τ) ↦[dst.view.set]{fullShare} g) ∗ X)
      ⊢ pay I (pcell c e.val).val 0 n)
    {α : Type} {Q : α → sProp 𝕄} {kk : PUnit → Prog (TpuEff nD τ sig (Elt F) Λ₀ .tc) α} :
    iprop(Inv I K ∗ Ledger (F := F) c e.val b ∗ (src.view.loc (c : Thread nD τ) ↦[src.view.set]{q} fs)
        ∗ (dst.view.loc (n : Thread nD τ) ↦[dst.view.set]{fullShare} fd) ∗ X)
      ⊢ iprop((Ledger (F := F) c (e.val + 1) b -∗ WPD c (kk ⟨⟩) Q)
        -∗ WPD c (.op (.enqueueDma src (.remote (Dev.tc n : Thread nD τ) dst (.dma sS) hsc) (.dma sem) hsrc hdst hsem) kk) Q) := by
  have hc : kcell (n, pcell c e.val) = ((n : Thread nD τ), .dma sem) := by rw [← hs]
  have hcS : kcell (c, scell e.val) = ((c : Thread nD τ), .dma sS) := by rw [← hS]
  rw [ledger_send c e b h6 h25, ledger_sent c e b h6 h25 hb, ← hn, hc, hcS]
  iintro ⟨#HI, ⟨⟨%W, HO⟩, ⟨Ht, HT⟩, ⟨HtS, HS⟩, HP, HZ, HC⟩, Hsrc, Hdst, HX⟩ Hk
  ihave #Hi1 := (Inv_cell I K (c, scell e.val)) $$ HI
  ihave #Hi2 := (Inv_cell I K (n, pcell c e.val)) $$ HI
  ihave #Hr1 := (Inv_reached I K (c, scell e.val)) $$ HI
  ihave #Hr2 := (Inv_reached I K (n, pcell c e.val)) $$ HI
  rw [hc, hcS]
  iapply (Rounds.wp_send_pointsTo_with Variants.none ER (Rd I) (c : Thread nD τ) none (κ₁ := K (c, scell e.val)) (κ₂ := K (n, pcell c e.val))
    (r₁ := 0) (r₂ := 0) (d₁ := (0 : Fin 6)) (d₂ := (0 : Fin 6)) (fd := fd) (fs := fs) (q := q) (F := X)
    (by rw [← hcS, Rd_duties]; exact cduties_zero _) (by rw [← hc, Rd_duties]; exact cduties_zero _)
    () () (credOf s) rfl (O₀ := Ob c e.val) (by rw [← hcS, Rd_amount]; exact h1) (by rw [← hc, Rd_amount]; exact h2) (Ob c (e.val + 1))
    (by rw [Ob_step c e, ← hn, hc, h2]) (W := W)
    (by rw [← hcS, Rd_payload]; exact hpay₁) (by rw [← hc, Rd_payload, landed src.view dst.view c n fs fd g hg]; exact hpay₂)) $$ [Hsrc Hdst HX HO Ht HtS]
  · isplitr; · iexact Hi1
    isplitr; · iexact Hi2
    isplitl [Hsrc]; · iexact Hsrc
    isplitl [Hdst HX]; · isplitl [Hdst] <;> iassumption
    isplitl [HO]; · iexact HO
    isplitl [HtS]; · iexact HtS
    isplitr; · iexact Hr1
    isplitl [Ht]; · iexact Ht
    iexact Hr2
  iintro ⟨Hc, HO⟩
  iapply Hk
  isplitl [HO]; · iexists _; iexact HO
  isplitl [HT]; · iexact HT
  isplitl [HS]; · iexact HS
  isplitl [HP]; · iexact HP
  isplitl [HZ]; · iexact HZ
  isplitl [Hc]; · rw [h1]; iexact Hc
  iexact HC

/-- A transfer that hands its rows on. -/
theorem send_landing (h6 : 6 ≤ e.val) (h25 : e.val ≤ 25) (hb : b ≤ e.val + 15) (hn : n = ptgt c e.val)
    (hs : csem (pcell c e.val) = .dma sem) (hS : csem (scell e.val) = .dma sS)
    (h1 : camt (scell e.val) = credOf s) (h2 : camt (pcell c e.val) = credOf s) (X : sProp 𝕄)
    (hg : ∀ x, cast (congrArg (Elt F) dst.view.elt_eq.symm) (src.view.read (Elt F) fs x) = g (dst.view.emb x))
    (hpay₁ : pay I (scell e.val).val 0 c = iprop(emp))
    (hpay₂ : iprop(((dst.view.loc (n : Thread nD τ) ↦[dst.view.set]{fullShare} g) ∗ X)
      ∗ (src.view.loc (c : Thread nD τ) ↦[src.view.set]{q} fs)) ⊢ pay I (pcell c e.val).val 0 n)
    {α : Type} {Q : α → sProp 𝕄} {kk : PUnit → Prog (TpuEff nD τ sig (Elt F) Λ₀ .tc) α} :
    iprop(Inv I K ∗ Ledger (F := F) c e.val b ∗ (src.view.loc (c : Thread nD τ) ↦[src.view.set]{q} fs)
        ∗ (dst.view.loc (n : Thread nD τ) ↦[dst.view.set]{fullShare} fd) ∗ X)
      ⊢ iprop((Ledger (F := F) c (e.val + 1) b -∗ WPD c (kk ⟨⟩) Q)
        -∗ WPD c (.op (.enqueueDma src (.remote (Dev.tc n : Thread nD τ) dst (.dma sS) hsc) (.dma sem) hsrc hdst hsem) kk) Q) := by
  have hc : kcell (n, pcell c e.val) = ((n : Thread nD τ), .dma sem) := by rw [← hs]
  have hcS : kcell (c, scell e.val) = ((c : Thread nD τ), .dma sS) := by rw [← hS]
  rw [ledger_send c e b h6 h25, ledger_sent c e b h6 h25 hb, ← hn, hc, hcS]
  iintro ⟨#HI, ⟨⟨%W, HO⟩, ⟨Ht, HT⟩, ⟨HtS, HS⟩, HP, HZ, HC⟩, Hsrc, Hdst, HX⟩ Hk
  ihave #Hi1 := (Inv_cell I K (c, scell e.val)) $$ HI
  ihave #Hi2 := (Inv_cell I K (n, pcell c e.val)) $$ HI
  ihave #Hr1 := (Inv_reached I K (c, scell e.val)) $$ HI
  ihave #Hr2 := (Inv_reached I K (n, pcell c e.val)) $$ HI
  rw [hc, hcS]
  iapply (Rounds.wp_send_landing_pointsTo_with Variants.none ER (Rd I) (c : Thread nD τ) none (κ₁ := K (c, scell e.val)) (κ₂ := K (n, pcell c e.val))
    (r₁ := 0) (r₂ := 0) (d₁ := (0 : Fin 6)) (d₂ := (0 : Fin 6)) (fd := fd) (fs := fs) (q := q) (F := X)
    (by rw [← hcS, Rd_duties]; exact cduties_zero _) (by rw [← hc, Rd_duties]; exact cduties_zero _)
    () () (credOf s) rfl (O₀ := Ob c e.val) (by rw [← hcS, Rd_amount]; exact h1) (by rw [← hc, Rd_amount]; exact h2) (Ob c (e.val + 1))
    (by rw [Ob_step c e, ← hn, hc, h2]) (W := W)
    (by rw [← hcS, Rd_payload]; exact Entails.of_eq hpay₁.symm) (by rw [← hc, Rd_payload, landed src.view dst.view c n fs fd g hg]; exact hpay₂)) $$ [Hsrc Hdst HX HO Ht HtS]
  · isplitr; · iexact Hi1
    isplitr; · iexact Hi2
    isplitl [Hsrc]; · iexact Hsrc
    isplitl [Hdst HX]; · isplitl [Hdst] <;> iassumption
    isplitl [HO]; · iexact HO
    isplitl [HtS]; · iexact HtS
    isplitr; · iexact Hr1
    isplitl [Ht]; · iexact Ht
    iexact Hr2
  iintro ⟨Hc, HO⟩
  iapply Hk
  isplitl [HO]; · iexists _; iexact HO
  isplitl [HT]; · iexact HT
  isplitl [HS]; · iexact HS
  isplitl [HP]; · iexact HP
  isplitl [HZ]; · iexact HZ
  isplitl [Hc]; · rw [h1]; iexact Hc
  iexact HC

end Core

/-! ## What a transfer writes -/

theorem ob_slice (c : Dev nD) (n a : ℕ) (q : PosShare TreeShare) (f : FVec F S2048x1024 .bf16) {off : Fin 2 → ℕ} (h : off = ![a, 0]) {inb} {hu} :
    ((obM.slice (Rect.unit (s := S2048x1024) off ![n, 1024] inb) hu).view.loc (c : Thread nD τ)
      ↦[(obM.slice (Rect.unit (s := S2048x1024) off ![n, 1024] inb) hu).view.set]{q} f : sProp 𝕄) = obP c a n q f :=
  congrArg (fun S => bufP (F := F) cc0_scratch0 c S q f)
    ((View.set_slice_whole cc0_scratch0 (Rect.unit (s := S2048x1024) off ![n, 1024] inb)).trans (rect_set (R := 2048) (C := 1024) (n := n) (inb := inb) h))

theorem xs_slice (c : Dev nD) (a : ℕ) (f : FVec F S1024x1024 .bf16) {off : Fin 2 → ℕ} (h : off = ![a, 0]) {inb} {hu} :
    ((xsM.slice (Rect.unit (s := S1024x1024) off S256x1024.size inb) hu).view.loc (c : Thread nD τ)
      ↦[(xsM.slice (Rect.unit (s := S1024x1024) off S256x1024.size inb) hu).view.set]{fullShare} f : sProp 𝕄) = xsP c a 256 f :=
  congrArg (fun S => bufP (F := F) cc0_scratch2 c S fullShare f)
    ((View.set_slice_whole cc0_scratch2 (Rect.unit (s := S1024x1024) off S256x1024.size inb)).trans (rect_set (R := 1024) (C := 1024) (n := 256) (inb := inb) h))

theorem ys_slot (c : Dev nD) (k : Fin 3) (f : FVec F S3x256x1024 .bf16) {off : Fin 3 → ℕ} (h : off = ![k.val, 0, 0]) {inb} {hu} {hq} :
    ((((ysM.slice (Rect.unit (s := S3x256x1024) off S1x256x1024.size inb) hu).squeeze S256x1024 hq).view.loc (c : Thread nD τ))
      ↦[((ysM.slice (Rect.unit (s := S3x256x1024) off S1x256x1024.size inb) hu).squeeze S256x1024 hq).view.set]{fullShare} f : sProp 𝕄) = ysP c k.val f :=
  congrArg (fun S => bufP (F := F) cc0_scratch3 c S fullShare f)
    (((View.set_reshape _ _).trans (View.set_slice_whole cc0_scratch3 (Rect.unit (s := S3x256x1024) off S1x256x1024.size inb))).trans
      (slot_set (K := 3) (R := 256) (C := 1024) (inb := inb) h))

theorem zs_slot (c : Dev nD) (k : Fin 3) (f : FVec F S3x64x1024 .bf16) {off : Fin 3 → ℕ} (h : off = ![k.val, 0, 0]) {inb} {hu} {hq} :
    ((((zsM.slice (Rect.unit (s := S3x64x1024) off S1x64x1024.size inb) hu).squeeze S64x1024 hq).view.loc (c : Thread nD τ))
      ↦[((zsM.slice (Rect.unit (s := S3x64x1024) off S1x64x1024.size inb) hu).squeeze S64x1024 hq).view.set]{fullShare} f : sProp 𝕄) = zsP c k.val f :=
  congrArg (fun S => bufP (F := F) cc0_scratch4 c S fullShare f)
    (((View.set_reshape _ _).trans (View.set_slice_whole cc0_scratch4 (Rect.unit (s := S3x64x1024) off S1x64x1024.size inb))).trans
      (slot_set (K := 3) (R := 64) (C := 1024) (inb := inb) h))

theorem someOb_of {d : Dev nD} {a n : ℕ} (f : FVec F S2048x1024 .bf16) : obP d a n fullShare f ⊢ someOb (F := F) d a n := by
  unfold someOb; iintro H; iexists f; iexact H

/-! ## The transfers -/

section Kinds

variable (c n : Dev nD) (e : Fin 32) (b : ℕ)

/-- A block of the partner's half to the partner. -/
theorem send_x (j : Fin 4) (hn : n = pX c) (h6 : 6 ≤ e.val) (h25 : e.val ≤ 25) (hb : b ≤ e.val + 15) (ht : pX c = ptgt c e.val)
    {sS sem : DmaSem sig} (hs : csem (pcell c e.val) = .dma sem) (hS : csem (scell e.val) = .dma sS)
    (h1 : camt (scell e.val) = credOf S256x1024) (h2 : camt (pcell c e.val) = credOf S256x1024)
    (hpay₁ : pay I (scell e.val).val 0 c = iprop(emp))
    (hpay₂ : ∀ d, pay I (pcell c e.val).val 0 d = iprop(xsP d (xrow d j.val) 256 (I.XSt d) ∗ someOb (F := F) (pX d) (mrow d j.val) 256))
    {o o' : Fin 2 → ℕ} (ho : o = ![trow c j.val, 0]) (ho' : o' = ![xrow c j.val, 0]) {inb inb' hu hu' hsc hsrc hdst hsem}
    {α : Type} {Q : α → sProp 𝕄} {kk : PUnit → Prog (TpuEff nD τ sig (Elt F) Λ₀ .tc) α} :
    iprop(Inv I K ∗ Ledger (F := F) c e.val b ∗ obP c (trow c j.val) 256 fullShare (I.P c) ∗ someXs (F := F) (pX c) (xrow c j.val))
      ⊢ iprop((Ledger (F := F) c (e.val + 1) b -∗ WPD c (kk ⟨⟩) Q)
        -∗ WPD c (.op (.enqueueDma (obM.slice (Rect.unit (s := S2048x1024) o S256x1024.size inb) hu) (.remote (Dev.tc n : Thread nD τ)
          (xsM.slice (Rect.unit (s := S1024x1024) o' S256x1024.size inb') hu') (.dma sS) hsc) (.dma sem) hsrc hdst hsem) kk) Q) := by
  subst hn
  unfold someXs
  iintro ⟨#HI, HL, Hs, %fd, Hd⟩ Hk
  ihave Hs := (Entails.of_eq (ob_slice (F := F) c 256 (trow c j.val) fullShare (I.P c) (inb := inb) (hu := hu) ho).symm) $$ Hs
  ihave Hd := (Entails.of_eq (xs_slice (F := F) (pX c) (xrow c j.val) fd (inb := inb') (hu := hu') ho').symm) $$ Hd
  iapply (send_landing I K c (pX c) e b (src := obM.slice (Rect.unit (s := S2048x1024) o S256x1024.size inb) hu)
    (dst := xsM.slice (Rect.unit (s := S1024x1024) o' S256x1024.size inb') hu') (q := fullShare) (fs := I.P c) (fd := fd) (I.XSt (pX c))
    h6 h25 hb ht hs hS h1 h2 iprop(emp) ?_ hpay₁ ?_) $$ [HL Hs Hd] Hk
  · intro x
    have hx : (x 0).val < 256 := (x 0).isLt
    have hl := xrow_lt c j.val
    refine (congrArg (I.P c) (rect_emb (R := 2048) (C := 1024) (n := 256) (inb := inb) ho (by decide) x)).trans ?_
    refine Eq.trans ?_ (congrArg (I.XSt (pX c)) (rect_emb (R := 1024) (C := 1024) (n := 256) (inb := inb') ho' (by decide) x)).symm
    show I.P c (oix (trow c j.val + (x 0).val) (x 1)) = I.P (pX (pX c)) (oix (1024 * xc (pX c) + (xrow c j.val + (x 0).val) % 1024) (x 1))
    rw [pX_pX, Nat.mod_eq_of_lt (by omega), ← Nat.add_assoc, ← xrow_pX, ← mrow_pX]; rfl
  · rw [hpay₂, xs_slice (F := F) (pX c) (xrow c j.val) (I.XSt (pX c)) (inb := inb') (hu := hu') ho',
      ob_slice (F := F) c 256 (trow c j.val) fullShare (I.P c) (inb := inb) (hu := hu) ho, xrow_pX, mrow_pX, pX_pX]
    iintro ⟨⟨H, -⟩, H'⟩
    isplitl [H]; · iexact H
    iapply (someOb_of (F := F) (I.P c)) $$ H'
  · isplitr; · iexact HI
    isplitl [HL]; · iexact HL
    isplitl [Hs]; · iexact Hs
    isplitl [Hd]; · iexact Hd
    iempintro

/-- A strip to the next device round the ring, with the places to write at it was given. -/
theorem send_y (j : Fin 3) (hn : n = pY c) (h6 : 6 ≤ e.val) (h25 : e.val ≤ 25) (hb : b ≤ e.val + 15) (ht : pY c = ptgt c e.val)
    {sS sem : DmaSem sig} (hs : csem (pcell c e.val) = .dma sem) (hS : csem (scell e.val) = .dma sS)
    (h1 : camt (scell e.val) = credOf S256x1024) (h2 : camt (pcell c e.val) = credOf S256x1024)
    (hpay₁ : pay I (scell e.val).val 0 c = iprop(emp)) (X : sProp 𝕄)
    (hpay₂ : iprop(ysP (pY c) j.val (I.YSt (pY c)) ∗ someOb (F := F) c (mrow c j.val) 256 ∗ X) ⊢ pay I (pcell c e.val).val 0 (pY c))
    {o : Fin 2 → ℕ} {o' : Fin 3 → ℕ} (ho : o = ![mrow c j.val, 0]) (ho' : o' = ![j.val, 0, 0]) {inb inb' hu hu' hq hsc hsrc hdst hsem}
    {α : Type} {Q : α → sProp 𝕄} {kk : PUnit → Prog (TpuEff nD τ sig (Elt F) Λ₀ .tc) α} :
    iprop(Inv I K ∗ Ledger (F := F) c e.val b ∗ obP c (mrow c j.val) 256 fullShare (I.Acc j.val c) ∗ someYs (F := F) (pY c) j.val ∗ X)
      ⊢ iprop((Ledger (F := F) c (e.val + 1) b -∗ WPD c (kk ⟨⟩) Q)
        -∗ WPD c (.op (.enqueueDma (obM.slice (Rect.unit (s := S2048x1024) o S256x1024.size inb) hu) (.remote (Dev.tc n : Thread nD τ)
          ((ysM.slice (Rect.unit (s := S3x256x1024) o' S1x256x1024.size inb') hu').squeeze S256x1024 hq) (.dma sS) hsc) (.dma sem) hsrc hdst hsem) kk) Q) := by
  subst hn
  unfold someYs
  iintro ⟨#HI, HL, Hs, ⟨%fd, Hd⟩, HX⟩ Hk
  ihave Hs := (Entails.of_eq (ob_slice (F := F) c 256 (mrow c j.val) fullShare (I.Acc j.val c) (inb := inb) (hu := hu) ho).symm) $$ Hs
  ihave Hd := (Entails.of_eq (ys_slot (F := F) (pY c) j fd (inb := inb') (hu := hu') (hq := hq) ho').symm) $$ Hd
  iapply (send_landing I K c (pY c) e b (src := obM.slice (Rect.unit (s := S2048x1024) o S256x1024.size inb) hu)
    (dst := (ysM.slice (Rect.unit (s := S3x256x1024) o' S1x256x1024.size inb') hu').squeeze S256x1024 hq) (q := fullShare)
    (fs := I.Acc j.val c) (fd := fd) (I.YSt (pY c)) h6 h25 hb ht hs hS h1 h2 X ?_ hpay₁ ?_) $$ [HL Hs Hd HX] Hk
  · intro x
    refine (congrArg (I.Acc j.val c) (rect_emb (R := 2048) (C := 1024) (n := 256) (inb := inb) ho (by decide) x)).trans ?_
    have hd := Idealize.ShloMosaic.shapeCast_dropUnit_apply ![256, 1024] (fun i : S1x256x1024.Idx => i) (by decide) x
    refine Eq.trans ?_ (congrArg (I.YSt (pY c)) ((congrArg (Rect.unit (s := S3x256x1024) o' S1x256x1024.size inb').emb hd).trans
      (slot_emb (K := 3) (R := 256) (C := 1024) (inb := inb') j ho' _))).symm
    show I.Acc j.val c (oix (mrow c j.val + (x 0).val) (x 1)) = I.Acc j.val (pYb (pY c)) (oix (mrow (pY c) (j.val + 1) + (x 0).val) (x 1))
    rw [pYb_pY, mrow_pY c ⟨j.val, by omega⟩]
  · rw [ys_slot (F := F) (pY c) j (I.YSt (pY c)) (inb := inb') (hu := hu') (hq := hq) ho',
      ob_slice (F := F) c 256 (mrow c j.val) fullShare (I.Acc j.val c) (inb := inb) (hu := hu) ho]
    iintro ⟨⟨H, HX⟩, H'⟩
    ihave H' := (someOb_of (F := F) (I.Acc j.val c)) $$ H'
    iapply hpay₂
    isplitl [H]; · iexact H
    isplitl [H'] <;> iassumption
  · isplitr; · iexact HI
    isplitl [HL]; · iexact HL
    isplitl [Hs]; · iexact Hs
    isplitl [Hd]; · iexact Hd
    iexact HX

theorem pay_zr (i : Fin 3) (u : ℕ) (d : Dev nD) :
    pay I (8 + i.val) u d = iprop(zsP d i.val (I.ZSt d) ∗ someOb (F := F) (zpeer i d) (srow d (zz d)) 64) := by
  fin_cases i <;> rfl

/-- The rows another plane's device finishes, to that device. -/
theorem send_z (j : Fin 3) (hn : n = pZ j c) (h6 : 6 ≤ e.val) (h25 : e.val ≤ 25) (hb : b ≤ e.val + 15) (ht : pZ j c = ptgt c e.val)
    {sS sem : DmaSem sig} (hs : csem (pcell c e.val) = .dma sem) (hS : csem (scell e.val) = .dma sS)
    (h1 : camt (scell e.val) = credOf S64x1024) (h2 : camt (pcell c e.val) = credOf S64x1024)
    (hpay₁ : pay I (scell e.val).val 0 c = iprop(emp)) (hk : (pcell c e.val).val = 8 + (zsl c j).val)
    {o : Fin 2 → ℕ} {o' : Fin 3 → ℕ} (ho : o = ![srow c (zz (pZ j c)), 0]) (ho' : o' = ![(zsl c j).val, 0, 0]) {inb inb' hu hu' hq hsc hsrc hdst hsem}
    {α : Type} {Q : α → sProp 𝕄} {kk : PUnit → Prog (TpuEff nD τ sig (Elt F) Λ₀ .tc) α} :
    iprop(Inv I K ∗ Ledger (F := F) c e.val b ∗ obP c (srow c (zz (pZ j c))) 64 fullShare (I.Acc 3 c) ∗ someZs (F := F) (pZ j c) (zsl c j).val)
      ⊢ iprop((Ledger (F := F) c (e.val + 1) b -∗ WPD c (kk ⟨⟩) Q)
        -∗ WPD c (.op (.enqueueDma (obM.slice (Rect.unit (s := S2048x1024) o S64x1024.size inb) hu) (.remote (Dev.tc n : Thread nD τ)
          ((zsM.slice (Rect.unit (s := S3x64x1024) o' S1x64x1024.size inb') hu').squeeze S64x1024 hq) (.dma sS) hsc) (.dma sem) hsrc hdst hsem) kk) Q) := by
  subst hn
  unfold someZs
  iintro ⟨#HI, HL, Hs, %fd, Hd⟩ Hk
  ihave Hs := (Entails.of_eq (ob_slice (F := F) c 64 (srow c (zz (pZ j c))) fullShare (I.Acc 3 c) (inb := inb) (hu := hu) ho).symm) $$ Hs
  ihave Hd := (Entails.of_eq (zs_slot (F := F) (pZ j c) (zsl c j) fd (inb := inb') (hu := hu') (hq := hq) ho').symm) $$ Hd
  iapply (send_landing I K c (pZ j c) e b (src := obM.slice (Rect.unit (s := S2048x1024) o S64x1024.size inb) hu)
    (dst := (zsM.slice (Rect.unit (s := S3x64x1024) o' S1x64x1024.size inb') hu').squeeze S64x1024 hq) (q := fullShare)
    (fs := I.Acc 3 c) (fd := fd) (I.ZSt (pZ j c)) h6 h25 hb ht hs hS h1 h2 iprop(emp) ?_ hpay₁ ?_) $$ [HL Hs Hd] Hk
  · intro x
    refine (congrArg (I.Acc 3 c) (rect_emb (R := 2048) (C := 1024) (n := 64) (inb := inb) ho (by decide) x)).trans ?_
    have hd := Idealize.ShloMosaic.shapeCast_dropUnit_apply ![64, 1024] (fun i : S1x64x1024.Idx => i) (by decide) x
    refine Eq.trans ?_ (congrArg (I.ZSt (pZ j c)) ((congrArg (Rect.unit (s := S3x64x1024) o' S1x64x1024.size inb').emb hd).trans
      (slot_emb (K := 3) (R := 64) (C := 1024) (inb := inb') (zsl c j) ho' _))).symm
    show I.Acc 3 c (oix (srow c (zz (pZ j c)) + (x 0).val) (x 1)) = I.Acc 3 (zpeer (zsl c j) (pZ j c)) (oix (srow (pZ j c) (zz (pZ j c)) + (x 0).val) (x 1))
    rw [zpeer_zsl, srow_pZ]
  · rw [hk, pay_zr, zs_slot (F := F) (pZ j c) (zsl c j) (I.ZSt (pZ j c)) (inb := inb') (hu := hu') (hq := hq) ho',
      ob_slice (F := F) c 64 (srow c (zz (pZ j c))) fullShare (I.Acc 3 c) (inb := inb) (hu := hu) ho, zpeer_zsl, srow_pZ]
    iintro ⟨⟨H, -⟩, H'⟩
    isplitl [H]; · iexact H
    iapply (someOb_of (F := F) (I.Acc 3 c)) $$ H'
  · isplitr; · iexact HI
    isplitl [HL]; · iexact HL
    isplitl [Hs]; · iexact Hs
    isplitl [Hd]; · iexact Hd
    iempintro

/-- Finished rows, to the same rows of another device: the sender has its part of them back when
    it waits for the transfer. -/
theorem send_out (m a : ℕ) (q : PosShare TreeShare) (h6 : 6 ≤ e.val) (h25 : e.val ≤ 25) (hb : b ≤ e.val + 15) (ht : n = ptgt c e.val)
    {sS sem : DmaSem sig} (hs : csem (pcell c e.val) = .dma sem) (hS : csem (scell e.val) = .dma sS)
    (h1 : camt (scell e.val) = credOf ⟨2, ![m, 1024]⟩) (h2 : camt (pcell c e.val) = credOf ⟨2, ![m, 1024]⟩)
    (hpay₁ : pay I (scell e.val).val 0 c = obP c a m q I.Fn) (X : sProp 𝕄)
    (hpay₂ : iprop(obP n a m fullShare I.Fn ∗ X) ⊢ pay I (pcell c e.val).val 0 n)
    {o o' : Fin 2 → ℕ} (ho : o = ![a, 0]) (ho' : o' = ![a, 0]) {inb inb' hu hu' hsc hsrc hdst hsem}
    {α : Type} {Q : α → sProp 𝕄} {kk : PUnit → Prog (TpuEff nD τ sig (Elt F) Λ₀ .tc) α} :
    iprop(Inv I K ∗ Ledger (F := F) c e.val b ∗ obP c a m q I.Fn ∗ someOb (F := F) n a m ∗ X)
      ⊢ iprop((Ledger (F := F) c (e.val + 1) b -∗ WPD c (kk ⟨⟩) Q)
        -∗ WPD c (.op (.enqueueDma (obM.slice (Rect.unit (s := S2048x1024) o ![m, 1024] inb) hu) (.remote (Dev.tc n : Thread nD τ)
          (obM.slice (Rect.unit (s := S2048x1024) o' ![m, 1024] inb') hu') (.dma sS) hsc) (.dma sem) hsrc hdst hsem) kk) Q) := by
  unfold someOb
  iintro ⟨#HI, HL, Hs, ⟨%fd, Hd⟩, HX⟩ Hk
  ihave Hs := (Entails.of_eq (ob_slice (F := F) c m a q I.Fn (inb := inb) (hu := hu) ho).symm) $$ Hs
  ihave Hd := (Entails.of_eq (ob_slice (F := F) n m a fullShare fd (inb := inb') (hu := hu') ho').symm) $$ Hd
  iapply (send_core I K c n e b (src := obM.slice (Rect.unit (s := S2048x1024) o ![m, 1024] inb) hu)
    (dst := obM.slice (Rect.unit (s := S2048x1024) o' ![m, 1024] inb') hu') (q := q) (fs := I.Fn) (fd := fd) I.Fn
    h6 h25 hb ht hs hS h1 h2 X ?_ ?_ ?_) $$ [HL Hs Hd HX] Hk
  · intro x
    exact (congrArg I.Fn (rect_emb (R := 2048) (C := 1024) (n := m) (inb := inb) ho (by decide) x)).trans
      (congrArg I.Fn (rect_emb (R := 2048) (C := 1024) (n := m) (inb := inb') ho' (by decide) x)).symm
  · rw [hpay₁, ob_slice (F := F) c m a q I.Fn (inb := inb) (hu := hu) ho]
  · rw [ob_slice (F := F) n m a fullShare I.Fn (inb := inb') (hu := hu') ho']
    exact hpay₂
  · isplitr; · iexact HI
    isplitl [HL]; · iexact HL
    isplitl [Hs]; · iexact Hs
    isplitl [Hd]; · iexact Hd
    iexact HX

end Kinds

end Cert.MoeProof
-- ==== Proof.Rows.lean ====
/-
# Rows cut up and put together

A device's half of the working buffer is its four strips; the strip it finishes is the parts of
the four planes; a share of a piece is the parts of the share.
-/
module

public import proofs.«01_k».proof.Proof.Sends

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Pieces of a buffer -/

section Pieces

variable {b : Ref sig .tc} (c : Dev nD) (q : PosShare TreeShare) (f : b.ty.Contents (Elt F))

theorem two_pieces {U S T : Finset b.ty.shape.Idx} (h : ∀ i, i ∈ U ↔ i ∈ S ∨ i ∈ T) (h' : ∀ i, ¬ (i ∈ S ∧ i ∈ T)) :
    bufP (F := F) b c U q f = iprop(bufP (F := F) b c S q f ∗ bufP (F := F) b c T q f) := by
  have hU : U = S ∪ T := by ext i; rw [Finset.mem_union]; exact h i
  rw [hU]
  have hd : Disjoint S T := Finset.disjoint_left.2 fun i hi hj => h' i ⟨hi, hj⟩
  exact BI.Entails.antisymm (pointsTo_union hd).1 (pointsTo_union hd).2

theorem three_pieces {U S T V : Finset b.ty.shape.Idx} (h : ∀ i, i ∈ U ↔ i ∈ S ∨ i ∈ T ∨ i ∈ V)
    (h' : ∀ i, ¬ (i ∈ S ∧ (i ∈ T ∨ i ∈ V)) ∧ ¬ (i ∈ T ∧ i ∈ V)) :
    bufP (F := F) b c U q f = iprop(bufP (F := F) b c S q f ∗ bufP (F := F) b c T q f ∗ bufP (F := F) b c V q f) := by
  rw [two_pieces c q f (U := U) (S := S) (T := T ∪ V) (fun i => by rw [Finset.mem_union]; exact h i)
      (fun i => by rw [Finset.mem_union]; exact (h' i).1),
    two_pieces c q f (U := T ∪ V) (S := T) (T := V) (fun i => Finset.mem_union) (fun i => (h' i).2)]

theorem four_pieces {U S T V W : Finset b.ty.shape.Idx} (h : ∀ i, i ∈ U ↔ i ∈ S ∨ i ∈ T ∨ i ∈ V ∨ i ∈ W)
    (h' : ∀ i, ¬ (i ∈ S ∧ (i ∈ T ∨ i ∈ V ∨ i ∈ W)) ∧ ¬ (i ∈ T ∧ (i ∈ V ∨ i ∈ W)) ∧ ¬ (i ∈ V ∧ i ∈ W)) :
    bufP (F := F) b c U q f
      = iprop(bufP (F := F) b c S q f ∗ bufP (F := F) b c T q f ∗ bufP (F := F) b c V q f ∗ bufP (F := F) b c W q f) := by
  rw [two_pieces c q f (U := U) (S := S) (T := T ∪ (V ∪ W)) (fun i => by rw [Finset.mem_union, Finset.mem_union]; exact h i)
      (fun i => by rw [Finset.mem_union, Finset.mem_union]; exact (h' i).1),
    three_pieces c q f (U := T ∪ (V ∪ W)) (S := T) (T := V) (V := W) (fun i => by rw [Finset.mem_union, Finset.mem_union]) (fun i => (h' i).2)]

/-- A piece at a share is the piece at the two halves of the share. -/
theorem halves (S : Finset b.ty.shape.Idx) :
    bufP (F := F) b c S q f = iprop(bufP (F := F) b c S q.left f ∗ bufP (F := F) b c S q.right f) :=
  BI.Entails.antisymm (pointsTo_share (PosShare.mem_left_op_right q)).1 (pointsTo_share (PosShare.mem_left_op_right q)).2

end Pieces

/-! ## Rows -/

section Sets

variable {R C : ℕ} (i : (⟨2, ![R, C]⟩ : Shape).Idx)

/-- Four strips from `B` on, counted back from the `y`th, are 1024 rows. -/
theorem strips_cover (B y : ℕ) (hy : y < 4) : i ∈ rowsOf R C B 1024 ↔ i ∈ rowsOf R C (B + 256 * ((y + 8 - 0) % 4)) 256
    ∨ i ∈ rowsOf R C (B + 256 * ((y + 8 - 1) % 4)) 256 ∨ i ∈ rowsOf R C (B + 256 * ((y + 8 - 2) % 4)) 256
    ∨ i ∈ rowsOf R C (B + 256 * ((y + 8 - 3) % 4)) 256 := by
  simp only [mem_rowsOf]
  generalize (i 0).val = r
  rcases (by omega : y = 0 ∨ y = 1 ∨ y = 2 ∨ y = 3) with rfl | rfl | rfl | rfl <;> omega

theorem strips_apart (B y : ℕ) (hy : y < 4) : ¬ (i ∈ rowsOf R C (B + 256 * ((y + 8 - 0) % 4)) 256
      ∧ (i ∈ rowsOf R C (B + 256 * ((y + 8 - 1) % 4)) 256 ∨ i ∈ rowsOf R C (B + 256 * ((y + 8 - 2) % 4)) 256
        ∨ i ∈ rowsOf R C (B + 256 * ((y + 8 - 3) % 4)) 256))
    ∧ ¬ (i ∈ rowsOf R C (B + 256 * ((y + 8 - 1) % 4)) 256
      ∧ (i ∈ rowsOf R C (B + 256 * ((y + 8 - 2) % 4)) 256 ∨ i ∈ rowsOf R C (B + 256 * ((y + 8 - 3) % 4)) 256))
    ∧ ¬ (i ∈ rowsOf R C (B + 256 * ((y + 8 - 2) % 4)) 256 ∧ i ∈ rowsOf R C (B + 256 * ((y + 8 - 3) % 4)) 256) := by
  simp only [mem_rowsOf]
  generalize (i 0).val = r
  rcases (by omega : y = 0 ∨ y = 1 ∨ y = 2 ∨ y = 3) with rfl | rfl | rfl | rfl <;> omega

/-- The parts of four different planes are a strip. -/
theorem parts_cover (B a b d e : ℕ) (ha : a < 4) (hb : b < 4) (hd : d < 4) (he : e < 4) (h : a ≠ b ∧ a ≠ d ∧ a ≠ e ∧ b ≠ d ∧ b ≠ e ∧ d ≠ e) :
    i ∈ rowsOf R C B 256 ↔ i ∈ rowsOf R C (B + 64 * a) 64 ∨ i ∈ rowsOf R C (B + 64 * b) 64 ∨ i ∈ rowsOf R C (B + 64 * d) 64
      ∨ i ∈ rowsOf R C (B + 64 * e) 64 := by
  simp only [mem_rowsOf]
  generalize (i 0).val = r
  omega

theorem parts_apart (B a b d e : ℕ) (h : a ≠ b ∧ a ≠ d ∧ a ≠ e ∧ b ≠ d ∧ b ≠ e ∧ d ≠ e) :
    ¬ (i ∈ rowsOf R C (B + 64 * a) 64 ∧ (i ∈ rowsOf R C (B + 64 * b) 64 ∨ i ∈ rowsOf R C (B + 64 * d) 64 ∨ i ∈ rowsOf R C (B + 64 * e) 64))
    ∧ ¬ (i ∈ rowsOf R C (B + 64 * b) 64 ∧ (i ∈ rowsOf R C (B + 64 * d) 64 ∨ i ∈ rowsOf R C (B + 64 * e) 64))
    ∧ ¬ (i ∈ rowsOf R C (B + 64 * d) 64 ∧ i ∈ rowsOf R C (B + 64 * e) 64) := by
  simp only [mem_rowsOf]
  generalize (i 0).val = r
  omega

/-- All 2048 rows are two halves. -/
theorem halves_cover (j : (⟨2, ![2048, C]⟩ : Shape).Idx) (x : ℕ) (hx : x < 2) :
    j ∈ Finset.univ ↔ j ∈ rowsOf 2048 C (1024 * x) 1024 ∨ j ∈ rowsOf 2048 C (1024 * (1 - x)) 1024 := by
  simp only [mem_rowsOf, Finset.mem_univ, true_iff]
  have hj : (j 0).val < 2048 := (j 0).isLt
  revert hj
  generalize (j 0).val = r
  omega
theorem halves_apart (x : ℕ) (hx : x < 2) : ¬ (i ∈ rowsOf R C (1024 * x) 1024 ∧ i ∈ rowsOf R C (1024 * (1 - x)) 1024) := by
  simp only [mem_rowsOf]; omega

/-- All rows. -/
theorem rows_all (j : (⟨2, ![R, C]⟩ : Shape).Idx) : j ∈ Finset.univ ↔ j ∈ rowsOf R C 0 R := by
  simp only [mem_rowsOf, Finset.mem_univ, true_iff]
  have hj : (j 0).val < R := (j 0).isLt
  omega

theorem slots_cover (j : (⟨3, ![3, R, C]⟩ : Shape).Idx) : j ∈ Finset.univ ↔ j ∈ slotOf 3 R C 0 ∨ j ∈ slotOf 3 R C 1 ∨ j ∈ slotOf 3 R C 2 := by
  simp only [mem_slotOf, Finset.mem_univ, true_iff]
  have hj : (j 0).val < 3 := (j 0).isLt
  omega
theorem slots_apart (j : (⟨3, ![3, R, C]⟩ : Shape).Idx) : ¬ (j ∈ slotOf 3 R C 0 ∧ (j ∈ slotOf 3 R C 1 ∨ j ∈ slotOf 3 R C 2)) ∧ ¬ (j ∈ slotOf 3 R C 1 ∧ j ∈ slotOf 3 R C 2) := by
  simp only [mem_slotOf]; omega

end Sets

/-! ## The strips -/

section Strips

variable (c : Dev nD)

/-- The own half. -/
theorem ob_half (q : PosShare TreeShare) (f : FVec F S2048x1024 .bf16) :
    obP c (1024 * xc c) 1024 q f = iprop(obP c (mrow c 0) 256 q f ∗ obP c (mrow c 1) 256 q f ∗ obP c (mrow c 2) 256 q f ∗ obP c (mrow c 3) 256 q f) :=
  four_pieces (b := cc0_scratch0) c q f (fun i => strips_cover (R := 2048) (C := 1024) i (1024 * xc c) (yy c) (yy_lt c))
    (fun i => strips_apart (R := 2048) (C := 1024) i (1024 * xc c) (yy c) (yy_lt c))

/-- The other half. -/
theorem ob_other (q : PosShare TreeShare) (f : FVec F S2048x1024 .bf16) :
    obP c (1024 * (1 - xc c)) 1024 q f = iprop(obP c (trow c 0) 256 q f ∗ obP c (trow c 1) 256 q f ∗ obP c (trow c 2) 256 q f ∗ obP c (trow c 3) 256 q f) :=
  four_pieces (b := cc0_scratch0) c q f (fun i => strips_cover (R := 2048) (C := 1024) i (1024 * (1 - xc c)) (yy c) (yy_lt c))
    (fun i => strips_apart (R := 2048) (C := 1024) i (1024 * (1 - xc c)) (yy c) (yy_lt c))

/-- The working buffer is the two halves. -/
theorem ob_whole (q : PosShare TreeShare) (f : FVec F S2048x1024 .bf16) :
    bufP (F := F) cc0_scratch0 c Finset.univ q f = iprop(obP c (1024 * xc c) 1024 q f ∗ obP c (1024 * (1 - xc c)) 1024 q f) :=
  two_pieces (b := cc0_scratch0) c q f (fun i => halves_cover (C := 1024) i (xc c) (xc_lt c)) (fun i => halves_apart (R := 2048) (C := 1024) i (xc c) (xc_lt c))

/-- The result's buffer is the own half and the other half's strips. -/
theorem out_whole (f : FVec F S2048x1024 .f32) :
    bufP (F := F) cc0_stg3_0 c Finset.univ fullShare f
      = iprop(outP c (1024 * xc c) 1024 f ∗ outP c (trow c 0) 256 f ∗ outP c (trow c 1) 256 f ∗ outP c (trow c 2) 256 f ∗ outP c (trow c 3) 256 f) := by
  have h : outP c (1024 * (1 - xc c)) 1024 f = iprop(outP c (trow c 0) 256 f ∗ outP c (trow c 1) 256 f ∗ outP c (trow c 2) 256 f ∗ outP c (trow c 3) 256 f) :=
    four_pieces (b := cc0_stg3_0) c fullShare f (fun i => strips_cover (R := 2048) (C := 1024) i (1024 * (1 - xc c)) (yy c) (yy_lt c))
      (fun i => strips_apart (R := 2048) (C := 1024) i (1024 * (1 - xc c)) (yy c) (yy_lt c))
  rw [← h]
  exact two_pieces (b := cc0_stg3_0) c fullShare f (fun i => halves_cover (C := 1024) i (xc c) (xc_lt c)) (fun i => halves_apart (R := 2048) (C := 1024) i (xc c) (xc_lt c))

/-- The buffer for the partner's products is its strips. -/
theorem xs_whole (f : FVec F S1024x1024 .bf16) :
    bufP (F := F) cc0_scratch2 c Finset.univ fullShare f
      = iprop(xsP c (xrow c 0) 256 f ∗ xsP c (xrow c 1) 256 f ∗ xsP c (xrow c 2) 256 f ∗ xsP c (xrow c 3) 256 f) := by
  have hr : ∀ j, 0 + 256 * ((yy c + 8 - j) % 4) = xrow c j := fun j => Nat.zero_add _
  refine four_pieces (b := cc0_scratch2) c fullShare f (fun i => ?_) (fun i => ?_)
  · have h := (rows_all (R := 1024) (C := 1024) i).trans (strips_cover (R := 1024) (C := 1024) i 0 (yy c) (yy_lt c))
    rw [hr, hr, hr, hr] at h
    exact h
  · have h := strips_apart (R := 1024) (C := 1024) i 0 (yy c) (yy_lt c)
    rw [hr, hr, hr, hr] at h
    exact h

/-- The ring's buffer is its slots. -/
theorem ys_whole (f : FVec F S3x256x1024 .bf16) :
    bufP (F := F) cc0_scratch3 c Finset.univ fullShare f = iprop(ysP c 0 f ∗ ysP c 1 f ∗ ysP c 2 f) :=
  three_pieces (b := cc0_scratch3) c fullShare f (fun i => slots_cover (R := 256) (C := 1024) i) (fun i => slots_apart (R := 256) (C := 1024) i)

/-- The planes' buffer is its slots. -/
theorem zs_whole (f : FVec F S3x64x1024 .bf16) :
    bufP (F := F) cc0_scratch4 c Finset.univ fullShare f = iprop(zsP c 0 f ∗ zsP c 1 f ∗ zsP c 2 f) :=
  three_pieces (b := cc0_scratch4) c fullShare f (fun i => slots_cover (R := 64) (C := 1024) i) (fun i => slots_apart (R := 64) (C := 1024) i)

/-- The strip a device finishes is its own plane's part and those of the planes the slots are for. -/
theorem ob_parts (q : PosShare TreeShare) (f : FVec F S2048x1024 .bf16) :
    obP c (mrow c 3) 256 q f = iprop(obP c (srow c (zz c)) 64 q f ∗ obP c (srow c (zz (zpeer 0 c))) 64 q f
      ∗ obP c (srow c (zz (zpeer 1 c))) 64 q f ∗ obP c (srow c (zz (zpeer 2 c))) 64 q f) := by
  have h : ∀ c : Dev nD, zz c ≠ zz (zpeer 0 c) ∧ zz c ≠ zz (zpeer 1 c) ∧ zz c ≠ zz (zpeer 2 c) ∧ zz (zpeer 0 c) ≠ zz (zpeer 1 c)
    ∧ zz (zpeer 0 c) ≠ zz (zpeer 2 c) ∧ zz (zpeer 1 c) ≠ zz (zpeer 2 c) := by decide +kernel
  exact four_pieces (b := cc0_scratch0) c q f
    (fun i => parts_cover (R := 2048) (C := 1024) i (mrow c 3) _ _ _ _ (zz_lt _) (zz_lt _) (zz_lt _) (zz_lt _) (h c))
    (fun i => parts_apart (R := 2048) (C := 1024) i (mrow c 3) _ _ _ _ (h c))

/-- The same by the planes in the order of sending. -/
theorem ob_parts' (q : PosShare TreeShare) (f : FVec F S2048x1024 .bf16) :
    obP c (mrow c 3) 256 q f = iprop(obP c (srow c (zz c)) 64 q f ∗ obP c (srow c (zz (pZ 0 c))) 64 q f
      ∗ obP c (srow c (zz (pZ 1 c))) 64 q f ∗ obP c (srow c (zz (pZ 2 c))) 64 q f) := by
  have h : ∀ c : Dev nD, zz c ≠ zz (pZ 0 c) ∧ zz c ≠ zz (pZ 1 c) ∧ zz c ≠ zz (pZ 2 c) ∧ zz (pZ 0 c) ≠ zz (pZ 1 c)
    ∧ zz (pZ 0 c) ≠ zz (pZ 2 c) ∧ zz (pZ 1 c) ≠ zz (pZ 2 c) := by decide +kernel
  exact four_pieces (b := cc0_scratch0) c q f
    (fun i => parts_cover (R := 2048) (C := 1024) i (mrow c 3) _ _ _ _ (zz_lt _) (zz_lt _) (zz_lt _) (zz_lt _) (h c))
    (fun i => parts_apart (R := 2048) (C := 1024) i (mrow c 3) _ _ _ _ (h c))

/-- The slots of the planes' buffer, named by who writes them. -/
theorem zsi_slots (X : ℕ → sProp 𝕄) : iprop(X 0 ∗ X 1 ∗ X 2) = iprop(X (zsi c 0).val ∗ X (zsi c 1).val ∗ X (zsi c 2).val) := by
  have h : ∀ c : Dev nD, (zsi c 0, zsi c 1, zsi c 2) = (0, 1, 2) ∨ (zsi c 0, zsi c 1, zsi c 2) = (0, 2, 1) ∨ (zsi c 0, zsi c 1, zsi c 2) = (1, 2, 0)
      ∨ (zsi c 0, zsi c 1, zsi c 2) = (1, 0, 2) ∨ (zsi c 0, zsi c 1, zsi c 2) = (2, 0, 1) ∨ (zsi c 0, zsi c 1, zsi c 2) = (2, 1, 0) := by decide +kernel
  have e0 : ((0 : Fin 3)).val = 0 := rfl
  have e1 : ((1 : Fin 3)).val = 1 := rfl
  have e2 : ((2 : Fin 3)).val = 2 := rfl
  have c12 : ∀ A B C : sProp 𝕄, iprop(A ∗ B ∗ C) ⊢ iprop(B ∗ A ∗ C) := fun A B C => by
    iintro ⟨HA, HB, HC⟩
    isplitl [HB]; · iexact HB
    isplitl [HA] <;> iassumption
  have c23 : ∀ A B C : sProp 𝕄, iprop(A ∗ B ∗ C) ⊢ iprop(A ∗ C ∗ B) := fun A B C => by
    iintro ⟨HA, HB, HC⟩
    isplitl [HA]; · iexact HA
    isplitl [HC] <;> iassumption
  have s12 : ∀ A B C : sProp 𝕄, iprop(A ∗ B ∗ C) = iprop(B ∗ A ∗ C) := fun A B C => BI.Entails.antisymm (c12 A B C) (c12 B A C)
  have s23 : ∀ A B C : sProp 𝕄, iprop(A ∗ B ∗ C) = iprop(A ∗ C ∗ B) := fun A B C => BI.Entails.antisymm (c23 A B C) (c23 A C B)
  rcases h c with h | h | h | h | h | h <;> simp only [Prod.mk.injEq] at h <;> rw [h.1, h.2.1, h.2.2, e0, e1, e2]
  · exact s23 _ _ _
  · exact (s12 _ _ _).trans (s23 _ _ _)
  · exact s12 _ _ _
  · exact (s23 _ _ _).trans (s12 _ _ _)
  · exact ((s12 _ _ _).trans (s23 _ _ _)).trans (s12 _ _ _)

end Strips

end Cert.MoeProof
-- ==== Proof.Tools.lean ====
/-
# The kernel's steps

The kernel's parts are run on the same buffers and semaphores; the steps they are made of are
loads of a device's data, waits for one transfer, and the loads and stores of rows.
-/
module

public import proofs.«01_k».proof.Proof.Sends
public import proofs.«01_k».proof.Proof.Rows

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel on the launch's buffers and semaphores. -/
@[reducible] def atBufs {β : Type 1} (f : ∀ (arg0 : Memref sig .tc .vmem S2048x512 .f32) (harg0 : arg0.IsWhole) (arg1 : Memref sig .tc .vmem S2048x1 .i32) (harg1 : arg1.IsWhole) (arg2 : Memref sig .tc .vmem S4x512x1024 .f32) (harg2 : arg2.IsWhole) (arg3 : Memref sig .tc .vmem S2048x1024 .f32) (harg3 : arg3.IsWhole) (arg4 : Memref sig .tc .vmem S2048x1024 .bf16) (harg4 : arg4.IsWhole) (arg5 : Memref sig .tc .vmem S4x512x1024 .bf16) (harg5 : arg5.IsWhole) (arg6 : Memref sig .tc .vmem S1024x1024 .bf16) (harg6 : arg6.IsWhole) (arg7 : Memref sig .tc .vmem S3x256x1024 .bf16) (harg7 : arg7.IsWhole) (arg8 : Memref sig .tc .vmem S3x64x1024 .bf16) (harg8 : arg8.IsWhole) (arg9 : DmaSems sig S4) (arg10 : DmaSems sig S4) (arg11 : DmaSems sig S3) (arg12 : DmaSems sig S3) (arg13 : DmaSems sig S3) (arg14 : DmaSems sig S3) (arg15 : DmaSems sig S3) (arg16 : DmaSems sig S3) (arg17 : DmaSems sig S3) (arg18 : DmaSems sig S3) (arg19 : DmaSems sig S4) (arg20 : DmaSems sig S4) (v1306_r0 : Sems sig S_), β) : β :=
  f xM (Memref.isWhole_whole _) rM (Memref.isWhole_whole _) wM (Memref.isWhole_whole _) outM (Memref.isWhole_whole _)
    obM (Memref.isWhole_whole _) wbM (Memref.isWhole_whole _) xsM (Memref.isWhole_whole _) ysM (Memref.isWhole_whole _)
    zsM (Memref.isWhole_whole _) cc0_scratch5 cc0_scratch6 cc0_scratch7 cc0_scratch8 cc0_scratch9 cc0_scratch10 cc0_scratch11
    cc0_scratch12 cc0_scratch13 cc0_scratch14 cc0_scratch15 cc0_scratch16 cc0_scoped0

variable (I : Ins F) (K : Dev nD × Fin 42 → ℕ)

/-- What a device computes from: its activations, its routing and its experts' converted matrices. -/
def Data (c : Dev nD) : sProp 𝕄 := iprop(xP c (I.x c) ∗ rP (F := F) c (I.r c) ∗ wbP c (WB I.w c))

section Steps

variable (c : Dev nD)

/-- A load of activations. -/
theorem data_x (a : ℕ) {off : Fin 2 → ℕ} (h : off = ![a, 0]) {inb} {hl} {α : Type} {Q : α → sProp 𝕄}
    {k : Vec F S256x512 .f32 → Prog (TpuEff nD τ sig (Elt F) Λ₀ .tc) α} :
    Data I c ⊢ iprop((Data I c -∗ WPD c (k (xblk a (I.x c))) Q)
      -∗ WPD c (.op (.load xM (Rect.unit (s := S2048x512) off S256x512.size inb).toLoadRect hl) k) Q) := by
  unfold Data
  iintro ⟨Hx, Hr, Hw⟩ Hk
  iapply (load_x c a h (I.x c)) $$ Hx
  iintro Hx
  iapply Hk
  isplitl [Hx]; · iexact Hx
  isplitl [Hr] <;> iassumption

/-- A load of routing. -/
theorem data_r (a : ℕ) {off : Fin 2 → ℕ} (h : off = ![a, 0]) {inb} {hl} {α : Type} {Q : α → sProp 𝕄}
    {k : Vec F S256x1 .i32 → Prog (TpuEff nD τ sig (Elt F) Λ₀ .tc) α} :
    Data I c ⊢ iprop((Data I c -∗ WPD c (k (rblk (F := F) a (I.r c))) Q)
      -∗ WPD c (.op (.load rM (Rect.unit (s := S2048x1) off S256x1.size inb).toLoadRect hl) k) Q) := by
  unfold Data
  iintro ⟨Hx, Hr, Hw⟩ Hk
  iapply (load_r c a h (I.r c)) $$ Hr
  iintro Hr
  iapply Hk
  isplitl [Hx]; · iexact Hx
  isplitl [Hr] <;> iassumption

/-- A load of an expert's converted matrix. -/
theorem data_wb (e : Fin 4) {off : Fin 3 → ℕ} (h : off = ![e.val, 0, 0]) {inb} {hl} {α : Type} {Q : α → sProp 𝕄}
    {k : Vec F S1x512x1024 .bf16 → Prog (TpuEff nD τ sig (Elt F) Λ₀ .tc) α} :
    Data I c ⊢ iprop((Data I c -∗ WPD c (k (wblk (F := F) (φ := .bf16) e (WB I.w c))) Q)
      -∗ WPD c (.op (.load wbM (Rect.unit (s := S4x512x1024) off S1x512x1024.size inb).toLoadRect hl) k) Q) := by
  unfold Data
  iintro ⟨Hx, Hr, Hw⟩ Hk
  iapply (load_wb c e h (WB I.w c)) $$ Hw
  iintro Hw
  iapply Hk
  isplitl [Hx]; · iexact Hx
  isplitl [Hr] <;> iassumption

/-- Rows of the working buffer are read, then overwritten. -/
theorem fill_ob (n a : ℕ) {off : Fin 2 → ℕ} (h : off = ![a, 0]) {inb inb' hl} (g : FVec F S2048x1024 .bf16) (w : Vec F ⟨2, ![n, 1024]⟩ .bf16)
    (hw : w = bk n a g) {hx hm} {α : Type} {Q : α → sProp 𝕄} {k : PUnit → Prog (TpuEff nD τ sig (Elt F) Λ₀ .tc) α} :
    someOb (F := F) c a n ⊢ iprop((obP c a n fullShare g -∗ WPD c (k ⟨⟩) Q)
      -∗ WPD c (.op (.load obM (Rect.unit (s := S2048x1024) off ![n, 1024] inb).toLoadRect hl) fun _ =>
        .op (.store obM (Rect.unit (s := S2048x1024) off ![n, 1024] inb') w Finset.univ hx hm) k) Q) := by
  unfold someOb
  iintro ⟨%f, H⟩ Hk
  iapply (load_ob c n a h fullShare f) $$ H
  iintro H
  iapply (store_ob c n a h f g w hw) $$ H Hk

/-- Rows of the working buffer that are known are read, then overwritten. -/
theorem refill_ob (n a : ℕ) {off : Fin 2 → ℕ} (h : off = ![a, 0]) {inb inb' hl} (f g : FVec F S2048x1024 .bf16) (w : Vec F ⟨2, ![n, 1024]⟩ .bf16)
    (hw : w = bk n a g) {hx hm} {α : Type} {Q : α → sProp 𝕄} {k : PUnit → Prog (TpuEff nD τ sig (Elt F) Λ₀ .tc) α} :
    obP c a n fullShare f ⊢ iprop((obP c a n fullShare g -∗ WPD c (k ⟨⟩) Q)
      -∗ WPD c (.op (.load obM (Rect.unit (s := S2048x1024) off ![n, 1024] inb).toLoadRect hl) fun _ =>
        .op (.store obM (Rect.unit (s := S2048x1024) off ![n, 1024] inb') w Finset.univ hx hm) k) Q) := by
  iintro H Hk
  iapply (load_ob c n a h fullShare f) $$ H
  iintro H
  iapply (store_ob c n a h f g w hw) $$ H Hk

/-- Rows of the result are read, then overwritten. -/
theorem fill_out (n a : ℕ) {off : Fin 2 → ℕ} (h : off = ![a, 0]) {inb inb' hl} (f g : FVec F S2048x1024 .f32) (w : Vec F ⟨2, ![n, 1024]⟩ .f32)
    (hw : w = bk n a g) {hx hm} {α : Type} {Q : α → sProp 𝕄} {k : PUnit → Prog (TpuEff nD τ sig (Elt F) Λ₀ .tc) α} :
    outP c a n f ⊢ iprop((outP c a n g -∗ WPD c (k ⟨⟩) Q)
      -∗ WPD c (.op (.load outM (Rect.unit (s := S2048x1024) off ![n, 1024] inb).toLoadRect hl) fun _ =>
        .op (.store outM (Rect.unit (s := S2048x1024) off ![n, 1024] inb') w Finset.univ hx hm) k) Q) := by
  iintro H Hk
  iapply (load_out c n a h f) $$ H
  iintro H
  iapply (store_out c n a h f g w hw) $$ H Hk

/-- An expert's matrix is read, then overwritten by the converted one. -/
theorem fill_wb (e : Fin 4) {n n' : ℕ} (hn : n = e.val) (hn' : n' = e.val + 1) {off : Fin 3 → ℕ} (h : off = ![e.val, 0, 0]) {inb inb' hl}
    (g f : FVec F S4x512x1024 .bf16) (w : Vec F S1x512x1024 .bf16)
    (hw : w = wblk (F := F) (φ := .bf16) e g) {hx hm} {α : Type} {Q : α → sProp 𝕄} {k : PUnit → Prog (TpuEff nD τ sig (Elt F) Λ₀ .tc) α} :
    wbP c (wbUpTo n g f) ⊢ iprop((wbP c (wbUpTo n' g f) -∗ WPD c (k ⟨⟩) Q)
      -∗ WPD c (.op (.load wbM (Rect.unit (s := S4x512x1024) off S1x512x1024.size inb).toLoadRect hl) fun _ =>
        .op (.store wbM (Rect.unit (s := S4x512x1024) off S1x512x1024.size inb') w Finset.univ hx hm) k) Q) := by
  subst hn hn'
  iintro H Hk
  iapply (load_wb c e h (wbUpTo e.val g f)) $$ H
  iintro H
  iapply (store_wb c e h g f w hw) $$ H Hk

/-- The partner's products are added to a strip of the own half. -/
theorem comb_x (j : Fin 4) {a a' : ℕ} (ha : a = mrow c j) (ha' : a' = xrow c j) {o o' : Fin 2 → ℕ} (ho : o = ![a, 0]) (ho' : o' = ![a', 0]) {i₁ i₂ i₃ i₄ l₁ l₂ l₃ hx hm}
    (pw : Vec F S256x1024 .bf16 → Vec F S256x1024 .bf16 → Vec F S256x1024 .bf16) (hp : ∀ v w, pw v w = addf v w)
    {α : Type} {Q : α → sProp 𝕄} {k : PUnit → Prog (TpuEff nD τ sig (Elt F) Λ₀ .tc) α} :
    iprop(obP c a 256 fullShare (I.P c) ∗ xsP c a' 256 (I.XSt c))
      ⊢ iprop((obP c a 256 fullShare (I.Acc 0 c) -∗ xsP c a' 256 (I.XSt c) -∗ WPD c (k ⟨⟩) Q)
      -∗ WPD c (.op (.load obM (Rect.unit (s := S2048x1024) o S256x1024.size i₁).toLoadRect l₁) fun v =>
        .op (.load xsM (Rect.unit (s := S1024x1024) o' S256x1024.size i₂).toLoadRect l₂) fun w =>
        .op (.load obM (Rect.unit (s := S2048x1024) o S256x1024.size i₃).toLoadRect l₃) fun _ =>
        .op (.store obM (Rect.unit (s := S2048x1024) o S256x1024.size i₄) (pw v w) Finset.univ hx hm) k) Q) := by
  subst ha ha'
  iintro ⟨H, Hx⟩ Hk
  iapply (load_ob c 256 (mrow c j) ho fullShare (I.P c)) $$ H
  iintro H
  iapply (load_xs c (xrow c j) ho' (I.XSt c)) $$ Hx
  iintro Hx
  iapply (refill_ob c 256 (mrow c j) ho (I.P c) (I.Acc 0 c) _ ((hp _ _).trans (pay_x I.x I.r I.w c j))) $$ H
  iintro H
  iapply Hk $$ H Hx

/-- A wait for signals. -/
theorem wait_reg (a : ℕ) (k : Fin 42) {b b' : ℕ} (hb : b = k.val) (hb' : b' = k.val + 1) (hcr : k.val ≤ 20 ∨ k.val = 41 ∨ k.val < a + 15)
    (hlev : ∀ c' : Dev nD, ∀ e : Fin 32, a ≤ e.val → k.val + 1 < (pcell c' e.val).val + 1) {sem : Sem sig} (hs : csem k = .reg sem) (hc : ctot k = 6)
    (X : sProp 𝕄) (hX : bigSep (cduties k) (fun u => pay I k.val u.val c) ⊢ X)
    {α : Type} {Q : α → sProp 𝕄} {kk : PUnit → Prog (TpuEff nD τ sig (Elt F) Λ₀ .tc) α} :
    iprop(Inv I K ∗ Ledger (F := F) c a b)
      ⊢ iprop((Ledger (F := F) c a b' -∗ X -∗ WPD c (kk ⟨⟩) Q) -∗ WPD c (.op (.semWait sem 6) kk) Q) := by
  subst hb hb'
  iintro H Hk
  iapply (wait_step I K c a k hcr (hlev c) (w := .semWait sem 6) (fun J => by
    rw [hs, hc]; exact wpE_semWait_eq Variants.none (c : Thread nD τ) none Set.univ J)) $$ H
  iintro ⟨HL, Hp⟩
  ihave Hp := hX $$ Hp
  iapply Hk $$ HL Hp

/-- A converted matrix, as the kernel forms it. -/
theorem pay_w (v : Vec F S1x512x1024 .f32) : k0_pay1 v = truncf .bf16 v bitsLt_bf16_f32 := by
  show shapeCast S1x512x1024 (shapeCast S512x1024 (truncf .bf16 v bitsLt_bf16_f32) shapeCasts_S1x512x1024_S512x1024) shapeCasts_S512x1024_S1x512x1024 = _
  rw [shapeCast_shapeCast]

theorem conv_w (e : Fin 4) : k0_pay1 (wblk (F := F) (φ := .f32) e (I.w c)) = wblk (F := F) (φ := .bf16) e (WB I.w c) := pay_w _

/-- A read of a slot that came from the ring. -/
theorem get_ys (s : Fin 3) {n : ℕ} (hn : n = s.val) {off : Fin 3 → ℕ} (h : off = ![s.val, 0, 0]) {inb} {hl} (f : FVec F S3x256x1024 .bf16)
    {α : Type} {Q : α → sProp 𝕄} {k : Vec F S1x256x1024 .bf16 → Prog (TpuEff nD τ sig (Elt F) Λ₀ .tc) α} :
    ysP c n f ⊢ iprop((ysP c n f -∗ WPD c (k (bky s f)) Q)
      -∗ WPD c (.op (.load ysM (Rect.unit (s := S3x256x1024) off S1x256x1024.size inb).toLoadRect hl) k) Q) := by
  subst hn; exact load_ys c s h f

/-- A read of a slot that came from the other boards. -/
theorem get_zs (s : Fin 3) {n : ℕ} (hn : n = s.val) {off : Fin 3 → ℕ} (h : off = ![s.val, 0, 0]) {inb} {hl} (f : FVec F S3x64x1024 .bf16)
    {α : Type} {Q : α → sProp 𝕄} {k : Vec F S1x64x1024 .bf16 → Prog (TpuEff nD τ sig (Elt F) Λ₀ .tc) α} :
    zsP c n f ⊢ iprop((zsP c n f -∗ WPD c (k (bkz s f)) Q)
      -∗ WPD c (.op (.load zsM (Rect.unit (s := S3x64x1024) off S1x64x1024.size inb).toLoadRect hl) k) Q) := by
  subst hn; exact load_zs c s h f

/-- A wait for a transfer. -/
theorem wait_dma (a : ℕ) (k : Fin 42) {b b' : ℕ} (hb : b = k.val) (hb' : b' = k.val + 1) (hcr : k.val ≤ 20 ∨ k.val = 41 ∨ k.val < a + 15) (hk : cduties k = {0})
    (hlev : ∀ c' : Dev nD, ∀ e : Fin 32, a ≤ e.val → k.val + 1 < (pcell c' e.val).val + 1) {sem : DmaSem sig} (hs : csem k = .dma sem)
    {sp sp' : Space} {s s' : Shape} {e' : EltTy} {src : Memref sig .tc sp' s' e'} {dst : Memref sig .tc sp s .bf16} (hc : ctot k = dst.view.dmaCredit) {h h'}
    {α : Type} {Q : α → sProp 𝕄} {kk : PUnit → Prog (TpuEff nD τ sig (Elt F) Λ₀ .tc) α} :
    iprop(Inv I K ∗ Ledger (F := F) c a b)
      ⊢ iprop((Ledger (F := F) c a b' -∗ pay I b 0 c -∗ WPD c (kk ⟨⟩) Q)
        -∗ WPD c (.op (.waitDma2 sem src dst h h') kk) Q) := by
  subst hb hb'
  iintro H Hk
  iapply (wait_step I K c a k hcr (hlev c) (w := .waitDma2 sem src dst h h') (fun J => by
    rw [hs, hc]; exact wpE_waitDma2_eq Variants.none (c : Thread nD τ) none Set.univ J)) $$ H
  rw [hk, bigSep_singleton, show ((0 : Fin 6)).val = 0 from rfl]
  iintro ⟨HL, Hp⟩
  iapply Hk $$ HL Hp

end Steps

section Events

variable (c : Dev nD)

/-- A strip of the other half, to the partner. -/
theorem x_event (j : Fin 4) {dv : ℕ} {hdv : dv < nD} (hn : dv = (pX c).val) {a a' b : ℕ} (ha : a = 6 + 2 * j.val) (ha' : a' = 7 + 2 * j.val) (hb : b ≤ 20)
    {sS sem : DmaSem sig} (hs : csem (pcell c a) = .dma sem) (hS : csem (scell a) = .dma sS)
    {o o' : Fin 2 → ℕ} (ho : o = ![trow c j, 0]) (ho' : o' = ![xrow c j, 0]) {inb inb' hu hu' hsc hsrc hdst hsem}
    {α : Type} {Q : α → sProp 𝕄} {kk : PUnit → Prog (TpuEff nD τ sig (Elt F) Λ₀ .tc) α} :
    iprop(Inv I K ∗ Ledger (F := F) c a b ∗ obP c (trow c j) 256 fullShare (I.P c) ∗ someXs (F := F) (pX c) (xrow c j))
      ⊢ iprop((Ledger (F := F) c a' b -∗ WPD c (kk ⟨⟩) Q)
        -∗ WPD c (.op (.enqueueDma (obM.slice (Rect.unit (s := S2048x1024) o S256x1024.size inb) hu) (.remote (Dev.tc (⟨dv, hdv⟩ : Dev nD) : Thread nD τ)
          (xsM.slice (Rect.unit (s := S1024x1024) o' S256x1024.size inb') hu') (.dma sS) hsc) (.dma sem) hsrc hdst hsem) kk) Q) := by
  subst ha ha'
  have hn : (⟨dv, hdv⟩ : Dev nD) = pX c := Fin.ext hn
  match j, hs, hS, ho, ho' with
  | 0, hs, hS, ho, ho' => exact send_x I K c (⟨dv, hdv⟩ : Dev nD) 6 b 0 hn (by decide) (by decide) (by show b ≤ 21; omega) rfl hs hS rfl rfl rfl (fun d => rfl) ho ho'
  | 1, hs, hS, ho, ho' => exact send_x I K c (⟨dv, hdv⟩ : Dev nD) 8 b 1 hn (by decide) (by decide) (by show b ≤ 23; omega) rfl hs hS rfl rfl rfl (fun d => rfl) ho ho'
  | 2, hs, hS, ho, ho' => exact send_x I K c (⟨dv, hdv⟩ : Dev nD) 10 b 2 hn (by decide) (by decide) (by show b ≤ 25; omega) rfl hs hS rfl rfl rfl (fun d => rfl) ho ho'
  | 3, hs, hS, ho, ho' => exact send_x I K c (⟨dv, hdv⟩ : Dev nD) 12 b 3 hn (by decide) (by decide) (by show b ≤ 27; omega) rfl hs hS rfl rfl rfl (fun d => rfl) ho ho'

/-- The places at devices of the ring that go on with strip `j` round the ring. -/
def chainY (c : Dev nD) (j : ℕ) : sProp 𝕄 :=
  match j with
  | 0 => iprop(emp)
  | 1 => someOb (F := F) (pYb c) (mrow c 1) 256
  | _ => iprop(someOb (F := F) (pYb c) (mrow c 2) 256 ∗ someOb (F := F) (pYb (pYb c)) (mrow c 2) 256)

/-- A strip's partial sums, to the next device of the ring. -/
theorem y_event (j : Fin 3) {dv : ℕ} {hdv : dv < nD} (hn : dv = (pY c).val) {a a' b : ℕ} (ha : a = 7 + 2 * j.val) (ha' : a' = 8 + 2 * j.val) (hb : b ≤ 20)
    {sS sem : DmaSem sig} (hs : csem (pcell c a) = .dma sem) (hS : csem (scell a) = .dma sS)
    {o : Fin 2 → ℕ} {o' : Fin 3 → ℕ} (ho : o = ![mrow c j, 0]) (ho' : o' = ![j.val, 0, 0]) {inb inb' hu hu' hq hsc hsrc hdst hsem}
    {α : Type} {Q : α → sProp 𝕄} {kk : PUnit → Prog (TpuEff nD τ sig (Elt F) Λ₀ .tc) α} :
    iprop(Inv I K ∗ Ledger (F := F) c a b ∗ obP c (mrow c j) 256 fullShare (I.Acc j c) ∗ someYs (F := F) (pY c) j ∗ chainY (F := F) c j)
      ⊢ iprop((Ledger (F := F) c a' b -∗ WPD c (kk ⟨⟩) Q)
        -∗ WPD c (.op (.enqueueDma (obM.slice (Rect.unit (s := S2048x1024) o S256x1024.size inb) hu) (.remote (Dev.tc (⟨dv, hdv⟩ : Dev nD) : Thread nD τ)
          ((ysM.slice (Rect.unit (s := S3x256x1024) o' S1x256x1024.size inb') hu').squeeze S256x1024 hq) (.dma sS) hsc) (.dma sem) hsrc hdst hsem) kk) Q) := by
  subst ha ha'
  have hn : (⟨dv, hdv⟩ : Dev nD) = pY c := Fin.ext hn
  have m1 : mrow (pY c) 1 = mrow c 0 := mrow_pY c 0
  have m2 : mrow (pY c) 2 = mrow c 1 := mrow_pY c 1
  have m3 : mrow (pY c) 3 = mrow c 2 := mrow_pY c 2
  match j, hs, hS, ho, ho' with
  | 0, hs, hS, ho, ho' =>
    refine send_y I K c (⟨dv, hdv⟩ : Dev nD) 7 b 0 hn (by decide) (by decide) (by show b ≤ 22; omega) rfl hs hS rfl rfl rfl iprop(emp) ?_ ho ho'
    show iprop(ysP (pY c) 0 (I.YSt (pY c)) ∗ someOb (F := F) c (mrow c 0) 256 ∗ emp)
      ⊢ iprop(ysP (pY c) 0 (I.YSt (pY c)) ∗ someOb (F := F) (pYb (pY c)) (mrow (pY c) 1) 256)
    rw [pYb_pY, m1]
    iintro ⟨A, B, -⟩
    isplitl [A] <;> iassumption
  | 1, hs, hS, ho, ho' =>
    refine send_y I K c (⟨dv, hdv⟩ : Dev nD) 9 b 1 hn (by decide) (by decide) (by show b ≤ 24; omega) rfl hs hS rfl rfl rfl (chainY (F := F) c 1) ?_ ho ho'
    show iprop(ysP (pY c) 1 (I.YSt (pY c)) ∗ someOb (F := F) c (mrow c 1) 256 ∗ someOb (F := F) (pYb c) (mrow c 1) 256)
      ⊢ iprop(ysP (pY c) 1 (I.YSt (pY c)) ∗ someOb (F := F) (pYb (pY c)) (mrow (pY c) 2) 256 ∗ someOb (F := F) (pYb (pYb (pY c))) (mrow (pY c) 2) 256)
    rw [pYb_pY, m2]
  | 2, hs, hS, ho, ho' =>
    refine send_y I K c (⟨dv, hdv⟩ : Dev nD) 11 b 2 hn (by decide) (by decide) (by show b ≤ 26; omega) rfl hs hS rfl rfl rfl (chainY (F := F) c 2) ?_ ho ho'
    show iprop(ysP (pY c) 2 (I.YSt (pY c)) ∗ someOb (F := F) c (mrow c 2) 256 ∗ someOb (F := F) (pYb c) (mrow c 2) 256 ∗ someOb (F := F) (pYb (pYb c)) (mrow c 2) 256)
      ⊢ iprop(ysP (pY c) 2 (I.YSt (pY c)) ∗ someOb (F := F) (pYb (pY c)) (mrow (pY c) 3) 256 ∗ someOb (F := F) (pYb (pYb (pY c))) (mrow (pY c) 3) 256
        ∗ someOb (F := F) (pYb (pYb (pYb (pY c)))) (mrow (pY c) 3) 256)
    rw [pYb_pY, m3]

/-- Part of the last strip, to another plane. -/
theorem z_event (j : Fin 3) {dv : ℕ} {hdv : dv < nD} (hn : dv = (pZ j c).val) {a a' b : ℕ} (ha : a = 13 + j.val) (ha' : a' = 14 + j.val) (hb : b ≤ 20)
    {sS sem : DmaSem sig} (hs : csem (pcell c a) = .dma sem) (hS : csem (scell a) = .dma sS)
    {o : Fin 2 → ℕ} {o' : Fin 3 → ℕ} (ho : o = ![srow c (zz (pZ j c)), 0]) (ho' : o' = ![(zsl c j).val, 0, 0]) {inb inb' hu hu' hq hsc hsrc hdst hsem}
    {α : Type} {Q : α → sProp 𝕄} {kk : PUnit → Prog (TpuEff nD τ sig (Elt F) Λ₀ .tc) α} :
    iprop(Inv I K ∗ Ledger (F := F) c a b ∗ obP c (srow c (zz (pZ j c))) 64 fullShare (I.Acc 3 c) ∗ someZs (F := F) (pZ j c) (zsl c j).val)
      ⊢ iprop((Ledger (F := F) c a' b -∗ WPD c (kk ⟨⟩) Q)
        -∗ WPD c (.op (.enqueueDma (obM.slice (Rect.unit (s := S2048x1024) o S64x1024.size inb) hu) (.remote (Dev.tc (⟨dv, hdv⟩ : Dev nD) : Thread nD τ)
          ((zsM.slice (Rect.unit (s := S3x64x1024) o' S1x64x1024.size inb') hu').squeeze S64x1024 hq) (.dma sS) hsc) (.dma sem) hsrc hdst hsem) kk) Q) := by
  subst ha ha'
  have hn : (⟨dv, hdv⟩ : Dev nD) = pZ j c := Fin.ext hn
  have hc : ∀ (i : Fin 3) (h : 8 + i.val < 42), camt ⟨8 + i.val, h⟩ = credOf S64x1024 := by
    intro i h
    have := i.isLt
    unfold camt
    rw [if_neg (by show ¬ (8 + i.val = 0 ∨ 8 + i.val = 41); omega), if_pos (Or.inl ⟨by show 8 ≤ 8 + i.val; omega, by show 8 + i.val ≤ 13; omega⟩)]
  match j, hn, hs, hS, ho, ho' with
  | 0, hn, hs, hS, ho, ho' => exact send_z I K c (⟨dv, hdv⟩ : Dev nD) 13 b 0 hn (by decide) (by decide) (by show b ≤ 28; omega) rfl hs hS rfl (hc (zsl c 0) _) rfl rfl ho ho'
  | 1, hn, hs, hS, ho, ho' => exact send_z I K c (⟨dv, hdv⟩ : Dev nD) 14 b 1 hn (by decide) (by decide) (by show b ≤ 29; omega) rfl hs hS rfl (hc (zsl c 1) _) rfl rfl ho ho'
  | 2, hn, hs, hS, ho, ho' => exact send_z I K c (⟨dv, hdv⟩ : Dev nD) 15 b 2 hn (by decide) (by decide) (by show b ≤ 30; omega) rfl hs hS rfl (hc (zsl c 2) _) rfl rfl ho ho'

/-- The parts of a share that the three other planes' transfers borrow. -/
abbrev qz (j : Fin 3) : PosShare TreeShare := match j with | 0 => qz0 | 1 => qz1 | 2 => qz2

theorem pay_za (i : Fin 3) (d : Dev nD) : pay I (11 + i.val) 0 d = obP d (srow d (zz (zpeer i d))) 64 fullShare I.Fn := by
  match i with
  | 0 => rfl
  | 1 => rfl
  | 2 => rfl

/-- The finished part, to another plane. -/
theorem za_event (j : Fin 3) {dv : ℕ} {hdv : dv < nD} (hn : dv = (pZ j c).val) {a a' b : ℕ} (ha : a = 16 + j.val) (ha' : a' = 17 + j.val) (hb : b ≤ 20)
    {sS sem : DmaSem sig} (hs : csem (pcell c a) = .dma sem) (hS : csem (scell a) = .dma sS)
    {o o' : Fin 2 → ℕ} (ho : o = ![srow c (zz c), 0]) (ho' : o' = ![srow c (zz c), 0]) {inb inb' hu hu' hsc hsrc hdst hsem}
    {α : Type} {Q : α → sProp 𝕄} {kk : PUnit → Prog (TpuEff nD τ sig (Elt F) Λ₀ .tc) α} :
    iprop(Inv I K ∗ Ledger (F := F) c a b ∗ obP c (srow c (zz c)) 64 (qz j) I.Fn ∗ someOb (F := F) (pZ j c) (srow c (zz c)) 64)
      ⊢ iprop((Ledger (F := F) c a' b -∗ WPD c (kk ⟨⟩) Q)
        -∗ WPD c (.op (.enqueueDma (obM.slice (Rect.unit (s := S2048x1024) o S64x1024.size inb) hu) (.remote (Dev.tc (⟨dv, hdv⟩ : Dev nD) : Thread nD τ)
          (obM.slice (Rect.unit (s := S2048x1024) o' S64x1024.size inb') hu') (.dma sS) hsc) (.dma sem) hsrc hdst hsem) kk) Q) := by
  subst ha ha'
  have hc : ∀ (i : Fin 3) (h : 11 + i.val < 42), camt ⟨11 + i.val, h⟩ = credOf S64x1024 := by
    intro i h
    have := i.isLt
    unfold camt
    rw [if_neg (by show ¬ (11 + i.val = 0 ∨ 11 + i.val = 41); omega), if_pos (Or.inl ⟨by show 8 ≤ 11 + i.val; omega, by show 11 + i.val ≤ 13; omega⟩)]
  have hp : iprop(obP (pZ j c) (srow c (zz c)) 64 fullShare I.Fn ∗ emp) ⊢ pay I (11 + (zsl c j).val) 0 (pZ j c) := by
    rw [pay_za, zpeer_zsl, srow_pZ]
    iintro ⟨A, -⟩; iexact A
  have h0 : iprop(Inv I K ∗ Ledger (F := F) c (16 + j.val) b ∗ obP c (srow c (zz c)) 64 (qz j) I.Fn ∗ someOb (F := F) (pZ j c) (srow c (zz c)) 64)
      ⊢ iprop(Inv I K ∗ Ledger (F := F) c (16 + j.val) b ∗ obP c (srow c (zz c)) 64 (qz j) I.Fn ∗ someOb (F := F) (pZ j c) (srow c (zz c)) 64 ∗ emp) := by
    iintro ⟨A, B, C, D⟩
    isplitl [A]; · iexact A
    isplitl [B]; · iexact B
    isplitl [C]; · iexact C
    isplitl [D]; · iexact D
    iempintro
  refine h0.trans ?_
  subst hn
  match j, hs, hS, hp with
  | 0, hs, hS, hp => exact send_out I K c (pZ 0 c) 16 b 64 (srow c (zz c)) qz0 (by decide) (by decide) (by show b ≤ 31; omega) rfl hs hS rfl (hc (zsl c 0) _) rfl iprop(emp) hp ho ho'
  | 1, hs, hS, hp => exact send_out I K c (pZ 1 c) 17 b 64 (srow c (zz c)) qz1 (by decide) (by decide) (by show b ≤ 32; omega) rfl hs hS rfl (hc (zsl c 1) _) rfl iprop(emp) hp ho ho'
  | 2, hs, hS, hp => exact send_out I K c (pZ 2 c) 18 b 64 (srow c (zz c)) qz2 (by decide) (by decide) (by show b ≤ 33; omega) rfl hs hS rfl (hc (zsl c 2) _) rfl iprop(emp) hp ho ho'

/-- The strips in the order in which they are finished. -/
abbrev fin (i : Fin 4) : ℕ := match i with | 0 => 3 | 1 => 0 | 2 => 1 | 3 => 2

/-- A finished strip, to the partner. -/
theorem xa_event (i : Fin 4) {dv : ℕ} {hdv : dv < nD} (hn : dv = (pX c).val) {a a' b : ℕ} (ha : a = 19 + 2 * i.val) (ha' : a' = 20 + 2 * i.val) (hb : b ≤ 20)
    {sS sem : DmaSem sig} (hs : csem (pcell c a) = .dma sem) (hS : csem (scell a) = .dma sS)
    {o o' : Fin 2 → ℕ} (ho : o = ![mrow c (fin i), 0]) (ho' : o' = ![mrow c (fin i), 0]) {inb inb' hu hu' hsc hsrc hdst hsem}
    {α : Type} {Q : α → sProp 𝕄} {kk : PUnit → Prog (TpuEff nD τ sig (Elt F) Λ₀ .tc) α} :
    iprop(Inv I K ∗ Ledger (F := F) c a b ∗ obP c (mrow c (fin i)) 256 qx I.Fn ∗ someOb (F := F) (pX c) (mrow c (fin i)) 256)
      ⊢ iprop((Ledger (F := F) c a' b -∗ WPD c (kk ⟨⟩) Q)
        -∗ WPD c (.op (.enqueueDma (obM.slice (Rect.unit (s := S2048x1024) o S256x1024.size inb) hu) (.remote (Dev.tc (⟨dv, hdv⟩ : Dev nD) : Thread nD τ)
          (obM.slice (Rect.unit (s := S2048x1024) o' S256x1024.size inb') hu') (.dma sS) hsc) (.dma sem) hsrc hdst hsem) kk) Q) := by
  subst ha ha'
  have t3 : trow (pX c) 3 = mrow c 3 := trow_pX c 3
  have t0 : trow (pX c) 0 = mrow c 0 := trow_pX c 0
  have t1 : trow (pX c) 1 = mrow c 1 := trow_pX c 1
  have t2 : trow (pX c) 2 = mrow c 2 := trow_pX c 2
  have h0 : iprop(Inv I K ∗ Ledger (F := F) c (19 + 2 * i.val) b ∗ obP c (mrow c (fin i)) 256 qx I.Fn ∗ someOb (F := F) (pX c) (mrow c (fin i)) 256)
      ⊢ iprop(Inv I K ∗ Ledger (F := F) c (19 + 2 * i.val) b ∗ obP c (mrow c (fin i)) 256 qx I.Fn ∗ someOb (F := F) (pX c) (mrow c (fin i)) 256 ∗ emp) := by
    iintro ⟨A, B, C, D⟩
    isplitl [A]; · iexact A
    isplitl [B]; · iexact B
    isplitl [C]; · iexact C
    isplitl [D]; · iexact D
    iempintro
  refine h0.trans ?_
  have hp : ∀ a : ℕ, iprop(obP (pX c) a 256 fullShare I.Fn ∗ emp) ⊢ obP (pX c) a 256 fullShare I.Fn := fun a => by
    iintro ⟨A, -⟩; iexact A
  subst hn
  match i, hs, hS, ho, ho' with
  | 0, hs, hS, ho, ho' =>
    exact send_out I K c (pX c) 19 b 256 (mrow c 3) qx (by decide) (by decide) (by show b ≤ 34; omega) rfl hs hS rfl rfl rfl iprop(emp)
      (by show _ ⊢ obP (pX c) (trow (pX c) 3) 256 fullShare I.Fn; rw [t3]; exact hp _) ho ho'
  | 1, hs, hS, ho, ho' =>
    exact send_out I K c (pX c) 21 b 256 (mrow c 0) qx (by decide) (by decide) (by show b ≤ 36; omega) rfl hs hS rfl rfl rfl iprop(emp)
      (by show _ ⊢ obP (pX c) (trow (pX c) 0) 256 fullShare I.Fn; rw [t0]; exact hp _) ho ho'
  | 2, hs, hS, ho, ho' =>
    exact send_out I K c (pX c) 23 b 256 (mrow c 1) qx (by decide) (by decide) (by show b ≤ 38; omega) rfl hs hS rfl rfl rfl iprop(emp)
      (by show _ ⊢ obP (pX c) (trow (pX c) 1) 256 fullShare I.Fn; rw [t1]; exact hp _) ho ho'
  | 3, hs, hS, ho, ho' =>
    exact send_out I K c (pX c) 25 b 256 (mrow c 2) qx (by decide) (by decide) (by show b ≤ 40; omega) rfl hs hS rfl rfl rfl iprop(emp)
      (by show _ ⊢ obP (pX c) (trow (pX c) 2) 256 fullShare I.Fn; rw [t2]; exact hp _) ho ho'

/-- The places at devices of the ring that a finished strip goes to, in the order of going on. -/
def outY (c : Dev nD) (h : ℕ) : sProp 𝕄 :=
  match h with
  | 0 => iprop(someOb (F := F) (pY (pY c)) (mrow c 3) 256 ∗ someOb (F := F) (pYb c) (mrow c 3) 256)
  | 1 => someOb (F := F) (pY (pY c)) (mrow c 0) 256
  | _ => iprop(emp)

/-- A finished strip, to the next device of the ring. -/
theorem ya_event (i : Fin 3) {dv : ℕ} {hdv : dv < nD} (hn : dv = (pY c).val) {a a' b : ℕ} (ha : a = 20 + 2 * i.val) (ha' : a' = 21 + 2 * i.val) (hb : b ≤ 20)
    {sS sem : DmaSem sig} (hs : csem (pcell c a) = .dma sem) (hS : csem (scell a) = .dma sS)
    {o o' : Fin 2 → ℕ} (ho : o = ![mrow c (fin (Fin.castSucc i)), 0]) (ho' : o' = ![mrow c (fin (Fin.castSucc i)), 0]) {inb inb' hu hu' hsc hsrc hdst hsem}
    {α : Type} {Q : α → sProp 𝕄} {kk : PUnit → Prog (TpuEff nD τ sig (Elt F) Λ₀ .tc) α} :
    iprop(Inv I K ∗ Ledger (F := F) c a b ∗ obP c (mrow c (fin (Fin.castSucc i))) 256 qy I.Fn ∗ someOb (F := F) (pY c) (mrow c (fin (Fin.castSucc i))) 256 ∗ outY (F := F) c i)
      ⊢ iprop((Ledger (F := F) c a' b -∗ WPD c (kk ⟨⟩) Q)
        -∗ WPD c (.op (.enqueueDma (obM.slice (Rect.unit (s := S2048x1024) o S256x1024.size inb) hu) (.remote (Dev.tc (⟨dv, hdv⟩ : Dev nD) : Thread nD τ)
          (obM.slice (Rect.unit (s := S2048x1024) o' S256x1024.size inb') hu') (.dma sS) hsc) (.dma sem) hsrc hdst hsem) kk) Q) := by
  subst ha ha'
  have m0 : mrow (pY c) 0 = mrow c 3 := (mrow_four (pY c)).symm.trans (mrow_pY c 3)
  have m1 : mrow (pY c) 1 = mrow c 0 := mrow_pY c 0
  have m2 : mrow (pY c) 2 = mrow c 1 := mrow_pY c 1
  have h3 : pY (pY (pY c)) = pYb c := by rw [← pYb2 (pY c), pYb_pY]
  subst hn
  match i, hs, hS, ho, ho' with
  | 0, hs, hS, ho, ho' =>
    refine send_out I K c (pY c) 20 b 256 (mrow c 3) qy (by decide) (by decide) (by show b ≤ 35; omega) rfl hs hS rfl rfl rfl (outY (F := F) c 0) ?_ ho ho'
    show iprop(obP (pY c) (mrow c 3) 256 fullShare I.Fn ∗ someOb (F := F) (pY (pY c)) (mrow c 3) 256 ∗ someOb (F := F) (pYb c) (mrow c 3) 256)
      ⊢ iprop(obP (pY c) (mrow (pY c) 0) 256 fullShare I.Fn ∗ someOb (F := F) (pY (pY c)) (mrow (pY c) 0) 256 ∗ someOb (F := F) (pY (pY (pY c))) (mrow (pY c) 0) 256)
    rw [m0, h3]
  | 1, hs, hS, ho, ho' =>
    refine send_out I K c (pY c) 22 b 256 (mrow c 0) qy (by decide) (by decide) (by show b ≤ 37; omega) rfl hs hS rfl rfl rfl (outY (F := F) c 1) ?_ ho ho'
    show iprop(obP (pY c) (mrow c 0) 256 fullShare I.Fn ∗ someOb (F := F) (pY (pY c)) (mrow c 0) 256)
      ⊢ iprop(obP (pY c) (mrow (pY c) 1) 256 fullShare I.Fn ∗ someOb (F := F) (pY (pY c)) (mrow (pY c) 1) 256)
    rw [m1]
  | 2, hs, hS, ho, ho' =>
    refine send_out I K c (pY c) 24 b 256 (mrow c 1) qy (by decide) (by decide) (by show b ≤ 39; omega) rfl hs hS rfl rfl rfl (outY (F := F) c 2) ?_ ho ho'
    show iprop(obP (pY c) (mrow c 1) 256 fullShare I.Fn ∗ emp) ⊢ obP (pY c) (mrow (pY c) 2) 256 fullShare I.Fn
    rw [m2]
    iintro ⟨A, -⟩; iexact A

/-! What the waits bring. -/

theorem pay_xr (j : Fin 4) {k a a' : ℕ} (hk : k = match j with | 0 => 1 | 1 => 2 | 2 => 4 | 3 => 6) (ha : a = mrow c j) (ha' : a' = xrow c j) :
    pay I k 0 c ⊢ iprop(xsP c a' 256 (I.XSt c) ∗ someOb (F := F) (pX c) a 256) := by
  subst hk ha ha'
  match j with
  | 0 => exact .rfl
  | 1 => exact .rfl
  | 2 => exact .rfl
  | 3 => exact .rfl

theorem pay_yr0 : pay I 3 0 c ⊢ iprop(ysP c 0 (I.YSt c) ∗ chainY (F := F) c 1) := .rfl
theorem pay_yr1 : pay I 5 0 c ⊢ iprop(ysP c 1 (I.YSt c) ∗ chainY (F := F) c 2) := .rfl
theorem pay_yr2 : pay I 7 0 c ⊢ iprop(ysP c 2 (I.YSt c) ∗ someOb (F := F) (pY c) (mrow c 3) 256 ∗ outY (F := F) c 0) := by
  show iprop(ysP c 2 (I.YSt c) ∗ someOb (F := F) (pYb c) (mrow c 3) 256 ∗ someOb (F := F) (pYb (pYb c)) (mrow c 3) 256
      ∗ someOb (F := F) (pYb (pYb (pYb c))) (mrow c 3) 256)
    ⊢ iprop(ysP c 2 (I.YSt c) ∗ someOb (F := F) (pY c) (mrow c 3) 256 ∗ someOb (F := F) (pY (pY c)) (mrow c 3) 256 ∗ someOb (F := F) (pYb c) (mrow c 3) 256)
  rw [pYb3, pYb2]
  iintro ⟨A, B, C, D⟩
  isplitl [A]; · iexact A
  isplitl [D]; · iexact D
  isplitl [C] <;> iassumption

/-- What the barrier brings: the places at other devices that are to be written. -/
theorem pay_barrier : (bigSep (cduties 0) (fun u => pay I 0 u.val c) : sProp 𝕄)
    ⊢ iprop((someXs (F := F) (pX c) (xrow c 0) ∗ someXs (F := F) (pX c) (xrow c 1) ∗ someXs (F := F) (pX c) (xrow c 2) ∗ someXs (F := F) (pX c) (xrow c 3))
      ∗ (someYs (F := F) (pY c) 0 ∗ someYs (F := F) (pY c) 1 ∗ someYs (F := F) (pY c) 2)
      ∗ (someZs (F := F) (pZ 0 c) (zsl c 0).val ∗ someZs (F := F) (pZ 1 c) (zsl c 1).val ∗ someZs (F := F) (pZ 2 c) (zsl c 2).val)) := by
  rw [show cduties 0 = {0, 1, 2, 3, 4, 5} by decide, bigSep_ins (by decide), bigSep_ins (by decide), bigSep_ins (by decide), bigSep_ins (by decide),
    bigSep_ins (by decide), bigSep_singleton]
  show iprop((someXs (F := F) (pX c) (xrow c 0) ∗ someXs (F := F) (pX c) (xrow c 1) ∗ someXs (F := F) (pX c) (xrow c 2) ∗ someXs (F := F) (pX c) (xrow c 3))
      ∗ emp ∗ (someYs (F := F) (pY c) 0 ∗ someYs (F := F) (pY c) 1 ∗ someYs (F := F) (pY c) 2)
      ∗ someZs (F := F) (pZ 2 c) (zsl c 2).val ∗ someZs (F := F) (pZ 1 c) (zsl c 1).val ∗ someZs (F := F) (pZ 0 c) (zsl c 0).val) ⊢ _
  iintro ⟨A, -, B, C, D, E⟩
  isplitl [A]; · iexact A
  isplitl [B]; · iexact B
  isplitl [E]; · iexact E
  isplitl [D] <;> iassumption

/-! What the barrier's signals hand over. -/

theorem give_x : iprop(someXs (F := F) c (xrow c 0) ∗ someXs (F := F) c (xrow c 1) ∗ someXs (F := F) c (xrow c 2) ∗ someXs (F := F) c (xrow c 3))
    ⊢ pay I 0 0 (pX c) := by
  show _ ⊢ iprop(someXs (F := F) (pX (pX c)) (xrow (pX c) 0) ∗ someXs (F := F) (pX (pX c)) (xrow (pX c) 1) ∗ someXs (F := F) (pX (pX c)) (xrow (pX c) 2)
    ∗ someXs (F := F) (pX (pX c)) (xrow (pX c) 3))
  have x0 : xrow (pX c) 0 = xrow c 0 := xrow_pX c 0
  have x1 : xrow (pX c) 1 = xrow c 1 := xrow_pX c 1
  have x2 : xrow (pX c) 2 = xrow c 2 := xrow_pX c 2
  have x3 : xrow (pX c) 3 = xrow c 3 := xrow_pX c 3
  rw [pX_pX, x0, x1, x2, x3]
theorem give_yb : iprop(someYs (F := F) c 0 ∗ someYs (F := F) c 1 ∗ someYs (F := F) c 2) ⊢ pay I 0 2 (pYb c) := by
  show _ ⊢ iprop(someYs (F := F) (pY (pYb c)) 0 ∗ someYs (F := F) (pY (pYb c)) 1 ∗ someYs (F := F) (pY (pYb c)) 2)
  rw [pY_pYb]
theorem give_z (j : Fin 3) : someZs (F := F) c (zsi c j).val ⊢ pay I 0 (3 + j.val) (pZ j c) := by
  match j with
  | 0 =>
    have h : pZ 2 (pZ 0 c) = c := pZ_pZ 0 c
    show _ ⊢ someZs (F := F) (pZ 2 (pZ 0 c)) (zsi c 0).val
    rw [h]
  | 1 =>
    have h : pZ 1 (pZ 1 c) = c := pZ_pZ 1 c
    show _ ⊢ someZs (F := F) (pZ 1 (pZ 1 c)) (zsi c 1).val
    rw [h]
  | 2 =>
    have h : pZ 0 (pZ 2 c) = c := pZ_pZ 2 c
    show _ ⊢ someZs (F := F) (pZ 0 (pZ 2 c)) (zsi c 2).val
    rw [h]

/-- A signal to another device. -/
theorem sig_event (e : Fin 32) (t : Dev nD) (ht : ptgt c e.val = t) {dv : ℕ} {hdv : dv < nD} (hn : dv = t.val) {a a' b : ℕ} (ha : a = e.val) (ha' : a' = e.val + 1) (he : e.val + 1 ≤ 6 ∨ 26 ≤ e.val)
    {sem : Sem sig} (hs : csem (pcell c e.val) = .reg sem) (hk : camt (pcell c e.val) = 1) (hd : pduty e.val ∈ cduties (pcell c e.val))
    (X : sProp 𝕄) (hX : X ⊢ pay I (pcell c e.val).val (pduty e.val).val t)
    {α : Type} {Q : α → sProp 𝕄} {kk : PUnit → Prog (TpuEff nD τ sig (Elt F) Λ₀ .tc) α} :
    iprop(Inv I K ∗ Ledger (F := F) c a b ∗ X)
      ⊢ iprop((Ledger (F := F) c a' b -∗ WPD c (kk ⟨⟩) Q)
        -∗ WPD c (.op (.semSignal ((⟨dv, hdv⟩ : Dev nD) : Thread nD τ) sem 1) kk) Q) := by
  subst ha ha'
  subst ht
  subst hn
  iintro ⟨#HI, HL, HX⟩
  iapply (signal_step I K c (ptgt c e.val) e b he rfl hs hk hd)
  isplitr; · iexact HI
  isplitl [HL]; · iexact HL
  iapply hX $$ HX

end Events

end Cert.MoeProof
-- ==== Proof.Parts1.lean ====
/-
# The kernel's parts: the products of the first two strips

Each part is a step between the states of the pieces it touches; what follows the part is given
what it needs. The words a part hands on that only name a place or a device are left open.
-/
module

public import proofs.«01_k».proof.Proof.Tools

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 42 → ℕ)

/-! The activations, the routing and the experts' matrices that a strip's products are made of. -/

abbrev Ins.xt (c : Dev nD) (a : ℕ) : Vec F S256x512 .f32 := xblk a (I.x c)
abbrev Ins.rt (c : Dev nD) (a : ℕ) : Vec F S256x1 .i32 := rblk (F := F) a (I.r c)
abbrev Ins.we (c : Dev nD) (e : Fin 4) : Vec F S1x512x1024 .bf16 := wblk (F := F) (φ := .bf16) e (WB I.w c)

variable (c : Dev nD) {α : Type}

/-- A strip's products in the working buffer. -/
theorem own_P (a : ℕ) (h : a % 256 = 0) (ha : a + 256 ≤ 2048) :
    comp (wd c) (I.xt c a) (I.rt c a) (I.we c 0) (I.we c 1) (I.we c 2) (I.we c 3) = bk 256 a (I.P c) :=
  (bk_P I.x I.r I.w c a h (by omega)).symm
theorem their_P (j : ℕ) : comp (wd c) (I.xt c (trow c j)) (I.rt c (trow c j)) (I.we c 0) (I.we c 1) (I.we c 2) (I.we c 3) = bk 256 (trow c j) (I.P c) :=
  own_P I c _ (trow_mod c j) (trow_lt c j)
theorem mine_P (j : ℕ) : comp (wd c) (I.xt c (mrow c j)) (I.rt c (mrow c j)) (I.we c 0) (I.we c 1) (I.we c 2) (I.we c 3) = bk 256 (mrow c j) (I.P c) :=
  own_P I c _ (mrow_mod c j) (mrow_lt c j)

theorem part1_wp {Q : α → sProp 𝕄} {kk} :
    iprop(∀ v3 : BitVec 32, ∀ v7 : BitVec 32, ∀ v8 : BitVec 32, ∀ v12 : BitVec 32, ∀ v18 : BitVec 32, ∀ v24 : BitVec 32, ∀ v26 : BitVec 32, ∀ v28 : BitVec 32, ∀ v30 : BitVec 32,
        WPD c (kk ⟨c, wd c, v3, v7, v8, v12, v18, v24, v26, v28, v30, SemArray.scalar (sig.barrier 0 rfl)⟩) Q)
      ⊢ WPD (F := F) (α := α) c (atBufs (k0_part1 (F := F)) >>= kk) Q := by
  rw [k0_part1_eq_skeleton]
  unfold k0_part1_skel
  simp only [Prog.lift, Prog.bind_op, Prog.bind_ret, Prog.pure_eq_ret, wp_deviceId]
  unfold wd
  iintro Hk
  iapply Hk

/-- The barrier: a device gives the others the places they are to write at and is given theirs;
    then the first expert's matrix is converted. -/
theorem part2_wp (v12 v18 v24 v26 v28 v30 : BitVec 32) (f : FVec F S4x512x1024 .bf16) {Q : α → sProp 𝕄} {kk} :
    iprop(Inv I K ∗ Ledger (F := F) c 0 0
      ∗ (someXs (F := F) c (xrow c 0) ∗ someXs (F := F) c (xrow c 1) ∗ someXs (F := F) c (xrow c 2) ∗ someXs (F := F) c (xrow c 3))
      ∗ (someYs (F := F) c 0 ∗ someYs (F := F) c 1 ∗ someYs (F := F) c 2)
      ∗ (someZs (F := F) c (zsi c 0).val ∗ someZs (F := F) c (zsi c 1).val ∗ someZs (F := F) c (zsi c 2).val)
      ∗ wP c (I.w c) ∗ wbP c (wbUpTo 0 (WB I.w c) f)
      ∗ (Ledger (F := F) c 6 1
        -∗ (someXs (F := F) (pX c) (xrow c 0) ∗ someXs (F := F) (pX c) (xrow c 1) ∗ someXs (F := F) (pX c) (xrow c 2) ∗ someXs (F := F) (pX c) (xrow c 3))
        -∗ (someYs (F := F) (pY c) 0 ∗ someYs (F := F) (pY c) 1 ∗ someYs (F := F) (pY c) 2)
        -∗ (someZs (F := F) (pZ 0 c) (zsl c 0).val ∗ someZs (F := F) (pZ 1 c) (zsl c 1).val ∗ someZs (F := F) (pZ 2 c) (zsl c 2).val)
        -∗ wP c (I.w c) -∗ wbP c (wbUpTo 1 (WB I.w c) f)
        -∗ WPD c (kk (k0_pay2 (wblk (F := F) (φ := .f32) 1 (I.w c)))) Q))
      ⊢ WPD (α := α) c (atBufs (k0_part2 (F := F)) c v12 v18 v24 v26 v28 v30 (SemArray.scalar (sig.barrier 0 rfl)) >>= kk) Q := by
  rw [k0_part2_eq_skeleton]
  unfold k0_part2_skel
  simp only [semSignalWord, semWaitWord, Prog.lift, Prog.bind_op, Prog.bind_ret, Prog.pure_eq_ret]
  iintro ⟨#HI, HL, Hx, Hy, ⟨Hz0, Hz1, Hz2⟩, Hw, Hwb, Hk⟩
  iapply (sig_event I K c 0 (pX c) rfl (dev_X c).1 (a := 0) (a' := 1) (b := 0) rfl rfl (by decide) rfl rfl (by revert c; decide +kernel) _ (give_x I c)) $$ [HL Hx]
  · isplitr; · iexact HI
    isplitl [HL]; · iexact HL
    iexact Hx
  iintro HL
  iapply (sig_event I K c 1 (pY c) rfl (dev_Y c).1 (a := 1) (a' := 2) (b := 0) rfl rfl (by decide) rfl rfl (by revert c; decide +kernel) iprop(emp) .rfl) $$ [HL]
  · isplitr; · iexact HI
    isplitl [HL]; · iexact HL
    iempintro
  iintro HL
  iapply (sig_event I K c 2 (pYb c) rfl (dev_Yb c).1 (a := 2) (a' := 3) (b := 0) rfl rfl (by decide) rfl rfl (by revert c; decide +kernel) _ (give_yb I c)) $$ [HL Hy]
  · isplitr; · iexact HI
    isplitl [HL]; · iexact HL
    iexact Hy
  iintro HL
  iapply (sig_event I K c 3 (pZ 0 c) rfl (dev_Z0 c).1 (a := 3) (a' := 4) (b := 0) rfl rfl (by decide) rfl rfl (by revert c; decide +kernel) _ (give_z I c 0)) $$ [HL Hz0]
  · isplitr; · iexact HI
    isplitl [HL]; · iexact HL
    iexact Hz0
  iintro HL
  iapply (sig_event I K c 4 (pZ 1 c) rfl (dev_Z1 c).1 (a := 4) (a' := 5) (b := 0) rfl rfl (by decide) rfl rfl (by revert c; decide +kernel) _ (give_z I c 1)) $$ [HL Hz1]
  · isplitr; · iexact HI
    isplitl [HL]; · iexact HL
    iexact Hz1
  iintro HL
  iapply (sig_event I K c 5 (pZ 2 c) rfl (dev_Z2 c).1 (a := 5) (a' := 6) (b := 0) rfl rfl (by decide) rfl rfl (by revert c; decide +kernel) _ (give_z I c 2)) $$ [HL Hz2]
  · isplitr; · iexact HI
    isplitl [HL]; · iexact HL
    iexact Hz2
  iintro HL
  iapply (wait_reg I K c 6 0 (b := 0) (b' := 1) rfl rfl (by decide) (by decide +kernel) rfl rfl _ (pay_barrier I c)) $$ [HL]
  · isplitr; · iexact HI
    iexact HL
  iintro HL ⟨Hx, Hy, Hz⟩
  iapply (load_w c 0 rfl (I.w c)) $$ Hw
  iintro Hw
  iapply (fill_wb c 0 (n := 0) (n' := 1) rfl rfl rfl (WB I.w c) f _ (conv_w I c 0)) $$ Hwb
  iintro Hwb
  iapply (load_w c 1 rfl (I.w c)) $$ Hw
  iintro Hw
  iapply Hk $$ HL Hx Hy Hz Hw Hwb

/-- The other experts' matrices are converted. -/
theorem part3_wp (v7 v8 : BitVec 32) (f : FVec F S4x512x1024 .bf16) {Q : α → sProp 𝕄} {kk} :
    iprop(xP c (I.x c) ∗ rP (F := F) c (I.r c) ∗ wP c (I.w c) ∗ wbP c (wbUpTo 1 (WB I.w c) f)
      ∗ (∀ v68 : BitVec 32, ∀ v70 : BitVec 32, ∀ v73 : BitVec 32, ∀ v77 : BitVec 32, Data I c -∗ wP c (I.w c)
        -∗ WPD c (kk ⟨v68, v70, v73, v77, k0_pay6 (I.xt c (trow c 0)), k0_pay7 (I.rt c (trow c 0)), Scalar.ofBits .f32 0x00000000#32⟩) Q))
      ⊢ WPD (α := α) c (atBufs (k0_part3 (F := F)) c v7 v8 (k0_pay2 (wblk (F := F) (φ := .f32) 1 (I.w c))) >>= kk) Q := by
  rw [k0_part3_eq_skeleton]
  unfold k0_part3_skel
  simp only [Prog.lift, Prog.bind_op, Prog.bind_ret, Prog.pure_eq_ret]
  iintro ⟨Hx, Hr, Hw, Hwb, Hk⟩
  iapply (fill_wb c 1 (n := 1) (n' := 2) rfl rfl rfl (WB I.w c) f _ (conv_w I c 1)) $$ Hwb
  iintro Hwb
  iapply (load_w c 2 rfl (I.w c)) $$ Hw
  iintro Hw
  iapply (fill_wb c 2 (n := 2) (n' := 3) rfl rfl rfl (WB I.w c) f _ (conv_w I c 2)) $$ Hwb
  iintro Hwb
  iapply (load_w c 3 rfl (I.w c)) $$ Hw
  iintro Hw
  iapply (fill_wb c 3 (n := 3) (n' := 4) rfl rfl rfl (WB I.w c) f _ (conv_w I c 3)) $$ Hwb
  rw [wbUpTo_four]
  iintro Hwb
  iapply (load_x c (trow c 0) (off_their c 0).1 (I.x c)) $$ Hx
  iintro Hx
  iapply (load_r c (trow c 0) (off_their c 0).2.1 (I.r c)) $$ Hr
  iintro Hr
  iapply Hk $$ [Hx Hr Hwb] Hw
  unfold Data
  isplitl [Hx]; · iexact Hx
  isplitl [Hr]; · iexact Hr
  iexact Hwb

theorem part4_wp {Q : α → sProp 𝕄} {kk} :
    iprop(Data I c ∗ (Data I c -∗ WPD c (kk ⟨k0_pay8 (wd c) (k0_pay6 (I.xt c (trow c 0))) (k0_pay7 (I.rt c (trow c 0))) (Scalar.ofBits .f32 0x00000000#32)
          (I.we c 0) (I.we c 1) (I.we c 2), Scalar.muli 4#32 (wd c)⟩) Q))
      ⊢ WPD (α := α) c (atBufs (k0_part4 (F := F)) (wd c) (k0_pay6 (I.xt c (trow c 0))) (k0_pay7 (I.rt c (trow c 0))) (Scalar.ofBits .f32 0x00000000#32) >>= kk) Q := by
  rw [k0_part4_eq_skeleton]
  unfold k0_part4_skel
  simp only [Prog.lift, Prog.bind_op, Prog.bind_ret, Prog.pure_eq_ret]
  iintro ⟨HD, Hk⟩
  iapply (data_wb I c 0 rfl) $$ HD
  iintro HD
  iapply (data_wb I c 1 rfl) $$ HD
  iintro HD
  iapply (data_wb I c 2 rfl) $$ HD
  iintro HD
  iapply Hk $$ HD

/-- The other half's strip 0 is computed and sent to the partner. -/
theorem part5_wp (v7 v12 v70 v73 v77 : BitVec 32) {Q : α → sProp 𝕄} {kk} :
    iprop(Inv I K ∗ Ledger (F := F) c 6 1 ∗ Data I c ∗ someOb (F := F) c (trow c 0) 256 ∗ someXs (F := F) (pX c) (xrow c 0)
      ∗ (∀ v : BitVec 32, Ledger (F := F) c 7 1 -∗ Data I c
        -∗ WPD c (kk ⟨v, k0_pay10 (I.xt c (mrow c 0)), k0_pay11 (I.rt c (mrow c 0)), k0_pay12 (F := F)⟩) Q))
      ⊢ WPD (α := α) c (atBufs (k0_part5 (F := F)) c v7 v12 v70 v73 v77 (k0_pay6 (I.xt c (trow c 0))) (k0_pay7 (I.rt c (trow c 0)))
        (k0_pay8 (wd c) (k0_pay6 (I.xt c (trow c 0))) (k0_pay7 (I.rt c (trow c 0))) (Scalar.ofBits .f32 0x00000000#32)
          (I.we c 0) (I.we c 1) (I.we c 2)) (Scalar.muli 4#32 (wd c)) >>= kk) Q := by
  rw [k0_part5_eq_skeleton]
  unfold k0_part5_skel
  simp only [Prog.lift, Prog.bind_op, Prog.bind_ret, Prog.pure_eq_ret]
  iintro ⟨#HI, HL, HD, Ho, Hx, Hk⟩
  iapply (data_wb I c 3 rfl) $$ HD
  iintro HD
  iapply (fill_ob c 256 (trow c 0) (off_their c 0).2.2.1 (I.P c) _ (their_P I c 0)) $$ Ho
  iintro Ho
  iapply (x_event I K c 0 (dev_X c).2.1 (a := 6) (a' := 7) (b := 1) rfl rfl (by decide) rfl rfl (off_their c 0).2.2.2 (off_x c 0).1) $$ [HL Ho Hx]
  · isplitr; · iexact HI
    isplitl [HL]; · iexact HL
    isplitl [Ho]; · iexact Ho
    iexact Hx
  iintro HL
  iapply (data_x I c (mrow c 0) (off_mine c 0).1) $$ HD
  iintro HD
  iapply (data_r I c (mrow c 0) (off_mine c 0).2.1) $$ HD
  iintro HD
  iapply Hk $$ HL HD

theorem part6_wp {Q : α → sProp 𝕄} {kk} :
    iprop(Data I c ∗ (Data I c -∗ WPD c (kk ⟨k0_pay13 (wd c) (k0_pay10 (I.xt c (mrow c 0))) (k0_pay11 (I.rt c (mrow c 0))) (k0_pay12 (F := F))
          (I.we c 0) (I.we c 1) (I.we c 2), Scalar.muli 4#32 (wd c), 3#32⟩) Q))
      ⊢ WPD (α := α) c (atBufs (k0_part6 (F := F)) (wd c) (k0_pay10 (I.xt c (mrow c 0))) (k0_pay11 (I.rt c (mrow c 0))) (k0_pay12 (F := F)) >>= kk) Q := by
  rw [k0_part6_eq_skeleton]
  unfold k0_part6_skel
  simp only [Prog.lift, Prog.bind_op, Prog.bind_ret, Prog.pure_eq_ret]
  iintro ⟨HD, Hk⟩
  iapply (data_wb I c 0 rfl) $$ HD
  iintro HD
  iapply (data_wb I c 1 rfl) $$ HD
  iintro HD
  iapply (data_wb I c 2 rfl) $$ HD
  iintro HD
  iapply Hk $$ HD

/-- The own half's strip 0 is computed, and the partner's products added. -/
theorem part7_wp (v12 v68 v73 v156 : BitVec 32) {Q : α → sProp 𝕄} {kk} :
    iprop(Inv I K ∗ Ledger (F := F) c 7 1 ∗ Data I c ∗ someOb (F := F) c (mrow c 0) 256
      ∗ (∀ v : BitVec 32, Ledger (F := F) c 7 2 -∗ Data I c -∗ obP c (mrow c 0) 256 fullShare (I.Acc 0 c) -∗ xsP c (xrow c 0) 256 (I.XSt c)
        -∗ someOb (F := F) (pX c) (mrow c 0) 256 -∗ WPD c (kk v) Q))
      ⊢ WPD (α := α) c (atBufs (k0_part7 (F := F)) c v12 v68 v73 v156 (k0_pay10 (I.xt c (mrow c 0))) (k0_pay11 (I.rt c (mrow c 0)))
        (k0_pay13 (wd c) (k0_pay10 (I.xt c (mrow c 0))) (k0_pay11 (I.rt c (mrow c 0))) (k0_pay12 (F := F)) (I.we c 0) (I.we c 1) (I.we c 2))
        (Scalar.muli 4#32 (wd c)) 3#32 >>= kk) Q := by
  rw [k0_part7_eq_skeleton]
  unfold k0_part7_skel
  simp only [Prog.lift, Prog.bind_op, Prog.bind_ret, Prog.pure_eq_ret]
  iintro ⟨#HI, HL, HD, Ho, Hk⟩
  iapply (data_wb I c 3 rfl) $$ HD
  iintro HD
  iapply (fill_ob c 256 (mrow c 0) (off_mine c 0).2.2.1 (I.P c) _ (mine_P I c 0)) $$ Ho
  iintro Ho
  iapply (wait_dma I K c 7 1 (b := 1) (b' := 2) rfl rfl (by decide) rfl (by decide +kernel) rfl rfl) $$ [HL]
  · isplitr; · iexact HI
    iexact HL
  iintro HL Hp
  ihave ⟨Hx, Hm⟩ := (pay_xr I c 0 (a := mrow c 0) (a' := xrow c 0) rfl rfl rfl) $$ Hp
  iapply (comb_x I c 0 (a := mrow c 0) (a' := xrow c 0) rfl rfl (off_mine c 0).2.2.2 (off_x c 0).2 k0_pay15 (fun _ _ => shapeCast_self _ _)) $$ [Ho Hx]
  · isplitl [Ho]; · iexact Ho
    iexact Hx
  iintro Ho Hx
  iapply Hk $$ HL HD Ho Hx Hm

/-- Strip 0's partial sums are sent round the ring. -/
theorem part8_wp (v7 v8 v18 v : BitVec 32) {Q : α → sProp 𝕄} {kk} :
    iprop(Inv I K ∗ Ledger (F := F) c 7 2 ∗ Data I c ∗ obP c (mrow c 0) 256 fullShare (I.Acc 0 c) ∗ someYs (F := F) (pY c) 0
      ∗ (∀ v251 : BitVec 32, ∀ v255 : BitVec 32, Ledger (F := F) c 8 2 -∗ Data I c
        -∗ WPD c (kk ⟨v251, v255, k0_pay16 (I.xt c (trow c 1)), k0_pay17 (I.rt c (trow c 1)),
            k0_pay18 (wd c) (I.xt c (trow c 1)) (I.rt c (trow c 1)) (I.we c 0), Scalar.muli 4#32 (wd c), 1#32⟩) Q))
      ⊢ WPD (α := α) c (atBufs (k0_part8 (F := F)) c (wd c) v7 v8 v18 v >>= kk) Q := by
  rw [k0_part8_eq_skeleton]
  unfold k0_part8_skel
  simp only [Prog.lift, Prog.bind_op, Prog.bind_ret, Prog.pure_eq_ret]
  iintro ⟨#HI, HL, HD, Ho, Hy, Hk⟩
  iapply (y_event I K c 0 (dev_Y c).2.1 (a := 7) (a' := 8) (b := 2) rfl rfl (by decide) rfl rfl (off_y c 0).1 rfl) $$ [HL Ho Hy]
  · isplitr; · iexact HI
    isplitl [HL]; · iexact HL
    isplitl [Ho]; · iexact Ho
    isplitl [Hy]; · iexact Hy
    unfold chainY
    iempintro
  iintro HL
  iapply (data_x I c (trow c 1) (off_their c 1).1) $$ HD
  iintro HD
  iapply (data_r I c (trow c 1) (off_their c 1).2.1) $$ HD
  iintro HD
  iapply (data_wb I c 0 rfl) $$ HD
  iintro HD
  iapply Hk $$ HL HD

theorem part9_wp (v255 : BitVec 32) {Q : α → sProp 𝕄} {kk} :
    iprop(Data I c ∗ someOb (F := F) c (trow c 1) 256
      ∗ (Data I c -∗ someOb (F := F) c (trow c 1) 256
        -∗ WPD c (kk (comp (wd c) (I.xt c (trow c 1)) (I.rt c (trow c 1)) (I.we c 0) (I.we c 1) (I.we c 2) (I.we c 3))) Q))
      ⊢ WPD (α := α) c (atBufs (k0_part9 (F := F)) c (wd c) v255 (k0_pay16 (I.xt c (trow c 1))) (k0_pay17 (I.rt c (trow c 1)))
        (k0_pay18 (wd c) (I.xt c (trow c 1)) (I.rt c (trow c 1)) (I.we c 0)) (Scalar.muli 4#32 (wd c)) 1#32 >>= kk) Q := by
  rw [k0_part9_eq_skeleton]
  unfold k0_part9_skel
  simp only [Prog.lift, Prog.bind_op, Prog.bind_ret, Prog.pure_eq_ret]
  unfold someOb
  iintro ⟨HD, ⟨%f, Ho⟩, Hk⟩
  iapply (data_wb I c 1 rfl) $$ HD
  iintro HD
  iapply (data_wb I c 2 rfl) $$ HD
  iintro HD
  iapply (data_wb I c 3 rfl) $$ HD
  iintro HD
  iapply (load_ob c 256 (trow c 1) (off_their c 1).2.2.1 fullShare f) $$ Ho
  iintro Ho
  iapply Hk $$ HD [Ho]
  iexists f; iexact Ho

/-- The other half's strip 1 is sent to the partner. -/
theorem part10_wp (v7 v12 v70 v251 : BitVec 32) {Q : α → sProp 𝕄} {kk} :
    iprop(Inv I K ∗ Ledger (F := F) c 8 2 ∗ Data I c ∗ someOb (F := F) c (trow c 1) 256 ∗ someXs (F := F) (pX c) (xrow c 1)
      ∗ (∀ v334 : BitVec 32, Ledger (F := F) c 9 2 -∗ Data I c
        -∗ WPD c (kk ⟨v334, k0_pay20 (I.xt c (mrow c 1)), k0_pay21 (I.rt c (mrow c 1)),
            k0_pay22 (wd c) (I.xt c (mrow c 1)) (I.rt c (mrow c 1)) (I.we c 0), Scalar.addi (Scalar.muli 4#32 (wd c)) 1#32⟩) Q))
      ⊢ WPD (α := α) c (atBufs (k0_part10 (F := F)) c (wd c) v7 v12 v70 v251
        (comp (wd c) (I.xt c (trow c 1)) (I.rt c (trow c 1)) (I.we c 0) (I.we c 1) (I.we c 2) (I.we c 3)) >>= kk) Q := by
  rw [k0_part10_eq_skeleton]
  unfold k0_part10_skel
  simp only [Prog.lift, Prog.bind_op, Prog.bind_ret, Prog.pure_eq_ret]
  unfold someOb
  iintro ⟨#HI, HL, HD, ⟨%f, Ho⟩, Hx, Hk⟩
  iapply (store_ob c 256 (trow c 1) (off_their c 1).2.2.1 f (I.P c) _ (their_P I c 1)) $$ Ho
  iintro Ho
  iapply (x_event I K c 1 (dev_X c).2.2.1 (a := 8) (a' := 9) (b := 2) rfl rfl (by decide) rfl rfl (off_their c 1).2.2.2 (off_x c 1).1) $$ [HL Ho Hx]
  · isplitr; · iexact HI
    isplitl [HL]; · iexact HL
    isplitl [Ho]; · iexact Ho
    iexact Hx
  iintro HL
  iapply (data_x I c (mrow c 1) (off_mine c 1).1) $$ HD
  iintro HD
  iapply (data_r I c (mrow c 1) (off_mine c 1).2.1) $$ HD
  iintro HD
  iapply (data_wb I c 0 rfl) $$ HD
  iintro HD
  iapply Hk $$ HL HD

/-- The own half's strip 1 is computed. -/
theorem part11_wp (v334 : BitVec 32) {Q : α → sProp 𝕄} {kk} :
    iprop(Data I c ∗ someOb (F := F) c (mrow c 1) 256
      ∗ (Data I c -∗ obP c (mrow c 1) 256 fullShare (I.P c) -∗ WPD c (kk ⟨⟩) Q))
      ⊢ WPD (α := α) c (atBufs (k0_part11 (F := F)) c (wd c) v334 (k0_pay20 (I.xt c (mrow c 1))) (k0_pay21 (I.rt c (mrow c 1)))
        (k0_pay22 (wd c) (I.xt c (mrow c 1)) (I.rt c (mrow c 1)) (I.we c 0)) (Scalar.addi (Scalar.muli 4#32 (wd c)) 1#32) >>= kk) Q := by
  rw [k0_part11_eq_skeleton]
  unfold k0_part11_skel
  simp only [Prog.lift, Prog.bind_op, Prog.bind_ret, Prog.pure_eq_ret]
  iintro ⟨HD, Ho, Hk⟩
  iapply (data_wb I c 1 rfl) $$ HD
  iintro HD
  iapply (data_wb I c 2 rfl) $$ HD
  iintro HD
  iapply (data_wb I c 3 rfl) $$ HD
  iintro HD
  iapply (fill_ob c 256 (mrow c 1) (off_mine c 1).2.2.1 (I.P c) _ (mine_P I c 1)) $$ Ho
  iintro Ho
  iapply Hk $$ HD Ho

/-- The partner's products are added to strip 1, and what the ring brought. -/
theorem part12_wp (v12 v18 v68 v251 : BitVec 32) {Q : α → sProp 𝕄} {kk} :
    iprop(Inv I K ∗ Ledger (F := F) c 9 2 ∗ obP c (mrow c 1) 256 fullShare (I.P c)
      ∗ (Ledger (F := F) c 9 4 -∗ obP c (mrow c 1) 256 fullShare (I.Acc 0 c) -∗ xsP c (xrow c 1) 256 (I.XSt c)
        -∗ someOb (F := F) (pX c) (mrow c 1) 256 -∗ ysP c 0 (I.YSt c) -∗ chainY (F := F) c 1
        -∗ WPD c (kk (k0_pay25 (bk 256 (mrow c 1) (I.Acc 0 c)) (bky 0 (I.YSt c)))) Q))
      ⊢ WPD (α := α) c (atBufs (k0_part12 (F := F)) c v12 v18 v68 v251 >>= kk) Q := by
  rw [k0_part12_eq_skeleton]
  unfold k0_part12_skel
  simp only [Prog.lift, Prog.bind_op, Prog.bind_ret, Prog.pure_eq_ret]
  iintro ⟨#HI, HL, Ho, Hk⟩
  iapply (wait_dma I K c 9 2 (b := 2) (b' := 3) rfl rfl (by decide) rfl (by decide +kernel) rfl rfl) $$ [HL]
  · isplitr; · iexact HI
    iexact HL
  iintro HL Hp
  ihave ⟨Hx, Hm⟩ := (pay_xr I c 1 (a := mrow c 1) (a' := xrow c 1) rfl rfl rfl) $$ Hp
  iapply (comb_x I c 1 (a := mrow c 1) (a' := xrow c 1) rfl rfl (off_mine c 1).2.2.2 (off_x c 1).2 k0_pay24 (fun _ _ => shapeCast_self _ _)) $$ [Ho Hx]
  · isplitl [Ho]; · iexact Ho
    iexact Hx
  iintro Ho Hx
  iapply (wait_dma I K c 9 3 (b := 3) (b' := 4) rfl rfl (by decide) rfl (by decide +kernel) rfl rfl) $$ [HL]
  · isplitr; · iexact HI
    iexact HL
  iintro HL Hp
  ihave ⟨Hy, Hc⟩ := (pay_yr0 I c) $$ Hp
  iapply (load_ob c 256 (mrow c 1) (off_mine c 1).2.2.2 fullShare (I.Acc 0 c)) $$ Ho
  iintro Ho
  iapply (get_ys c 0 (n := 0) rfl rfl (I.YSt c)) $$ Hy
  iintro Hy
  iapply Hk $$ HL Ho Hx Hm Hy Hc

end Cert.MoeProof
-- ==== Proof.Parts2.lean ====
/-
# The kernel's parts: the products of the last two strips

The strips' products are formed as those of the first two; the sums of three strips go round the
ring, those of the last to the other boards.
-/
module

public import proofs.«01_k».proof.Proof.Parts1

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 42 → ℕ) (c : Dev nD) {α : Type}

/-- The semaphores of the transfers to the other boards, as the kernel picks them. -/
theorem zr_sem : ∀ (c : Dev nD) (j : Fin 3), csem (pcell c (13 + j.val))
    = .dma ((((cc0_scratch10 : DmaSems sig S3).slice (Rect.unit (s := S3) (k0_off12 c (BitVec.ofNat 32 j.val)) S1.size (k0_off12_inb c j))).squeeze S_ squeezes_S1_S_).sem) := by
  decide +kernel

/-- Strip 1's sums are sent on, and the other half's strip 2 is begun. -/
theorem part13_wp (w v7 v8 v18 : BitVec 32) (v : FVec F S256x1024 .bf16) (hv : k0_pay26 v = bk 256 (mrow c 1) (I.Acc 1 c)) {Q : α → sProp 𝕄} {kk} :
    iprop(Inv I K ∗ Ledger (F := F) c 9 4 ∗ Data I c ∗ obP c (mrow c 1) 256 fullShare (I.Acc 0 c) ∗ someYs (F := F) (pY c) 1 ∗ chainY (F := F) c 1
      ∗ (∀ v445 : BitVec 32, ∀ v449 : BitVec 32, Ledger (F := F) c 10 4 -∗ Data I c
        -∗ WPD c (kk ⟨v445, v449, k0_pay27 (I.xt c (trow c 2)), k0_pay28 (I.rt c (trow c 2)), k0_pay29 (F := F),
            k0_pay30 w (I.xt c (trow c 2)) (I.rt c (trow c 2))⟩) Q))
      ⊢ WPD (α := α) c (atBufs (k0_part13 (F := F)) c w v7 v8 v18 v >>= kk) Q := by
  rw [k0_part13_eq_skeleton]
  unfold k0_part13_skel
  simp only [Prog.lift, Prog.bind_op, Prog.bind_ret, Prog.pure_eq_ret]
  iintro ⟨#HI, HL, HD, Ho, Hy, Hc, Hk⟩
  iapply (refill_ob c 256 (mrow c 1) (off_mine c 1).2.2.2 (I.Acc 0 c) (I.Acc 1 c) _ hv) $$ Ho
  iintro Ho
  iapply (y_event I K c 1 (dev_Y c).2.2.1 (a := 9) (a' := 10) (b := 4) rfl rfl (by decide) rfl rfl (off_y c 1).1 rfl) $$ [HL Ho Hy Hc]
  · isplitr; · iexact HI
    isplitl [HL]; · iexact HL
    isplitl [Ho]; · iexact Ho
    isplitl [Hy]; · iexact Hy
    iexact Hc
  iintro HL
  iapply (data_x I c (trow c 2) (off_their c 2).1) $$ HD
  iintro HD
  iapply (data_r I c (trow c 2) (off_their c 2).2.1) $$ HD
  iintro HD
  iapply Hk $$ HL HD

theorem part14_wp (w : BitVec 32) (v453 v456 v457 v466) {Q : α → sProp 𝕄} {kk} :
    iprop(Data I c ∗ (Data I c
        -∗ WPD c (kk ⟨k0_pay31 w v453 v456 v457 v466 (I.we c 0) (I.we c 1) (I.we c 2), k0_pay32 w v453 v456, k0_pay33 (I.we c 3),
            constant S256x1024 .f32 0x00000000#32⟩) Q))
      ⊢ WPD (α := α) c (atBufs (k0_part14 (F := F)) w v453 v456 v457 v466 >>= kk) Q := by
  rw [k0_part14_eq_skeleton]
  unfold k0_part14_skel
  simp only [Prog.lift, Prog.bind_op, Prog.bind_ret, Prog.pure_eq_ret]
  iintro ⟨HD, Hk⟩
  iapply (data_wb I c 0 rfl) $$ HD
  iintro HD
  iapply (data_wb I c 1 rfl) $$ HD
  iintro HD
  iapply (data_wb I c 2 rfl) $$ HD
  iintro HD
  iapply (data_wb I c 3 rfl) $$ HD
  iintro HD
  iapply Hk $$ HD

/-- The other half's strip 2 is sent to the partner. -/
theorem part15_wp (w v7 v12 v70 v445 v449 : BitVec 32) (v496 v505 v507 v0)
    (hv : k0_pay34 v496 v505 v507 v0 = bk 256 (trow c 2) (I.P c)) {Q : α → sProp 𝕄} {kk} :
    iprop(Inv I K ∗ Ledger (F := F) c 10 4 ∗ Data I c ∗ someOb (F := F) c (trow c 2) 256 ∗ someXs (F := F) (pX c) (xrow c 2)
      ∗ (∀ v528 : BitVec 32, Ledger (F := F) c 11 4 -∗ Data I c
        -∗ WPD c (kk ⟨v528, k0_pay35 (I.xt c (mrow c 2)), k0_pay36 (I.rt c (mrow c 2)), k0_pay37 (F := F),
            k0_pay38 w (I.xt c (mrow c 2)) (I.rt c (mrow c 2)), I.we c 0⟩) Q))
      ⊢ WPD (α := α) c (atBufs (k0_part15 (F := F)) c w v7 v12 v70 v445 v449 v496 v505 v507 v0 >>= kk) Q := by
  rw [k0_part15_eq_skeleton]
  unfold k0_part15_skel
  simp only [Prog.lift, Prog.bind_op, Prog.bind_ret, Prog.pure_eq_ret]
  iintro ⟨#HI, HL, HD, Ho, Hx, Hk⟩
  iapply (fill_ob c 256 (trow c 2) (off_their c 2).2.2.1 (I.P c) _ hv) $$ Ho
  iintro Ho
  iapply (x_event I K c 2 (dev_X c).2.2.2.1 (a := 10) (a' := 11) (b := 4) rfl rfl (by decide) rfl rfl (off_their c 2).2.2.2 (off_x c 2).1) $$ [HL Ho Hx]
  · isplitr; · iexact HI
    isplitl [HL]; · iexact HL
    isplitl [Ho]; · iexact Ho
    iexact Hx
  iintro HL
  iapply (data_x I c (mrow c 2) (off_mine c 2).1) $$ HD
  iintro HD
  iapply (data_r I c (mrow c 2) (off_mine c 2).2.1) $$ HD
  iintro HD
  iapply (data_wb I c 0 rfl) $$ HD
  iintro HD
  iapply Hk $$ HL HD

theorem part16_wp (w : BitVec 32) (v532 v535 v536 v545 v546) {Q : α → sProp 𝕄} {kk} :
    iprop(Data I c ∗ (Data I c
        -∗ WPD c (kk ⟨k0_pay39 w v532 v535 v536 v545 v546 (I.we c 1) (I.we c 2), k0_pay40 w v532 v535 (I.we c 3)⟩) Q))
      ⊢ WPD (α := α) c (atBufs (k0_part16 (F := F)) w v532 v535 v536 v545 v546 >>= kk) Q := by
  rw [k0_part16_eq_skeleton]
  unfold k0_part16_skel
  simp only [Prog.lift, Prog.bind_op, Prog.bind_ret, Prog.pure_eq_ret]
  iintro ⟨HD, Hk⟩
  iapply (data_wb I c 1 rfl) $$ HD
  iintro HD
  iapply (data_wb I c 2 rfl) $$ HD
  iintro HD
  iapply (data_wb I c 3 rfl) $$ HD
  iintro HD
  iapply Hk $$ HD

/-- The own half's strip 2 is computed and the partner's products added; the ring's sums have come. -/
theorem part17_wp (v12 v18 v68 v445 v528 : BitVec 32) (v575 v587) (hv : k0_pay41 v575 v587 = bk 256 (mrow c 2) (I.P c)) {Q : α → sProp 𝕄} {kk} :
    iprop(Inv I K ∗ Ledger (F := F) c 11 4 ∗ someOb (F := F) c (mrow c 2) 256
      ∗ (∀ v601 : BitVec 32, Ledger (F := F) c 11 6 -∗ obP c (mrow c 2) 256 fullShare (I.Acc 0 c) -∗ xsP c (xrow c 2) 256 (I.XSt c)
        -∗ someOb (F := F) (pX c) (mrow c 2) 256 -∗ ysP c 1 (I.YSt c) -∗ chainY (F := F) c 2
        -∗ WPD c (kk ⟨v601, bk 256 (mrow c 2) (I.Acc 0 c)⟩) Q))
      ⊢ WPD (α := α) c (atBufs (k0_part17 (F := F)) c v12 v18 v68 v445 v528 v575 v587 >>= kk) Q := by
  rw [k0_part17_eq_skeleton]
  unfold k0_part17_skel
  simp only [Prog.lift, Prog.bind_op, Prog.bind_ret, Prog.pure_eq_ret]
  iintro ⟨#HI, HL, Ho, Hk⟩
  iapply (fill_ob c 256 (mrow c 2) (off_mine c 2).2.2.1 (I.P c) _ hv) $$ Ho
  iintro Ho
  iapply (wait_dma I K c 11 4 (b := 4) (b' := 5) rfl rfl (by decide) rfl (by decide +kernel) rfl rfl) $$ [HL]
  · isplitr; · iexact HI
    iexact HL
  iintro HL Hp
  ihave ⟨Hx, Hm⟩ := (pay_xr I c 2 (a := mrow c 2) (a' := xrow c 2) rfl rfl rfl) $$ Hp
  iapply (comb_x I c 2 (a := mrow c 2) (a' := xrow c 2) rfl rfl (off_mine c 2).2.2.2 (off_x c 2).2 k0_pay42 (fun _ _ => shapeCast_self _ _)) $$ [Ho Hx]
  · isplitl [Ho]; · iexact Ho
    iexact Hx
  iintro Ho Hx
  iapply (wait_dma I K c 11 5 (b := 5) (b' := 6) rfl rfl (by decide) rfl (by decide +kernel) rfl rfl) $$ [HL]
  · isplitr; · iexact HI
    iexact HL
  iintro HL Hp
  ihave ⟨Hy, Hc⟩ := (pay_yr1 I c) $$ Hp
  iapply (load_ob c 256 (mrow c 2) (off_mine c 2).2.2.2 fullShare (I.Acc 0 c)) $$ Ho
  iintro Ho
  iapply Hk $$ HL Ho Hx Hm Hy Hc

/-- Strip 2's sums are sent on, and the other half's strip 3 is begun. -/
theorem part18_wp (w v7 v8 v18 v601 : BitVec 32) {Q : α → sProp 𝕄} {kk} :
    iprop(Inv I K ∗ Ledger (F := F) c 11 6 ∗ Data I c ∗ obP c (mrow c 2) 256 fullShare (I.Acc 0 c) ∗ ysP c 1 (I.YSt c) ∗ someYs (F := F) (pY c) 2 ∗ chainY (F := F) c 2
      ∗ (∀ v639 : BitVec 32, ∀ v643 : BitVec 32, Ledger (F := F) c 12 6 -∗ Data I c -∗ ysP c 1 (I.YSt c)
        -∗ WPD c (kk ⟨v639, v643, k0_pay44 (I.xt c (trow c 3)), k0_pay45 (I.rt c (trow c 3)), k0_pay46 (F := F), k0_pay47 w (I.rt c (trow c 3))⟩) Q))
      ⊢ WPD (α := α) c (atBufs (k0_part18 (F := F)) c w v7 v8 v18 v601 (bk 256 (mrow c 2) (I.Acc 0 c)) >>= kk) Q := by
  rw [k0_part18_eq_skeleton]
  unfold k0_part18_skel
  simp only [Prog.lift, Prog.bind_op, Prog.bind_ret, Prog.pure_eq_ret]
  iintro ⟨#HI, HL, HD, Ho, Hys, Hy, Hc, Hk⟩
  iapply (get_ys c 1 (n := 1) rfl rfl (I.YSt c)) $$ Hys
  iintro Hys
  iapply (refill_ob c 256 (mrow c 2) (off_mine c 2).2.2.2 (I.Acc 0 c) (I.Acc 2 c) _
    ((shapeCast_self _ _).trans (pay_y I.x I.r I.w c 1))) $$ Ho
  iintro Ho
  iapply (y_event I K c 2 (dev_Y c).2.2.2.1 (a := 11) (a' := 12) (b := 6) rfl rfl (by decide) rfl rfl (off_y c 2).1 rfl) $$ [HL Ho Hy Hc]
  · isplitr; · iexact HI
    isplitl [HL]; · iexact HL
    isplitl [Ho]; · iexact Ho
    isplitl [Hy]; · iexact Hy
    iexact Hc
  iintro HL
  iapply (data_x I c (trow c 3) (off_their c 3).1) $$ HD
  iintro HD
  iapply (data_r I c (trow c 3) (off_their c 3).2.1) $$ HD
  iintro HD
  iapply Hk $$ HL HD Hys

theorem part19_wp (w : BitVec 32) (v647 v650 v651 v655) {Q : α → sProp 𝕄} {kk} :
    iprop(Data I c ∗ (Data I c
        -∗ WPD c (kk ⟨k0_pay48 w v647 v650 v651 v655 (I.we c 0) (I.we c 1) (I.we c 2), k0_pay49 (F := F) w v650⟩) Q))
      ⊢ WPD (α := α) c (atBufs (k0_part19 (F := F)) w v647 v650 v651 v655 >>= kk) Q := by
  rw [k0_part19_eq_skeleton]
  unfold k0_part19_skel
  simp only [Prog.lift, Prog.bind_op, Prog.bind_ret, Prog.pure_eq_ret]
  iintro ⟨HD, Hk⟩
  iapply (data_wb I c 0 rfl) $$ HD
  iintro HD
  iapply (data_wb I c 1 rfl) $$ HD
  iintro HD
  iapply (data_wb I c 2 rfl) $$ HD
  iintro HD
  iapply Hk $$ HD

/-- The other half's strip 3 is sent to the partner. -/
theorem part20_wp (w v7 v12 v70 v639 v643 : BitVec 32) (v647 v690 v697)
    (hv : k0_pay50 v647 v690 v697 (I.we c 3) = bk 256 (trow c 3) (I.P c)) {Q : α → sProp 𝕄} {kk} :
    iprop(Inv I K ∗ Ledger (F := F) c 12 6 ∗ Data I c ∗ someOb (F := F) c (trow c 3) 256 ∗ someXs (F := F) (pX c) (xrow c 3)
      ∗ (∀ v722 : BitVec 32, Ledger (F := F) c 13 6 -∗ Data I c
        -∗ WPD c (kk ⟨v722, k0_pay51 (I.xt c (mrow c 3)), k0_pay52 (I.rt c (mrow c 3)), k0_pay53 (F := F), k0_pay54 w (I.rt c (mrow c 3))⟩) Q))
      ⊢ WPD (α := α) c (atBufs (k0_part20 (F := F)) c w v7 v12 v70 v639 v643 v647 v690 v697 >>= kk) Q := by
  rw [k0_part20_eq_skeleton]
  unfold k0_part20_skel
  simp only [Prog.lift, Prog.bind_op, Prog.bind_ret, Prog.pure_eq_ret]
  iintro ⟨#HI, HL, HD, Ho, Hx, Hk⟩
  iapply (data_wb I c 3 rfl) $$ HD
  iintro HD
  iapply (fill_ob c 256 (trow c 3) (off_their c 3).2.2.1 (I.P c) _ hv) $$ Ho
  iintro Ho
  iapply (x_event I K c 3 (dev_X c).2.2.2.2.1 (a := 12) (a' := 13) (b := 6) rfl rfl (by decide) rfl rfl (off_their c 3).2.2.2 (off_x c 3).1) $$ [HL Ho Hx]
  · isplitr; · iexact HI
    isplitl [HL]; · iexact HL
    isplitl [Ho]; · iexact Ho
    iexact Hx
  iintro HL
  iapply (data_x I c (mrow c 3) (off_mine c 3).1) $$ HD
  iintro HD
  iapply (data_r I c (mrow c 3) (off_mine c 3).2.1) $$ HD
  iintro HD
  iapply Hk $$ HL HD

theorem part21_wp (w : BitVec 32) (v726 v729 v730 v735) {Q : α → sProp 𝕄} {kk} :
    iprop(Data I c ∗ (Data I c
        -∗ WPD c (kk ⟨k0_pay55 w v726 v729 v730 v735 (I.we c 0) (I.we c 1) (I.we c 2), k0_pay56 (F := F) w v729⟩) Q))
      ⊢ WPD (α := α) c (atBufs (k0_part21 (F := F)) w v726 v729 v730 v735 >>= kk) Q := by
  rw [k0_part21_eq_skeleton]
  unfold k0_part21_skel
  simp only [Prog.lift, Prog.bind_op, Prog.bind_ret, Prog.pure_eq_ret]
  iintro ⟨HD, Hk⟩
  iapply (data_wb I c 0 rfl) $$ HD
  iintro HD
  iapply (data_wb I c 1 rfl) $$ HD
  iintro HD
  iapply (data_wb I c 2 rfl) $$ HD
  iintro HD
  iapply Hk $$ HD

/-- The own half's strip 3 is computed and the partner's products added. -/
theorem part22_wp (v12 v18 v68 v639 v722 : BitVec 32) (v726 v769 v777) (hv : k0_pay57 v726 v769 v777 (I.we c 3) = bk 256 (mrow c 3) (I.P c)) {Q : α → sProp 𝕄} {kk} :
    iprop(Inv I K ∗ Ledger (F := F) c 13 6 ∗ Data I c ∗ someOb (F := F) c (mrow c 3) 256
      ∗ (∀ v795 : BitVec 32, Ledger (F := F) c 13 7 -∗ Data I c -∗ obP c (mrow c 3) 256 fullShare (I.Acc 0 c) -∗ xsP c (xrow c 3) 256 (I.XSt c)
        -∗ someOb (F := F) (pX c) (mrow c 3) 256 -∗ WPD c (kk v795) Q))
      ⊢ WPD (α := α) c (atBufs (k0_part22 (F := F)) c v12 v18 v68 v639 v722 v726 v769 v777 >>= kk) Q := by
  rw [k0_part22_eq_skeleton]
  unfold k0_part22_skel
  simp only [Prog.lift, Prog.bind_op, Prog.bind_ret, Prog.pure_eq_ret]
  iintro ⟨#HI, HL, HD, Ho, Hk⟩
  iapply (data_wb I c 3 rfl) $$ HD
  iintro HD
  iapply (fill_ob c 256 (mrow c 3) (off_mine c 3).2.2.1 (I.P c) _ hv) $$ Ho
  iintro Ho
  iapply (wait_dma I K c 13 6 (b := 6) (b' := 7) rfl rfl (by decide) rfl (by decide +kernel) rfl rfl) $$ [HL]
  · isplitr; · iexact HI
    iexact HL
  iintro HL Hp
  ihave ⟨Hx, Hm⟩ := (pay_xr I c 3 (a := mrow c 3) (a' := xrow c 3) rfl rfl rfl) $$ Hp
  iapply (comb_x I c 3 (a := mrow c 3) (a' := xrow c 3) rfl rfl (off_mine c 3).2.2.2 (off_x c 3).2 k0_pay58 (fun _ _ => shapeCast_self _ _)) $$ [Ho Hx]
  · isplitl [Ho]; · iexact Ho
    iexact Hx
  iintro Ho Hx
  iapply Hk $$ HL HD Ho Hx Hm

/-- What the ring brought is added to strip 3; a quarter of the sums goes to the next board. -/
theorem part23_wp (v3 v8 v26 v68 v795 : BitVec 32) {Q : α → sProp 𝕄} {kk} :
    iprop(Inv I K ∗ Ledger (F := F) c 13 7 ∗ obP c (mrow c 3) 256 fullShare (I.Acc 0 c) ∗ someZs (F := F) (pZ 0 c) (zsl c 0).val
      ∗ (∀ v823 : BitVec 32, ∀ v844 : BitVec 32, Ledger (F := F) c 14 8 -∗ obP c (srow c (zz c)) 64 fullShare (I.Acc 3 c)
        -∗ obP c (srow c (zz (pZ 1 c))) 64 fullShare (I.Acc 3 c) -∗ obP c (srow c (zz (pZ 2 c))) 64 fullShare (I.Acc 3 c)
        -∗ ysP c 2 (I.YSt c) -∗ someOb (F := F) (pY c) (mrow c 3) 256 -∗ outY (F := F) c 0
        -∗ WPD c (kk ⟨v823, v844⟩) Q))
      ⊢ WPD (α := α) c (atBufs (k0_part23 (F := F)) c v3 v8 v26 v68 v795 >>= kk) Q := by
  rw [k0_part23_eq_skeleton]
  unfold k0_part23_skel
  simp only [Prog.lift, Prog.bind_op, Prog.bind_ret, Prog.pure_eq_ret]
  iintro ⟨#HI, HL, Ho, Hz, Hk⟩
  iapply (wait_dma I K c 13 7 (b := 7) (b' := 8) rfl rfl (by decide) rfl (by decide +kernel) rfl rfl) $$ [HL]
  · isplitr; · iexact HI
    iexact HL
  iintro HL Hp
  ihave ⟨Hy, Hm, Hc⟩ := (pay_yr2 I c) $$ Hp
  iapply (load_ob c 256 (mrow c 3) (off_mine c 3).2.2.2 fullShare (I.Acc 0 c)) $$ Ho
  iintro Ho
  iapply (get_ys c 2 (n := 2) rfl rfl (I.YSt c)) $$ Hy
  iintro Hy
  iapply (refill_ob c 256 (mrow c 3) (off_mine c 3).2.2.2 (I.Acc 0 c) (I.Acc 3 c) _
    ((shapeCast_self _ _).trans (pay_y I.x I.r I.w c 2))) $$ Ho
  iintro Ho
  ihave ⟨Ho, H0, H1, H2⟩ := (Entails.of_eq (ob_parts' (F := F) c fullShare (I.Acc 3 c))) $$ Ho
  iapply (z_event I K c 0 (dev_Z0 c).2.1 (a := 13) (a' := 14) (b := 8) rfl rfl (by decide) (zr_sem c 0) rfl (off_z c 0).2.2 (off_z c 0).2.1) $$ [HL H0 Hz]
  · isplitr; · iexact HI
    isplitl [HL]; · iexact HL
    isplitl [H0]; · iexact H0
    iexact Hz
  iintro HL
  iapply Hk $$ HL Ho H1 H2 Hy Hm Hc

theorem part24_wp (v3 v28 v30 v68 v823 v844 : BitVec 32) {Q : α → sProp 𝕄} {kk} :
    iprop(Inv I K ∗ Ledger (F := F) c 14 8 ∗ obP c (srow c (zz (pZ 1 c))) 64 fullShare (I.Acc 3 c) ∗ obP c (srow c (zz (pZ 2 c))) 64 fullShare (I.Acc 3 c)
      ∗ someZs (F := F) (pZ 1 c) (zsl c 1).val ∗ someZs (F := F) (pZ 2 c) (zsl c 2).val
      ∗ (Ledger (F := F) c 16 8 -∗ WPD c (kk ⟨⟩) Q))
      ⊢ WPD (α := α) c (atBufs (k0_part24 (F := F)) c v3 v28 v30 v68 v823 v844 >>= kk) Q := by
  rw [k0_part24_eq_skeleton]
  unfold k0_part24_skel
  simp only [Prog.lift, Prog.bind_op, Prog.bind_ret, Prog.pure_eq_ret]
  iintro ⟨#HI, HL, H1, H2, Hz1, Hz2, Hk⟩
  iapply (z_event I K c 1 (dev_Z1 c).2.1 (a := 14) (a' := 15) (b := 8) rfl rfl (by decide) (zr_sem c 1) rfl (off_z c 1).2.2 (off_z c 1).2.1) $$ [HL H1 Hz1]
  · isplitr; · iexact HI
    isplitl [HL]; · iexact HL
    isplitl [H1]; · iexact H1
    iexact Hz1
  iintro HL
  iapply (z_event I K c 2 (dev_Z2 c).2.1 (a := 15) (a' := 16) (b := 8) rfl rfl (by decide) (zr_sem c 2) rfl (off_z c 2).2.2 (off_z c 2).2.1) $$ [HL H2 Hz2]
  · isplitr; · iexact HI
    isplitl [HL]; · iexact HL
    isplitl [H2]; · iexact H2
    iexact Hz2
  iintro HL
  iapply Hk $$ HL

end Cert.MoeProof
-- ==== Proof.Parts3.lean ====
/-
# The kernel's parts: the finished sums and how they are spread

The boards' sums are added on a quarter of strip 3, and each finished piece is passed on until every
device has the whole result.
-/
module

public import proofs.«01_k».proof.Proof.Parts2

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 42 → ℕ) (c : Dev nD) {α : Type}

/-- The result as the kernel writes it out. -/
abbrev Ins.Og : FVec F S2048x1024 .f32 := OutG I.x I.r I.w

theorem za_sem : ∀ (c : Dev nD) (j : Fin 3), csem (pcell c (16 + j.val))
    = .dma ((((cc0_scratch12 : DmaSems sig S3).slice (Rect.unit (s := S3) (k0_off12 c (BitVec.ofNat 32 j.val)) S1.size (k0_off12_inb c j))).squeeze S_ squeezes_S1_S_).sem) := by
  decide +kernel

/-- The strips' places, in the order in which they are finished. -/
theorem off_ya : ∀ (c : Dev nD) (i : Fin 3), k0_off19 c (BitVec.ofNat 32 i.val) = ![mrow c (fin (Fin.castSucc i)), 0] := by decide +kernel
theorem off_xl : ∀ (c : Dev nD) (i : Fin 4), k0_off21 c (BitVec.ofNat 32 i.val) = ![trow c (fin i), 0] := by decide +kernel

/-- Places on the other boards, counted by board or by distance. -/
def peerOb (a i : ℕ) : sProp 𝕄 := if h : i < 3 then someOb (F := F) (zpeer ⟨i, h⟩ c) a 64 else iprop(emp)

theorem peers_ob (a : ℕ) :
    iprop(someOb (F := F) (zpeer 0 c) a 64 ∗ someOb (F := F) (zpeer 1 c) a 64 ∗ someOb (F := F) (zpeer 2 c) a 64)
      ⊢ iprop(someOb (F := F) (pZ 0 c) a 64 ∗ someOb (F := F) (pZ 1 c) a 64 ∗ someOb (F := F) (pZ 2 c) a 64) := by
  have h : ∀ j : Fin 3, peerOb (F := F) c a (zsi c j).val = someOb (F := F) (pZ j c) a 64 := fun j => by
    unfold peerOb
    rw [dif_pos (zsi c j).isLt, Fin.eta, zpeer_zsi]
  have h0 := zsi_slots c (peerOb (F := F) c a)
  rw [h, h, h] at h0
  exact Entails.of_eq h0

/-- The other boards' sums have come, and the places to send the finished sums to. -/
theorem part25_wp (v26 v68 v823 : BitVec 32) {Q : α → sProp 𝕄} {kk} :
    iprop(Inv I K ∗ Ledger (F := F) c 16 8
      ∗ (∀ v : BitVec 32, Ledger (F := F) c 16 11 -∗ zsP c 0 (I.ZSt c) -∗ zsP c 1 (I.ZSt c) -∗ zsP c 2 (I.ZSt c)
        -∗ (someOb (F := F) (pZ 0 c) (srow c (zz c)) 64 ∗ someOb (F := F) (pZ 1 c) (srow c (zz c)) 64 ∗ someOb (F := F) (pZ 2 c) (srow c (zz c)) 64)
        -∗ WPD c (kk v) Q))
      ⊢ WPD (F := F) (α := α) c (atBufs (k0_part25 (F := F)) v26 v68 v823 >>= kk) Q := by
  rw [k0_part25_eq_skeleton]
  unfold k0_part25_skel
  simp only [Prog.lift, Prog.bind_op, Prog.bind_ret, Prog.pure_eq_ret]
  iintro ⟨#HI, HL, Hk⟩
  iapply (wait_dma I K c 16 8 (b := 8) (b' := 9) rfl rfl (by decide) rfl (by decide +kernel) rfl rfl) $$ [HL]
  · isplitr; · iexact HI
    iexact HL
  iintro HL Hp
  ihave ⟨Hz0, Ho0⟩ := (show pay I 8 0 c ⊢ iprop(zsP c 0 (I.ZSt c) ∗ someOb (F := F) (zpeer 0 c) (srow c (zz c)) 64) from .rfl) $$ Hp
  iapply (wait_dma I K c 16 9 (b := 9) (b' := 10) rfl rfl (by decide) rfl (by decide +kernel) rfl rfl) $$ [HL]
  · isplitr; · iexact HI
    iexact HL
  iintro HL Hp
  ihave ⟨Hz1, Ho1⟩ := (show pay I 9 0 c ⊢ iprop(zsP c 1 (I.ZSt c) ∗ someOb (F := F) (zpeer 1 c) (srow c (zz c)) 64) from .rfl) $$ Hp
  iapply (wait_dma I K c 16 10 (b := 10) (b' := 11) rfl rfl (by decide) rfl (by decide +kernel) rfl rfl) $$ [HL]
  · isplitr; · iexact HI
    iexact HL
  iintro HL Hp
  ihave ⟨Hz2, Ho2⟩ := (show pay I 10 0 c ⊢ iprop(zsP c 2 (I.ZSt c) ∗ someOb (F := F) (zpeer 2 c) (srow c (zz c)) 64) from .rfl) $$ Hp
  iapply Hk $$ HL Hz0 Hz1 Hz2 [Ho0 Ho1 Ho2]
  iapply (peers_ob c (srow c (zz c)))
  isplitl [Ho0]; · iexact Ho0
  isplitl [Ho1]; · iexact Ho1
  iexact Ho2

/-- The boards' sums are added. -/
theorem part26_wp (v3 v26 v68 v823 v906 : BitVec 32) {Q : α → sProp 𝕄} {kk} :
    iprop(obP c (srow c (zz c)) 64 fullShare (I.Acc 3 c) ∗ zsP c 0 (I.ZSt c) ∗ zsP c 1 (I.ZSt c) ∗ zsP c 2 (I.ZSt c)
      ∗ (obP c (srow c (zz c)) 64 fullShare I.Fn -∗ zsP c 0 (I.ZSt c) -∗ zsP c 1 (I.ZSt c) -∗ zsP c 2 (I.ZSt c) -∗ WPD c (kk ⟨⟩) Q))
      ⊢ WPD (α := α) c (atBufs (k0_part26 (F := F)) c v3 v26 v68 v823 v906 >>= kk) Q := by
  rw [k0_part26_eq_skeleton]
  unfold k0_part26_skel
  simp only [Prog.lift, Prog.bind_op, Prog.bind_ret, Prog.pure_eq_ret]
  iintro ⟨Ho, Hz0, Hz1, Hz2, Hk⟩
  iapply (load_ob c 64 (srow c (zz c)) (off_sub c).1 fullShare (I.Acc 3 c)) $$ Ho
  iintro Ho
  iapply (get_zs c 0 (n := 0) rfl rfl (I.ZSt c)) $$ Hz0
  iintro Hz0
  iapply (get_zs c 1 (n := 1) rfl rfl (I.ZSt c)) $$ Hz1
  iintro Hz1
  iapply (get_zs c 2 (n := 2) rfl rfl (I.ZSt c)) $$ Hz2
  iintro Hz2
  iapply (refill_ob c 64 (srow c (zz c)) (off_sub c).1 (I.Acc 3 c) I.Fn _ (pay_z I.x I.r I.w c)) $$ Ho
  iintro Ho
  iapply Hk $$ Ho Hz0 Hz1 Hz2

/-- The finished quarter goes to the other boards. -/
theorem part27_wp (v3 v28 v68 v823 : BitVec 32) {Q : α → sProp 𝕄} {kk} :
    iprop(Inv I K ∗ Ledger (F := F) c 16 11 ∗ obP c (srow c (zz c)) 64 qz0 I.Fn ∗ obP c (srow c (zz c)) 64 qz1 I.Fn
      ∗ someOb (F := F) (pZ 0 c) (srow c (zz c)) 64 ∗ someOb (F := F) (pZ 1 c) (srow c (zz c)) 64
      ∗ (∀ v : BitVec 32, Ledger (F := F) c 18 11 -∗ WPD c (kk v) Q))
      ⊢ WPD (α := α) c (atBufs (k0_part27 (F := F)) c v3 v28 v68 v823 >>= kk) Q := by
  rw [k0_part27_eq_skeleton]
  unfold k0_part27_skel
  simp only [Prog.lift, Prog.bind_op, Prog.bind_ret, Prog.pure_eq_ret]
  iintro ⟨#HI, HL, H0, H1, Hz0, Hz1, Hk⟩
  iapply (za_event I K c 0 (dev_Z0 c).2.2.1 (a := 16) (a' := 17) (b := 11) rfl rfl (by decide) (za_sem c 0) rfl (off_sub c).2.1 (off_sub c).2.1) $$ [HL H0 Hz0]
  · isplitr; · iexact HI
    isplitl [HL]; · iexact HL
    isplitl [H0]; · iexact H0
    iexact Hz0
  iintro HL
  iapply (za_event I K c 1 (dev_Z1 c).2.2.1 (a := 17) (a' := 18) (b := 11) rfl rfl (by decide) (za_sem c 1) rfl (off_sub c).2.1 (off_sub c).2.1) $$ [HL H1 Hz1]
  · isplitr; · iexact HI
    isplitl [HL]; · iexact HL
    isplitl [H1]; · iexact H1
    iexact Hz1
  iintro HL
  iapply Hk $$ HL

theorem part28_wp (v3 v26 v30 v68 v823 v970 : BitVec 32) {Q : α → sProp 𝕄} {kk} :
    iprop(Inv I K ∗ Ledger (F := F) c 18 11 ∗ obP c (srow c (zz c)) 64 qz2 I.Fn ∗ someOb (F := F) (pZ 2 c) (srow c (zz c)) 64
      ∗ (∀ v : BitVec 32, Ledger (F := F) c 19 12 -∗ obP c (srow c (zz (zpeer 0 c))) 64 fullShare I.Fn -∗ WPD c (kk ⟨v, 256#32⟩) Q))
      ⊢ WPD (α := α) c (atBufs (k0_part28 (F := F)) c v3 v26 v30 v68 v823 v970 >>= kk) Q := by
  rw [k0_part28_eq_skeleton]
  unfold k0_part28_skel
  simp only [Prog.lift, Prog.bind_op, Prog.bind_ret, Prog.pure_eq_ret]
  iintro ⟨#HI, HL, H2, Hz2, Hk⟩
  iapply (za_event I K c 2 (dev_Z2 c).2.2.1 (a := 18) (a' := 19) (b := 11) rfl rfl (by decide) (za_sem c 2) rfl (off_sub c).2.1 (off_sub c).2.1) $$ [HL H2 Hz2]
  · isplitr; · iexact HI
    isplitl [HL]; · iexact HL
    isplitl [H2]; · iexact H2
    iexact Hz2
  iintro HL
  iapply (wait_dma I K c 19 11 (b := 11) (b' := 12) rfl rfl (by decide) rfl (by decide +kernel) rfl rfl) $$ [HL]
  · isplitr; · iexact HI
    iexact HL
  iintro HL Hp
  iapply Hk $$ HL [Hp]
  iapply (show pay I 11 0 c ⊢ obP c (srow c (zz (zpeer 0 c))) 64 fullShare I.Fn from .rfl) $$ Hp

theorem part29_wp (v3 v12 v26 v68 v823 v1007 u : BitVec 32) {Q : α → sProp 𝕄} {kk} :
    iprop(Inv I K ∗ Ledger (F := F) c 19 12
      ∗ (Ledger (F := F) c 19 14 -∗ obP c (srow c (zz (zpeer 1 c))) 64 fullShare I.Fn -∗ obP c (srow c (zz (zpeer 2 c))) 64 fullShare I.Fn
        -∗ WPD c (kk ⟨⟩) Q))
      ⊢ WPD (α := α) c (atBufs (k0_part29 (F := F)) c v3 v12 v26 v68 v823 v1007 u >>= kk) Q := by
  rw [k0_part29_eq_skeleton]
  unfold k0_part29_skel
  simp only [Prog.lift, Prog.bind_op, Prog.bind_ret, Prog.pure_eq_ret]
  iintro ⟨#HI, HL, Hk⟩
  iapply (wait_dma I K c 19 12 (b := 12) (b' := 13) rfl rfl (by decide) rfl (by decide +kernel) rfl rfl) $$ [HL]
  · isplitr; · iexact HI
    iexact HL
  iintro HL H1
  iapply (wait_dma I K c 19 13 (b := 13) (b' := 14) rfl rfl (by decide) rfl (by decide +kernel) rfl rfl) $$ [HL]
  · isplitr; · iexact HI
    iexact HL
  iintro HL H2
  iapply Hk $$ HL [H1] [H2]
  · iapply (show pay I 12 0 c ⊢ obP c (srow c (zz (zpeer 1 c))) 64 fullShare I.Fn from .rfl) $$ H1
  · iapply (show pay I 13 0 c ⊢ obP c (srow c (zz (zpeer 2 c))) 64 fullShare I.Fn from .rfl) $$ H2

/-- The finished strips are spread over the board, one after another. -/
theorem part30_wp (v8 v12 v18 v68 : BitVec 32) {Q : α → sProp 𝕄} {kk} :
    iprop(Inv I K ∗ Ledger (F := F) c 19 14 ∗ obP c (mrow c 3) 256 qx I.Fn ∗ obP c (mrow c 3) 256 qy I.Fn
      ∗ someOb (F := F) (pX c) (mrow c 3) 256 ∗ someOb (F := F) (pY c) (mrow c 3) 256 ∗ outY (F := F) c 0
      ∗ (Ledger (F := F) c 21 15 -∗ obP c (mrow c 0) 256 fullShare I.Fn -∗ someOb (F := F) (pY c) (mrow c 0) 256 -∗ outY (F := F) c 1
        -∗ WPD c (kk ⟨⟩) Q))
      ⊢ WPD (α := α) c (atBufs (k0_part30 (F := F)) c v8 v12 v18 v68 >>= kk) Q := by
  rw [k0_part30_eq_skeleton]
  unfold k0_part30_skel
  simp only [Prog.lift, Prog.bind_op, Prog.bind_ret, Prog.pure_eq_ret]
  iintro ⟨#HI, HL, Hx, Hy, Hmx, Hmy, Hc, Hk⟩
  iapply (xa_event I K c 0 (dev_X c).2.2.2.2.2.1 (a := 19) (a' := 20) (b := 14) rfl rfl (by decide) rfl rfl (off_sub c).2.2.1 (off_sub c).2.2.1) $$ [HL Hx Hmx]
  · isplitr; · iexact HI
    isplitl [HL]; · iexact HL
    isplitl [Hx]; · iexact Hx
    iexact Hmx
  iintro HL
  iapply (ya_event I K c 0 (dev_Y c).2.2.2.2.1 (a := 20) (a' := 21) (b := 14) rfl rfl (by decide) rfl rfl (off_ya c 0) (off_ya c 0)) $$ [HL Hy Hmy Hc]
  · isplitr; · iexact HI
    isplitl [HL]; · iexact HL
    isplitl [Hy]; · iexact Hy
    isplitl [Hmy]; · iexact Hmy
    iexact Hc
  iintro HL
  iapply (wait_dma I K c 21 14 (b := 14) (b' := 15) rfl rfl (by decide) rfl (by decide +kernel) rfl rfl) $$ [HL]
  · isplitr; · iexact HI
    iexact HL
  iintro HL Hp
  ihave ⟨Ho, Hmy, Hc⟩ := (show pay I 14 0 c ⊢ iprop(obP c (mrow c 0) 256 fullShare I.Fn ∗ someOb (F := F) (pY c) (mrow c 0) 256 ∗ outY (F := F) c 1) from .rfl) $$ Hp
  iapply Hk $$ HL Ho Hmy Hc

theorem part31_wp (v8 v18 v68 : BitVec 32) {Q : α → sProp 𝕄} {kk} :
    iprop(Inv I K ∗ Ledger (F := F) c 21 15 ∗ obP c (mrow c 0) 256 qx I.Fn ∗ obP c (mrow c 0) 256 qy I.Fn
      ∗ someOb (F := F) (pX c) (mrow c 0) 256 ∗ someOb (F := F) (pY c) (mrow c 0) 256 ∗ outY (F := F) c 1
      ∗ (Ledger (F := F) c 23 16 -∗ obP c (mrow c 1) 256 fullShare I.Fn -∗ someOb (F := F) (pY c) (mrow c 1) 256
        -∗ WPD c (kk 1#32) Q))
      ⊢ WPD (α := α) c (atBufs (k0_part31 (F := F)) c v8 v18 v68 >>= kk) Q := by
  rw [k0_part31_eq_skeleton]
  unfold k0_part31_skel
  simp only [Prog.lift, Prog.bind_op, Prog.bind_ret, Prog.pure_eq_ret]
  iintro ⟨#HI, HL, Hx, Hy, Hmx, Hmy, Hc, Hk⟩
  iapply (xa_event I K c 1 (dev_X c).2.2.2.2.2.2.1 (a := 21) (a' := 22) (b := 15) rfl rfl (by decide) rfl rfl (off_y c 0).1 (off_y c 0).1) $$ [HL Hx Hmx]
  · isplitr; · iexact HI
    isplitl [HL]; · iexact HL
    isplitl [Hx]; · iexact Hx
    iexact Hmx
  iintro HL
  iapply (ya_event I K c 1 (dev_Y c).2.2.2.2.2.1 (a := 22) (a' := 23) (b := 15) rfl rfl (by decide) rfl rfl (off_ya c 1) (off_ya c 1)) $$ [HL Hy Hmy Hc]
  · isplitr; · iexact HI
    isplitl [HL]; · iexact HL
    isplitl [Hy]; · iexact Hy
    isplitl [Hmy]; · iexact Hmy
    iexact Hc
  iintro HL
  iapply (wait_dma I K c 23 15 (b := 15) (b' := 16) rfl rfl (by decide) rfl (by decide +kernel) rfl rfl) $$ [HL]
  · isplitr; · iexact HI
    iexact HL
  iintro HL Hp
  ihave ⟨Ho, Hmy⟩ := (show pay I 15 0 c ⊢ iprop(obP c (mrow c 1) 256 fullShare I.Fn ∗ someOb (F := F) (pY c) (mrow c 1) 256) from .rfl) $$ Hp
  iapply Hk $$ HL Ho Hmy

theorem part32_wp (v8 v12 v18 v68 u : BitVec 32) {Q : α → sProp 𝕄} {kk} :
    iprop(Inv I K ∗ Ledger (F := F) c 23 16 ∗ obP c (mrow c 1) 256 qx I.Fn ∗ obP c (mrow c 1) 256 qy I.Fn
      ∗ someOb (F := F) (pX c) (mrow c 1) 256 ∗ someOb (F := F) (pY c) (mrow c 1) 256
      ∗ (Ledger (F := F) c 25 17 -∗ obP c (mrow c 2) 256 fullShare I.Fn -∗ WPD c (kk ⟨⟩) Q))
      ⊢ WPD (α := α) c (atBufs (k0_part32 (F := F)) c v8 v12 v18 v68 u >>= kk) Q := by
  rw [k0_part32_eq_skeleton]
  unfold k0_part32_skel
  simp only [Prog.lift, Prog.bind_op, Prog.bind_ret, Prog.pure_eq_ret]
  iintro ⟨#HI, HL, Hx, Hy, Hmx, Hmy, Hk⟩
  iapply (xa_event I K c 2 (dev_X c).2.2.2.2.2.2.2.1 (a := 23) (a' := 24) (b := 16) rfl rfl (by decide) rfl rfl (off_y c 1).1 (off_y c 1).1) $$ [HL Hx Hmx]
  · isplitr; · iexact HI
    isplitl [HL]; · iexact HL
    isplitl [Hx]; · iexact Hx
    iexact Hmx
  iintro HL
  iapply (ya_event I K c 2 (dev_Y c).2.2.2.2.2.2.1 (a := 24) (a' := 25) (b := 16) rfl rfl (by decide) rfl rfl (off_ya c 2) (off_ya c 2)) $$ [HL Hy Hmy]
  · isplitr; · iexact HI
    isplitl [HL]; · iexact HL
    isplitl [Hy]; · iexact Hy
    isplitl [Hmy]; · iexact Hmy
    unfold outY
    iempintro
  iintro HL
  iapply (wait_dma I K c 25 16 (b := 16) (b' := 17) rfl rfl (by decide) rfl (by decide +kernel) rfl rfl) $$ [HL]
  · isplitr; · iexact HI
    iexact HL
  iintro HL Hp
  iapply Hk $$ HL [Hp]
  iapply (show pay I 16 0 c ⊢ obP c (mrow c 2) 256 fullShare I.Fn from .rfl) $$ Hp

/-- The own half is written out; the other half begins to come. -/
theorem part33_wp (v8 v12 v68 v70 : BitVec 32) (f : FVec F S2048x1024 .f32) {Q : α → sProp 𝕄} {kk} :
    iprop(Inv I K ∗ Ledger (F := F) c 25 17 ∗ obP c (mrow c 2) 256 qx I.Fn ∗ someOb (F := F) (pX c) (mrow c 2) 256
      ∗ obP c (1024 * xc c) 1024 qk I.Fn ∗ outP c (1024 * xc c) 1024 f ∗ outP c (trow c 3) 256 f
      ∗ (Ledger (F := F) c 26 18 -∗ obP c (1024 * xc c) 1024 qk I.Fn -∗ outP c (1024 * xc c) 1024 I.Og -∗ obP c (trow c 3) 256 fullShare I.Fn
        -∗ outP c (trow c 3) 256 I.Og -∗ WPD c (kk 1#32) Q))
      ⊢ WPD (α := α) c (atBufs (k0_part33 (F := F)) c v8 v12 v68 v70 >>= kk) Q := by
  rw [k0_part33_eq_skeleton]
  unfold k0_part33_skel
  simp only [Prog.lift, Prog.bind_op, Prog.bind_ret, Prog.pure_eq_ret]
  iintro ⟨#HI, HL, Hx, Hmx, Ho, Hout, Ht, Hk⟩
  iapply (xa_event I K c 3 (dev_X c).2.2.2.2.2.2.2.2.1 (a := 25) (a' := 26) (b := 17) rfl rfl (by decide) rfl rfl (off_y c 2).1 (off_y c 2).1) $$ [HL Hx Hmx]
  · isplitr; · iexact HI
    isplitl [HL]; · iexact HL
    isplitl [Hx]; · iexact Hx
    iexact Hmx
  iintro HL
  iapply (load_ob c 1024 (1024 * xc c) (off_sub c).2.2.2 qk I.Fn) $$ Ho
  iintro Ho
  iapply (fill_out c 1024 (1024 * xc c) (off_sub c).2.2.2 f I.Og _ rfl) $$ Hout
  iintro Hout
  iapply (wait_dma I K c 26 17 (b := 17) (b' := 18) rfl rfl (by decide) rfl (by decide +kernel) rfl rfl) $$ [HL]
  · isplitr; · iexact HI
    iexact HL
  iintro HL Hp
  ihave Hp := (show pay I 17 0 c ⊢ obP c (trow c 3) 256 fullShare I.Fn from .rfl) $$ Hp
  iapply (load_ob c 256 (trow c 3) (off_xl c 0) fullShare I.Fn) $$ Hp
  iintro Hp
  iapply (fill_out c 256 (trow c 3) (off_xl c 0) f I.Og _ rfl) $$ Ht
  iintro Ht
  iapply Hk $$ HL Ho Hout Hp Ht

theorem part34_wp (v8 v12 v70 u : BitVec 32) (f : FVec F S2048x1024 .f32) {Q : α → sProp 𝕄} {kk} :
    iprop(Inv I K ∗ Ledger (F := F) c 26 18 ∗ outP c (trow c 0) 256 f
      ∗ (∀ v : BitVec 32, Ledger (F := F) c 26 20 -∗ obP c (trow c 0) 256 fullShare I.Fn -∗ obP c (trow c 1) 256 fullShare I.Fn
        -∗ outP c (trow c 0) 256 I.Og -∗ WPD c (kk ⟨v, bk 256 (trow c 1) I.Fn⟩) Q))
      ⊢ WPD (α := α) c (atBufs (k0_part34 (F := F)) c v8 v12 v70 u >>= kk) Q := by
  rw [k0_part34_eq_skeleton]
  unfold k0_part34_skel
  simp only [Prog.lift, Prog.bind_op, Prog.bind_ret, Prog.pure_eq_ret]
  iintro ⟨#HI, HL, Ht, Hk⟩
  iapply (wait_dma I K c 26 18 (b := 18) (b' := 19) rfl rfl (by decide) rfl (by decide +kernel) rfl rfl) $$ [HL]
  · isplitr; · iexact HI
    iexact HL
  iintro HL Hp
  ihave Hp := (show pay I 18 0 c ⊢ obP c (trow c 0) 256 fullShare I.Fn from .rfl) $$ Hp
  iapply (load_ob c 256 (trow c 0) (off_xl c 1) fullShare I.Fn) $$ Hp
  iintro Hp
  iapply (fill_out c 256 (trow c 0) (off_xl c 1) f I.Og _ rfl) $$ Ht
  iintro Ht
  iapply (wait_dma I K c 26 19 (b := 19) (b' := 20) rfl rfl (by decide) rfl (by decide +kernel) rfl rfl) $$ [HL]
  · isplitr; · iexact HI
    iexact HL
  iintro HL Hq
  ihave Hq := (show pay I 19 0 c ⊢ obP c (trow c 1) 256 fullShare I.Fn from .rfl) $$ Hq
  iapply (load_ob c 256 (trow c 1) (off_xl c 2) fullShare I.Fn) $$ Hq
  iintro Hq
  iapply Hk $$ HL Hp Hq Ht

theorem part35_wp (v8 v12 v70 v1197 : BitVec 32) (f : FVec F S2048x1024 .f32) {Q : α → sProp 𝕄} {kk} :
    iprop(Inv I K ∗ Ledger (F := F) c 26 20 ∗ outP c (trow c 1) 256 f ∗ outP c (trow c 2) 256 f
      ∗ (Ledger (F := F) c 26 22 -∗ obP c (trow c 2) 256 fullShare I.Fn -∗ outP c (trow c 1) 256 I.Og -∗ outP c (trow c 2) 256 I.Og
        -∗ WPD c (kk ⟨⟩) Q))
      ⊢ WPD (α := α) c (atBufs (k0_part35 (F := F)) c v8 v12 v70 v1197 (bk 256 (trow c 1) I.Fn) >>= kk) Q := by
  rw [k0_part35_eq_skeleton]
  unfold k0_part35_skel
  simp only [Prog.lift, Prog.bind_op, Prog.bind_ret, Prog.pure_eq_ret]
  iintro ⟨#HI, HL, Ht, Hu, Hk⟩
  iapply (fill_out c 256 (trow c 1) (off_xl c 2) f I.Og _ rfl) $$ Ht
  iintro Ht
  iapply (wait_dma I K c 26 20 (b := 20) (b' := 21) rfl rfl (by decide) rfl (by decide +kernel) rfl rfl) $$ [HL]
  · isplitr; · iexact HI
    iexact HL
  iintro HL Hp
  ihave Hp := (show pay I 20 0 c ⊢ obP c (trow c 2) 256 fullShare I.Fn from .rfl) $$ Hp
  iapply (load_ob c 256 (trow c 2) (off_xl c 3) fullShare I.Fn) $$ Hp
  iintro Hp
  iapply (fill_out c 256 (trow c 2) (off_xl c 3) f I.Og _ rfl) $$ Hu
  iintro Hu
  iapply (wait_dma I K c 26 21 (b := 21) (b' := 22) rfl rfl (by decide) rfl (by decide +kernel) rfl rfl) $$ [HL]
  · isplitr; · iexact HI
    iexact HL
  iintro HL -
  iapply Hk $$ HL Hp Ht Hu

/-- The waits for what a device has sent: its pieces come back. -/
theorem part36_wp {Q : α → sProp 𝕄} {kk} :
    iprop(Inv I K ∗ Ledger (F := F) c 26 22 ∗ (Ledger (F := F) c 26 28 -∗ WPD c (kk ⟨⟩) Q))
      ⊢ WPD (F := F) (α := α) c (atBufs (k0_part36 (F := F)) c >>= kk) Q := by
  rw [k0_part36_eq_skeleton]
  unfold k0_part36_skel
  simp only [Prog.lift, Prog.bind_op, Prog.bind_ret, Prog.pure_eq_ret]
  iintro ⟨#HI, HL, Hk⟩
  iapply (wait_dma I K c 26 22 (b := 22) (b' := 23) rfl rfl (by decide) rfl (by decide +kernel) rfl rfl) $$ [HL]
  · isplitr; · iexact HI
    iexact HL
  iintro HL -
  iapply (wait_dma I K c 26 23 (b := 23) (b' := 24) rfl rfl (by decide) rfl (by decide +kernel) rfl rfl) $$ [HL]
  · isplitr; · iexact HI
    iexact HL
  iintro HL -
  iapply (wait_dma I K c 26 24 (b := 24) (b' := 25) rfl rfl (by decide) rfl (by decide +kernel) rfl rfl) $$ [HL]
  · isplitr; · iexact HI
    iexact HL
  iintro HL -
  iapply (wait_dma I K c 26 25 (b := 25) (b' := 26) rfl rfl (by decide) rfl (by decide +kernel) rfl rfl) $$ [HL]
  · isplitr; · iexact HI
    iexact HL
  iintro HL -
  iapply (wait_dma I K c 26 26 (b := 26) (b' := 27) rfl rfl (by decide) rfl (by decide +kernel) rfl rfl) $$ [HL]
  · isplitr; · iexact HI
    iexact HL
  iintro HL -
  iapply (wait_dma I K c 26 27 (b := 27) (b' := 28) rfl rfl (by decide) rfl (by decide +kernel) rfl rfl) $$ [HL]
  · isplitr; · iexact HI
    iexact HL
  iintro HL -
  iapply Hk $$ HL

theorem part37_wp {Q : α → sProp 𝕄} {kk} :
    iprop(Inv I K ∗ Ledger (F := F) c 26 28 ∗ (Ledger (F := F) c 26 34 -∗ obP c (srow c (zz c)) 64 qz0 I.Fn -∗ obP c (srow c (zz c)) 64 qz1 I.Fn
        -∗ obP c (srow c (zz c)) 64 qz2 I.Fn -∗ WPD c (kk ⟨⟩) Q))
      ⊢ WPD (F := F) (α := α) c (atBufs (k0_part37 (F := F)) c >>= kk) Q := by
  rw [k0_part37_eq_skeleton]
  unfold k0_part37_skel
  simp only [Prog.lift, Prog.bind_op, Prog.bind_ret, Prog.pure_eq_ret]
  iintro ⟨#HI, HL, Hk⟩
  iapply (wait_dma I K c 26 28 (b := 28) (b' := 29) rfl rfl (by decide) rfl (by decide +kernel) rfl rfl) $$ [HL]
  · isplitr; · iexact HI
    iexact HL
  iintro HL -
  iapply (wait_dma I K c 26 29 (b := 29) (b' := 30) rfl rfl (by decide) rfl (by decide +kernel) rfl rfl) $$ [HL]
  · isplitr; · iexact HI
    iexact HL
  iintro HL -
  iapply (wait_dma I K c 26 30 (b := 30) (b' := 31) rfl rfl (by decide) rfl (by decide +kernel) rfl rfl) $$ [HL]
  · isplitr; · iexact HI
    iexact HL
  iintro HL -
  iapply (wait_dma I K c 26 31 (b := 31) (b' := 32) rfl rfl (by decide) rfl (by decide +kernel) rfl rfl) $$ [HL]
  · isplitr; · iexact HI
    iexact HL
  iintro HL H0
  iapply (wait_dma I K c 26 32 (b := 32) (b' := 33) rfl rfl (by decide) rfl (by decide +kernel) rfl rfl) $$ [HL]
  · isplitr; · iexact HI
    iexact HL
  iintro HL H1
  iapply (wait_dma I K c 26 33 (b := 33) (b' := 34) rfl rfl (by decide) rfl (by decide +kernel) rfl rfl) $$ [HL]
  · isplitr; · iexact HI
    iexact HL
  iintro HL H2
  iapply Hk $$ HL [H0] [H1] [H2]
  · iapply (show pay I 31 0 c ⊢ obP c (srow c (zz c)) 64 qz0 I.Fn from .rfl) $$ H0
  · iapply (show pay I 32 0 c ⊢ obP c (srow c (zz c)) 64 qz1 I.Fn from .rfl) $$ H1
  · iapply (show pay I 33 0 c ⊢ obP c (srow c (zz c)) 64 qz2 I.Fn from .rfl) $$ H2

theorem part38_wp {Q : α → sProp 𝕄} {kk} :
    iprop(Inv I K ∗ Ledger (F := F) c 26 34
      ∗ (Ledger (F := F) c 26 40 -∗ (obP c (mrow c 3) 256 qx I.Fn ∗ obP c (mrow c 3) 256 qy I.Fn) -∗ (obP c (mrow c 0) 256 qx I.Fn ∗ obP c (mrow c 0) 256 qy I.Fn)
        -∗ (obP c (mrow c 1) 256 qx I.Fn ∗ obP c (mrow c 1) 256 qy I.Fn) -∗ WPD c (kk ⟨⟩) Q))
      ⊢ WPD (F := F) (α := α) c (atBufs (k0_part38 (F := F)) c >>= kk) Q := by
  rw [k0_part38_eq_skeleton]
  unfold k0_part38_skel
  simp only [Prog.lift, Prog.bind_op, Prog.bind_ret, Prog.pure_eq_ret]
  iintro ⟨#HI, HL, Hk⟩
  iapply (wait_dma I K c 26 34 (b := 34) (b' := 35) rfl rfl (by decide) rfl (by decide +kernel) rfl rfl) $$ [HL]
  · isplitr; · iexact HI
    iexact HL
  iintro HL H0
  iapply (wait_dma I K c 26 35 (b := 35) (b' := 36) rfl rfl (by decide) rfl (by decide +kernel) rfl rfl) $$ [HL]
  · isplitr; · iexact HI
    iexact HL
  iintro HL H1
  iapply (wait_dma I K c 26 36 (b := 36) (b' := 37) rfl rfl (by decide) rfl (by decide +kernel) rfl rfl) $$ [HL]
  · isplitr; · iexact HI
    iexact HL
  iintro HL H2
  iapply (wait_dma I K c 26 37 (b := 37) (b' := 38) rfl rfl (by decide) rfl (by decide +kernel) rfl rfl) $$ [HL]
  · isplitr; · iexact HI
    iexact HL
  iintro HL H3
  iapply (wait_dma I K c 26 38 (b := 38) (b' := 39) rfl rfl (by decide) rfl (by decide +kernel) rfl rfl) $$ [HL]
  · isplitr; · iexact HI
    iexact HL
  iintro HL H4
  iapply (wait_dma I K c 26 39 (b := 39) (b' := 40) rfl rfl (by decide) rfl (by decide +kernel) rfl rfl) $$ [HL]
  · isplitr; · iexact HI
    iexact HL
  iintro HL H5
  iapply Hk $$ HL [H0 H1] [H2 H3] [H4 H5]
  · isplitl [H0]; · iapply (show pay I 34 0 c ⊢ obP c (mrow c 3) 256 qx I.Fn from .rfl) $$ H0
    iapply (show pay I 35 0 c ⊢ obP c (mrow c 3) 256 qy I.Fn from .rfl) $$ H1
  · isplitl [H2]; · iapply (show pay I 36 0 c ⊢ obP c (mrow c 0) 256 qx I.Fn from .rfl) $$ H2
    iapply (show pay I 37 0 c ⊢ obP c (mrow c 0) 256 qy I.Fn from .rfl) $$ H3
  · isplitl [H4]; · iapply (show pay I 38 0 c ⊢ obP c (mrow c 1) 256 qx I.Fn from .rfl) $$ H4
    iapply (show pay I 39 0 c ⊢ obP c (mrow c 1) 256 qy I.Fn from .rfl) $$ H5

end Cert.MoeProof
-- ==== Proof.Body.lean ====
/-
# The kernel's body

The parts in order: from a device's inputs, its untouched buffers and its semaphores to the finished
result, with every buffer whole again.
-/
module

public import proofs.«01_k».proof.Proof.Parts3

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 42 → ℕ) (c : Dev nD) {α : Type}

/-- The four shares of a finished strip. -/
theorem ob_four (a : ℕ) (f : FVec F S2048x1024 .bf16) :
    obP c a 256 fullShare f = iprop(obP c a 256 qL f ∗ obP c a 256 qx f ∗ obP c a 256 qy f ∗ obP c a 256 qk f) := by
  show bufP (F := F) cc0_scratch0 c _ _ f = _
  rw [halves (b := cc0_scratch0) c fullShare f, halves (b := cc0_scratch0) c qR f, halves (b := cc0_scratch0) c qR.right f]

/-- The four shares of all of a device's own half. -/
theorem ob_four' (a : ℕ) (f : FVec F S2048x1024 .bf16) :
    obP c a 1024 fullShare f = iprop(obP c a 1024 qL f ∗ obP c a 1024 qx f ∗ obP c a 1024 qy f ∗ obP c a 1024 qk f) := by
  show bufP (F := F) cc0_scratch0 c _ _ f = _
  rw [halves (b := cc0_scratch0) c fullShare f, halves (b := cc0_scratch0) c qR f, halves (b := cc0_scratch0) c qR.right f]

/-- The shares in which a quarter goes to the other boards. -/
theorem ob_quarter (a : ℕ) (f : FVec F S2048x1024 .bf16) :
    obP c a 64 fullShare f = iprop((obP c a 64 qz0 f ∗ obP c a 64 qz1 f ∗ obP c a 64 qz2 f) ∗ obP c a 64 qR f) := by
  show bufP (F := F) cc0_scratch0 c _ _ f = _
  rw [halves (b := cc0_scratch0) c fullShare f, halves (b := cc0_scratch0) c qL f, halves (b := cc0_scratch0) c qL.right f]

theorem ob_two (a : ℕ) (f : FVec F S2048x1024 .bf16) :
    obP c a 64 fullShare f = iprop(obP c a 64 qL f ∗ obP c a 64 qR f) := halves (b := cc0_scratch0) c fullShare f _

theorem ob_left (a : ℕ) (f : FVec F S2048x1024 .bf16) :
    obP c a 64 qL f = iprop(obP c a 64 qz0 f ∗ obP c a 64 qz1 f ∗ obP c a 64 qz2 f) := by
  show bufP (F := F) cc0_scratch0 c _ _ f = _
  rw [halves (b := cc0_scratch0) c qL f, halves (b := cc0_scratch0) c qL.right f]

theorem ob_three (a : ℕ) (f : FVec F S2048x1024 .bf16) :
    obP c a 256 qR f = iprop(obP c a 256 qx f ∗ obP c a 256 qy f ∗ obP c a 256 qk f) := by
  show bufP (F := F) cc0_scratch0 c _ _ f = _
  rw [halves (b := cc0_scratch0) c qR f, halves (b := cc0_scratch0) c qR.right f]

/-- The own half at a share, from its strips. -/
theorem half_of (q : PosShare TreeShare) (f : FVec F S2048x1024 .bf16) :
    iprop(obP c (mrow c 0) 256 q f ∗ obP c (mrow c 1) 256 q f ∗ obP c (mrow c 2) 256 q f ∗ obP c (mrow c 3) 256 q f)
      ⊢ obP c (1024 * xc c) 1024 q f := Entails.of_eq (ob_half c q f).symm

/-- The working buffer, whole again. -/
theorem ob_again (f : FVec F S2048x1024 .bf16) :
    iprop((obP c (1024 * xc c) 1024 qL f ∗ obP c (1024 * xc c) 1024 qx f ∗ obP c (1024 * xc c) 1024 qy f ∗ obP c (1024 * xc c) 1024 qk f)
      ∗ obP c (trow c 0) 256 fullShare f ∗ obP c (trow c 1) 256 fullShare f ∗ obP c (trow c 2) 256 fullShare f ∗ obP c (trow c 3) 256 fullShare f)
      ⊢ bufP (F := F) cc0_scratch0 c Finset.univ fullShare f := by
  rw [ob_whole, ob_four', ob_other]

/-- What a device has when it is done: the result everywhere, in its result's buffer and in the
    working buffer, and what it received. -/
def Done (c : Dev nD) : sProp 𝕄 :=
  iprop(Data I c ∗ wP c (I.w c) ∗ bufP (F := F) cc0_stg3_0 c Finset.univ fullShare I.Og ∗ bufP (F := F) cc0_scratch0 c Finset.univ fullShare I.Fn
    ∗ bufP (F := F) cc0_scratch2 c Finset.univ fullShare (I.XSt c) ∗ bufP (F := F) cc0_scratch3 c Finset.univ fullShare (I.YSt c)
    ∗ bufP (F := F) cc0_scratch4 c Finset.univ fullShare (I.ZSt c))

/-- What a device begins with, besides its inputs: buffers of any contents. -/
def Begun (c : Dev nD) (fo : FVec F S2048x1024 .f32) (fw : FVec F S4x512x1024 .bf16) : sProp 𝕄 :=
  iprop(wbP c (wbUpTo 0 (WB I.w c) fw)
    ∗ (outP c (1024 * xc c) 1024 fo ∗ outP c (trow c 0) 256 fo ∗ outP c (trow c 1) 256 fo ∗ outP c (trow c 2) 256 fo ∗ outP c (trow c 3) 256 fo)
    ∗ (someOb (F := F) c (mrow c 0) 256 ∗ someOb (F := F) c (mrow c 1) 256 ∗ someOb (F := F) c (mrow c 2) 256 ∗ someOb (F := F) c (mrow c 3) 256)
    ∗ (someOb (F := F) c (trow c 0) 256 ∗ someOb (F := F) c (trow c 1) 256 ∗ someOb (F := F) c (trow c 2) 256 ∗ someOb (F := F) c (trow c 3) 256)
    ∗ (someXs (F := F) c (xrow c 0) ∗ someXs (F := F) c (xrow c 1) ∗ someXs (F := F) c (xrow c 2) ∗ someXs (F := F) c (xrow c 3))
    ∗ (someYs (F := F) c 0 ∗ someYs (F := F) c 1 ∗ someYs (F := F) c 2)
    ∗ (someZs (F := F) c (zsi c 0).val ∗ someZs (F := F) c (zsi c 1).val ∗ someZs (F := F) c (zsi c 2).val))

theorem part39_wp (fo : FVec F S2048x1024 .f32) (fw : FVec F S4x512x1024 .bf16) {Q : α → sProp 𝕄} {kk} :
    iprop(Inv I K ∗ Ledger (F := F) c 0 0 ∗ xP c (I.x c) ∗ rP (F := F) c (I.r c) ∗ wP c (I.w c) ∗ Begun I c fo fw
      ∗ (∀ v24 : BitVec 32, ∀ v26 : BitVec 32, ∀ v28 : BitVec 32, ∀ v30 : BitVec 32, Ledger (F := F) c 28 41 -∗ Done I c -∗ WPD c (kk ⟨c, v24, v26, v28, v30, 1#32⟩) Q))
      ⊢ WPD (α := α) c (atBufs (k0_part39 (F := F)) >>= kk) Q := by
  rw [k0_part39_eq_skeleton]
  unfold k0_part39_skel Begun
  simp only [semSignalWord, Prog.lift, Prog.bind_op, Prog.bind_ret, Prog.bind_assoc, Prog.pure_eq_ret]
  iintro ⟨#HI, HL, Hdx, Hdr, Hw, ⟨Hwb, ⟨Hfo, Hf0, Hf1, Hf2, Hf3⟩, ⟨Hm0, Hm1, Hm2, Hm3⟩, ⟨Ht0, Ht1, Ht2, Ht3⟩, Hx, Hy, Hz⟩, Hk⟩
  iapply (part1_wp c)
  iintro %v3 %v7 %v8 %v12 %v18 %v24 %v26 %v28 %v30
  iapply (part2_wp I K c _ _ _ _ _ _ _)
  isplitr; · iexact HI
  isplitl [HL]; · iexact HL
  isplitl [Hx]; · iexact Hx
  isplitl [Hy]; · iexact Hy
  isplitl [Hz]; · iexact Hz
  isplitl [Hw]; · iexact Hw
  isplitl [Hwb]; · iexact Hwb
  iintro HL ⟨Hx0, Hx1, Hx2, Hx3⟩ ⟨Hy0, Hy1, Hy2⟩ ⟨Hz0, Hz1, Hz2⟩ Hw Hwb
  iapply (part3_wp I c _ _ _)
  isplitl [Hdx]; · iexact Hdx
  isplitl [Hdr]; · iexact Hdr
  isplitl [Hw]; · iexact Hw
  isplitl [Hwb]; · iexact Hwb
  iintro %_ %_ %_ %_ HD Hw
  iapply (part4_wp I c)
  isplitl [HD]; · iexact HD
  iintro HD
  iapply (part5_wp I K c _ _ _ _ _)
  isplitr; · iexact HI
  isplitl [HL]; · iexact HL
  isplitl [HD]; · iexact HD
  isplitl [Ht0]; · iexact Ht0
  isplitl [Hx0]; · iexact Hx0
  iintro %_ HL HD
  iapply (part6_wp I c)
  isplitl [HD]; · iexact HD
  iintro HD
  iapply (part7_wp I K c _ _ _ _)
  isplitr; · iexact HI
  isplitl [HL]; · iexact HL
  isplitl [HD]; · iexact HD
  isplitl [Hm0]; · iexact Hm0
  iintro %_ HL HD Hm0 Hxs0 Hp0
  iapply (part8_wp I K c _ _ _ _)
  isplitr; · iexact HI
  isplitl [HL]; · iexact HL
  isplitl [HD]; · iexact HD
  isplitl [Hm0]; · iexact Hm0
  isplitl [Hy0]; · iexact Hy0
  iintro %_ %_ HL HD
  iapply (part9_wp I c _)
  isplitl [HD]; · iexact HD
  isplitl [Ht1]; · iexact Ht1
  iintro HD Ht1
  iapply (part10_wp I K c _ _ _ _)
  isplitr; · iexact HI
  isplitl [HL]; · iexact HL
  isplitl [HD]; · iexact HD
  isplitl [Ht1]; · iexact Ht1
  isplitl [Hx1]; · iexact Hx1
  iintro %_ HL HD
  iapply (part11_wp I c _)
  isplitl [HD]; · iexact HD
  isplitl [Hm1]; · iexact Hm1
  iintro HD Hm1
  iapply (part12_wp I K c _ _ _ _)
  isplitr; · iexact HI
  isplitl [HL]; · iexact HL
  isplitl [Hm1]; · iexact Hm1
  iintro HL Hm1 Hxs1 Hp1 Hys0 Hc
  iapply (part13_wp I K c _ _ _ _ _ ((shapeCast_self _ _).trans (pay_y I.x I.r I.w c 0)))
  isplitr; · iexact HI
  isplitl [HL]; · iexact HL
  isplitl [HD]; · iexact HD
  isplitl [Hm1]; · iexact Hm1
  isplitl [Hy1]; · iexact Hy1
  isplitl [Hc]; · iexact Hc
  iintro %_ %_ HL HD
  iapply (part14_wp I c _ _ _ _ _)
  isplitl [HD]; · iexact HD
  iintro HD
  iapply (part15_wp I K c _ _ _ _ _ _ _ _ _ _ (their_P I c 2))
  isplitr; · iexact HI
  isplitl [HL]; · iexact HL
  isplitl [HD]; · iexact HD
  isplitl [Ht2]; · iexact Ht2
  isplitl [Hx2]; · iexact Hx2
  iintro %_ HL HD
  iapply (part16_wp I c _ _ _ _ _ _)
  isplitl [HD]; · iexact HD
  iintro HD
  iapply (part17_wp I K c _ _ _ _ _ _ _ (mine_P I c 2))
  isplitr; · iexact HI
  isplitl [HL]; · iexact HL
  isplitl [Hm2]; · iexact Hm2
  iintro %_ HL Hm2 Hxs2 Hp2 Hys1 Hc
  iapply (part18_wp I K c _ _ _ _ _)
  isplitr; · iexact HI
  isplitl [HL]; · iexact HL
  isplitl [HD]; · iexact HD
  isplitl [Hm2]; · iexact Hm2
  isplitl [Hys1]; · iexact Hys1
  isplitl [Hy2]; · iexact Hy2
  isplitl [Hc]; · iexact Hc
  iintro %_ %_ HL HD Hys1
  iapply (part19_wp I c _ _ _ _ _)
  isplitl [HD]; · iexact HD
  iintro HD
  iapply (part20_wp I K c _ _ _ _ _ _ _ _ _ (their_P I c 3))
  isplitr; · iexact HI
  isplitl [HL]; · iexact HL
  isplitl [HD]; · iexact HD
  isplitl [Ht3]; · iexact Ht3
  isplitl [Hx3]; · iexact Hx3
  iintro %_ HL HD
  iapply (part21_wp I c _ _ _ _ _)
  isplitl [HD]; · iexact HD
  iintro HD
  iapply (part22_wp I K c _ _ _ _ _ _ _ _ (mine_P I c 3))
  isplitr; · iexact HI
  isplitl [HL]; · iexact HL
  isplitl [HD]; · iexact HD
  isplitl [Hm3]; · iexact Hm3
  iintro %_ HL HD Hm3 Hxs3 Hp3
  iapply (part23_wp I K c _ _ _ _ _)
  isplitr; · iexact HI
  isplitl [HL]; · iexact HL
  isplitl [Hm3]; · iexact Hm3
  isplitl [Hz0]; · iexact Hz0
  iintro %_ %_ HL Ho H1 H2 Hys2 Hq3 Hc
  iapply (part24_wp I K c _ _ _ _ _ _)
  isplitr; · iexact HI
  isplitl [HL]; · iexact HL
  isplitl [H1]; · iexact H1
  isplitl [H2]; · iexact H2
  isplitl [Hz1]; · iexact Hz1
  isplitl [Hz2]; · iexact Hz2
  iintro HL
  iapply (part25_wp I K c _ _ _)
  isplitr; · iexact HI
  isplitl [HL]; · iexact HL
  iintro %_ HL Hz0 Hz1 Hz2 ⟨Hd0, Hd1, Hd2⟩
  iapply (part26_wp I c _ _ _ _ _)
  isplitl [Ho]; · iexact Ho
  isplitl [Hz0]; · iexact Hz0
  isplitl [Hz1]; · iexact Hz1
  isplitl [Hz2]; · iexact Hz2
  iintro Ho Hz0 Hz1 Hz2
  ihave ⟨⟨Ha, Hb, Hc'⟩, Ho⟩ := (Entails.of_eq (ob_quarter c (srow c (zz c)) I.Fn)) $$ Ho
  iapply (part27_wp I K c _ _ _ _)
  isplitr; · iexact HI
  isplitl [HL]; · iexact HL
  isplitl [Ha]; · iexact Ha
  isplitl [Hb]; · iexact Hb
  isplitl [Hd0]; · iexact Hd0
  isplitl [Hd1]; · iexact Hd1
  iintro %_ HL
  iapply (part28_wp I K c _ _ _ _ _ _)
  isplitr; · iexact HI
  isplitl [HL]; · iexact HL
  isplitl [Hc']; · iexact Hc'
  isplitl [Hd2]; · iexact Hd2
  iintro %_ HL Hg0
  iapply (part29_wp I K c _ _ _ _ _ _ _)
  isplitr; · iexact HI
  isplitl [HL]; · iexact HL
  iintro HL Hg1 Hg2
  ihave ⟨Hl0, Hg0⟩ := (Entails.of_eq (ob_two c (srow c (zz (zpeer 0 c))) I.Fn)) $$ Hg0
  ihave ⟨Hl1, Hg1⟩ := (Entails.of_eq (ob_two c (srow c (zz (zpeer 1 c))) I.Fn)) $$ Hg1
  ihave ⟨Hl2, Hg2⟩ := (Entails.of_eq (ob_two c (srow c (zz (zpeer 2 c))) I.Fn)) $$ Hg2
  ihave Hm3 := (Entails.of_eq (ob_parts (F := F) c qR I.Fn).symm) $$ [Ho Hg0 Hg1 Hg2]
  · isplitl [Ho]; · iexact Ho
    isplitl [Hg0]; · iexact Hg0
    isplitl [Hg1]; · iexact Hg1
    iexact Hg2
  ihave ⟨Hm3X, Hm3Y, Hm3K⟩ := (Entails.of_eq (ob_three c (mrow c 3) I.Fn)) $$ Hm3
  iapply (part30_wp I K c _ _ _ _)
  isplitr; · iexact HI
  isplitl [HL]; · iexact HL
  isplitl [Hm3X]; · iexact Hm3X
  isplitl [Hm3Y]; · iexact Hm3Y
  isplitl [Hp3]; · iexact Hp3
  isplitl [Hq3]; · iexact Hq3
  isplitl [Hc]; · iexact Hc
  iintro HL Hm0 Hq0 Hc
  ihave ⟨Hm0L, Hm0X, Hm0Y, Hm0K⟩ := (Entails.of_eq (ob_four c (mrow c 0) I.Fn)) $$ Hm0
  iapply (part31_wp I K c _ _ _)
  isplitr; · iexact HI
  isplitl [HL]; · iexact HL
  isplitl [Hm0X]; · iexact Hm0X
  isplitl [Hm0Y]; · iexact Hm0Y
  isplitl [Hp0]; · iexact Hp0
  isplitl [Hq0]; · iexact Hq0
  isplitl [Hc]; · iexact Hc
  iintro HL Hm1 Hq1
  ihave ⟨Hm1L, Hm1X, Hm1Y, Hm1K⟩ := (Entails.of_eq (ob_four c (mrow c 1) I.Fn)) $$ Hm1
  iapply (part32_wp I K c _ _ _ _ _)
  isplitr; · iexact HI
  isplitl [HL]; · iexact HL
  isplitl [Hm1X]; · iexact Hm1X
  isplitl [Hm1Y]; · iexact Hm1Y
  isplitl [Hp1]; · iexact Hp1
  isplitl [Hq1]; · iexact Hq1
  iintro HL Hm2
  ihave ⟨Hm2L, Hm2X, Hm2Y, Hm2K⟩ := (Entails.of_eq (ob_four c (mrow c 2) I.Fn)) $$ Hm2
  ihave HK := (half_of c qk I.Fn) $$ [Hm0K Hm1K Hm2K Hm3K]
  · isplitl [Hm0K]; · iexact Hm0K
    isplitl [Hm1K]; · iexact Hm1K
    isplitl [Hm2K]; · iexact Hm2K
    iexact Hm3K
  iapply (part33_wp I K c _ _ _ _ _)
  isplitr; · iexact HI
  isplitl [HL]; · iexact HL
  isplitl [Hm2X]; · iexact Hm2X
  isplitl [Hp2]; · iexact Hp2
  isplitl [HK]; · iexact HK
  isplitl [Hfo]; · iexact Hfo
  isplitl [Hf3]; · iexact Hf3
  iintro HL HK Hfo Ht3 Hf3
  iapply (part34_wp I K c _ _ _ _ _)
  isplitr; · iexact HI
  isplitl [HL]; · iexact HL
  isplitl [Hf0]; · iexact Hf0
  iintro %_ HL Ht0 Ht1 Hf0
  iapply (part35_wp I K c _ _ _ _ _)
  isplitr; · iexact HI
  isplitl [HL]; · iexact HL
  isplitl [Hf1]; · iexact Hf1
  isplitl [Hf2]; · iexact Hf2
  iintro HL Ht2 Hf1 Hf2
  iapply (part36_wp I K c)
  isplitr; · iexact HI
  isplitl [HL]; · iexact HL
  iintro HL
  iapply (part37_wp I K c)
  isplitr; · iexact HI
  isplitl [HL]; · iexact HL
  iintro HL Ha Hb Hc'
  iapply (part38_wp I K c)
  isplitr; · iexact HI
  isplitl [HL]; · iexact HL
  iintro HL ⟨Hm3X, Hm3Y⟩ ⟨Hm0X, Hm0Y⟩ ⟨Hm1X, Hm1Y⟩
  iapply (wait_dma I K c 26 40 (b := 40) (b' := 41) rfl rfl (by decide) rfl (by decide +kernel) rfl rfl) $$ [HL]
  · isplitr; · iexact HI
    iexact HL
  iintro HL Hm2X
  ihave Hm2X := (show pay I 40 0 c ⊢ obP c (mrow c 2) 256 qx I.Fn from .rfl) $$ Hm2X
  iapply (sig_event I K c 26 (pX c) rfl (dev_X c).2.2.2.2.2.2.2.2.2 (a := 26) (a' := 27) (b := 41) rfl rfl (by decide) rfl rfl (by revert c; decide +kernel) iprop(emp) .rfl) $$ [HL]
  · isplitr; · iexact HI
    isplitl [HL]; · iexact HL
    iempintro
  iintro HL
  iapply (sig_event I K c 27 (pY c) rfl (dev_Y c).2.2.2.2.2.2.2 (a := 27) (a' := 28) (b := 41) rfl rfl (by decide) rfl rfl (by revert c; decide +kernel) iprop(emp) .rfl) $$ [HL]
  · isplitr; · iexact HI
    isplitl [HL]; · iexact HL
    iempintro
  iintro HL
  iapply Hk $$ HL
  ihave Hml := (Entails.of_eq (ob_left c (srow c (zz c)) I.Fn).symm) $$ [Ha Hb Hc']
  · isplitl [Ha]; · iexact Ha
    isplitl [Hb]; · iexact Hb
    iexact Hc'
  ihave Hm3L := (Entails.of_eq (ob_parts (F := F) c qL I.Fn).symm) $$ [Hml Hl0 Hl1 Hl2]
  · isplitl [Hml]; · iexact Hml
    isplitl [Hl0]; · iexact Hl0
    isplitl [Hl1]; · iexact Hl1
    iexact Hl2
  ihave HLs := (half_of c qL I.Fn) $$ [Hm0L Hm1L Hm2L Hm3L]
  · isplitl [Hm0L]; · iexact Hm0L
    isplitl [Hm1L]; · iexact Hm1L
    isplitl [Hm2L]; · iexact Hm2L
    iexact Hm3L
  ihave HX := (half_of c qx I.Fn) $$ [Hm0X Hm1X Hm2X Hm3X]
  · isplitl [Hm0X]; · iexact Hm0X
    isplitl [Hm1X]; · iexact Hm1X
    isplitl [Hm2X]; · iexact Hm2X
    iexact Hm3X
  ihave HY := (half_of c qy I.Fn) $$ [Hm0Y Hm1Y Hm2Y Hm3Y]
  · isplitl [Hm0Y]; · iexact Hm0Y
    isplitl [Hm1Y]; · iexact Hm1Y
    isplitl [Hm2Y]; · iexact Hm2Y
    iexact Hm3Y
  unfold Done
  isplitl [HD]; · iexact HD
  isplitl [Hw]; · iexact Hw
  isplitl [Hfo Hf0 Hf1 Hf2 Hf3]
  · iapply (Entails.of_eq (out_whole (F := F) c I.Og).symm)
    isplitl [Hfo]; · iexact Hfo
    isplitl [Hf0]; · iexact Hf0
    isplitl [Hf1]; · iexact Hf1
    isplitl [Hf2]; · iexact Hf2
    iexact Hf3
  isplitl [HX HY HK HLs Ht0 Ht1 Ht2 Ht3]
  · iapply (ob_again c I.Fn)
    isplitl [HX HY HK HLs]
    · isplitl [HLs]; · iexact HLs
      isplitl [HX]; · iexact HX
      isplitl [HY]; · iexact HY
      iexact HK
    isplitl [Ht0]; · iexact Ht0
    isplitl [Ht1]; · iexact Ht1
    isplitl [Ht2]; · iexact Ht2
    iexact Ht3
  isplitl [Hxs0 Hxs1 Hxs2 Hxs3]
  · iapply (Entails.of_eq (xs_whole (F := F) c (I.XSt c)).symm)
    isplitl [Hxs0]; · iexact Hxs0
    isplitl [Hxs1]; · iexact Hxs1
    isplitl [Hxs2]; · iexact Hxs2
    iexact Hxs3
  isplitl [Hys0 Hys1 Hys2]
  · iapply (Entails.of_eq (ys_whole (F := F) c (I.YSt c)).symm)
    isplitl [Hys0]; · iexact Hys0
    isplitl [Hys1]; · iexact Hys1
    iexact Hys2
  iapply (Entails.of_eq (zs_whole (F := F) c (I.ZSt c)).symm)
  isplitl [Hz0]; · iexact Hz0
  isplitl [Hz1]; · iexact Hz1
  iexact Hz2

/-- The body, from beginning to end. -/
theorem body_wp (fo : FVec F S2048x1024 .f32) (fw : FVec F S4x512x1024 .bf16) {Q : PUnit → sProp 𝕄} :
    iprop(Inv I K ∗ Ledger (F := F) c 0 0 ∗ xP c (I.x c) ∗ rP (F := F) c (I.r c) ∗ wP c (I.w c) ∗ Begun I c fo fw
      ∗ (Ledger (F := F) c 32 42 -∗ Done I c -∗ Q ⟨⟩))
      ⊢ WPD c (atBufs (cc0__moe_body (F := F))) Q := by
  rw [cc0__moe_body_eq_skeleton]
  unfold cc0__moe_body_skel
  simp only [semSignalWord, semWaitWord, Prog.lift, Prog.bind_op, Prog.bind_ret, Prog.bind_assoc, Prog.pure_eq_ret]
  iintro ⟨#HI, HL, Hdx, Hdr, Hw, HB, Hk⟩
  iapply (part39_wp I K c fo fw)
  isplitr; · iexact HI
  isplitl [HL]; · iexact HL
  isplitl [Hdx]; · iexact Hdx
  isplitl [Hdr]; · iexact Hdr
  isplitl [Hw]; · iexact Hw
  isplitl [HB]; · iexact HB
  iintro %_ %_ %_ %_ HL HD
  iapply (sig_event I K c 28 (pYb c) rfl (dev_Yb c).2 (a := 28) (a' := 29) (b := 41) rfl rfl (by decide) rfl rfl (by revert c; decide +kernel) iprop(emp) .rfl) $$ [HL]
  · isplitr; · iexact HI
    isplitl [HL]; · iexact HL
    iempintro
  iintro HL
  iapply (sig_event I K c 29 (pZ 0 c) rfl (dev_Z0 c).2.2.2 (a := 29) (a' := 30) (b := 41) rfl rfl (by decide) rfl rfl (by revert c; decide +kernel) iprop(emp) .rfl) $$ [HL]
  · isplitr; · iexact HI
    isplitl [HL]; · iexact HL
    iempintro
  iintro HL
  iapply (sig_event I K c 30 (pZ 1 c) rfl (dev_Z1 c).2.2.2 (a := 30) (a' := 31) (b := 41) rfl rfl (by decide) rfl rfl (by revert c; decide +kernel) iprop(emp) .rfl) $$ [HL]
  · isplitr; · iexact HI
    isplitl [HL]; · iexact HL
    iempintro
  iintro HL
  iapply (sig_event I K c 31 (pZ 2 c) rfl (dev_Z2 c).2.2.2 (a := 31) (a' := 32) (b := 41) rfl rfl (by decide) rfl rfl (by revert c; decide +kernel) iprop(emp) .rfl) $$ [HL]
  · isplitr; · iexact HI
    isplitl [HL]; · iexact HL
    iempintro
  iintro HL
  iapply (wait_reg I K c 32 41 (b := 41) (b' := 42) rfl rfl (by decide) (by decide +kernel) rfl rfl iprop(emp) (by
    iintro -; iempintro)) $$ [HL]
  · isplitr; · iexact HI
    iexact HL
  iintro HL -
  unfold WPD
  rw [wp_ret]
  imodintro
  iapply Hk $$ HL HD

end Cert.MoeProof
-- ==== Proof.Ghost.lean ====
/-
# The rounds at launch

The rounds of all the devices' semaphores are opened at launch; each device then holds the right to
make its own payments, its positions at its own semaphores, and the credits for what the others will
send it.
-/
module

public import proofs.«01_k».proof.Proof.Body
public import Idealize.ShloMosaic.Lib.Pipeline.Launch
public import Idealize.ShloMosaic.Lib.Pipeline.Kit

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

abbrev EP : Emb (UR sig nD τ) (MT nD τ sig Unit (Elt F) ℕ UU ℕ) := embL

/-! ## Who makes which payment -/

/-- The device and the number of the payment that payer `u` makes at position `k` of device `d`. -/
def pback (d : Dev nD) (k u : ℕ) : Dev nD × Fin 32 :=
  match k, u with
  | 0, 0 => (pX d, 0) | 0, 1 => (pYb d, 1) | 0, 2 => (pY d, 2) | 0, 3 => (pZ 2 d, 3) | 0, 4 => (pZ 1 d, 4) | 0, _ => (pZ 0 d, 5)
  | 41, 0 => (pX d, 26) | 41, 1 => (pYb d, 27) | 41, 2 => (pY d, 28) | 41, 3 => (pZ 2 d, 29) | 41, 4 => (pZ 1 d, 30) | 41, _ => (pZ 0 d, 31)
  | 1, _ => (pX d, 6) | 2, _ => (pX d, 8) | 4, _ => (pX d, 10) | 6, _ => (pX d, 12)
  | 3, _ => (pYb d, 7) | 5, _ => (pYb d, 9) | 7, _ => (pYb d, 11)
  | 8, _ => (zpeer 0 d, 13 + zfrom 0 d) | 9, _ => (zpeer 1 d, 13 + zfrom 1 d) | 10, _ => (zpeer 2 d, 13 + zfrom 2 d)
  | 11, _ => (zpeer 0 d, 16 + zfrom 0 d) | 12, _ => (zpeer 1 d, 16 + zfrom 1 d) | 13, _ => (zpeer 2 d, 16 + zfrom 2 d)
  | 14, _ => (pYb d, 20) | 15, _ => (pYb d, 22) | 16, _ => (pYb d, 24)
  | 17, _ => (pX d, 19) | 18, _ => (pX d, 21) | 19, _ => (pX d, 23) | _, _ => (pX d, 25)
where
  /-- Which of its transfers across the planes fills slot `i` of device `d`. -/
  zfrom (i : Fin 3) (d : Dev nD) : Fin 32 :=
    if pZ 0 (zpeer i d) = d then 0 else if pZ 1 (zpeer i d) = d then 1 else 2

theorem pback_of : ∀ (c : Dev nD) (e : Fin 32), pback (ptgt c e.val) (pcell c e.val).val (pduty e.val).val = (c, e) := by decide +kernel
theorem of_pback : ∀ (d : Dev nD) (k : Fin 42), k ∈ ksCred 0 0 → ∀ u ∈ cduties k,
    ptgt (pback d k.val u.val).1 (pback d k.val u.val).2.val = d ∧ pcell (pback d k.val u.val).1 (pback d k.val u.val).2.val = k
      ∧ pduty (pback d k.val u.val).2.val = u := by decide +kernel
theorem pduty_mem : ∀ (c : Dev nD) (e : Fin 32), pduty e.val ∈ cduties (pcell c e.val) := by decide +kernel
theorem pcell_range : ∀ (c : Dev nD) (e : Fin 32), (pcell c e.val).val ≤ 20 ∨ (pcell c e.val).val = 41 := by decide +kernel
theorem evs_zero : evs 0 = Finset.univ := by decide +kernel
theorem ksFrom_zero : ksFrom 0 = Finset.univ := by decide +kernel
theorem ksTo_zero : ksTo 0 = ∅ := by decide +kernel
theorem ksTo_end : ksTo 42 = Finset.univ := by decide +kernel

theorem ctot_eq (k : Fin 42) : ctot k = ∑ _u ∈ cduties k, camt k := by
  rw [Finset.sum_const, smul_eq_mul]
  unfold cduties ctot
  by_cases h : k.val = 0 ∨ k.val = 41
  · rw [if_pos h, if_pos h, camt, if_pos h]; rfl
  · rw [if_neg h, if_neg h, Finset.card_singleton, Nat.one_mul]

/-- All that the devices owe a semaphore is what it is waited for. -/
theorem owed_all (c : Dev nD) (k : Fin 42) (hk : k ∈ ksCred 0 0) : ∑ d : Dev nD, Ob d 0 (kcell (c, k)) () = ctot k := by
  have h1 : ∀ d : Dev nD, Ob d 0 (kcell (c, k)) () = ∑ e : Fin 32, if (ptgt d e.val, pcell d e.val) = (c, k) then camt k else 0 := fun d => by
    unfold Ob
    rw [evs_zero, Finset.sum_apply, Finsupp.finset_sum_apply]
    refine Finset.sum_congr rfl fun e _ => ?_
    rw [tallyAt_apply]
    by_cases h : (ptgt d e.val, pcell d e.val) = (c, k)
    · rw [if_pos h, if_pos ⟨by rw [h], rfl⟩, (Prod.mk.inj h).2]
    · rw [if_neg h, if_neg fun h' => h (kcell_injective h'.1.symm)]
  rw [Finset.sum_congr rfl fun d _ => h1 d, ← Fintype.sum_prod_type' (f := fun (d : Dev nD) (e : Fin 32) => if (ptgt d e.val, pcell d e.val) = (c, k) then camt k else 0),
    ← Finset.sum_filter, ctot_eq]
  refine Finset.sum_nbij' (fun x => pduty x.2.val) (fun u => pback c k.val u.val) ?_ ?_ ?_ ?_ ?_
  · intro x hx
    obtain ⟨-, h⟩ := Finset.mem_filter.1 hx
    rw [← (Prod.mk.inj h).2]
    exact pduty_mem _ _
  · intro u hu
    obtain ⟨ha, hb, -⟩ := of_pback c k hk u hu
    exact Finset.mem_filter.2 ⟨Finset.mem_univ _, by rw [ha, hb]⟩
  · intro x hx
    obtain ⟨-, h⟩ := Finset.mem_filter.1 hx
    obtain ⟨ha, hb⟩ := Prod.mk.inj h
    have := pback_of x.1 x.2
    rw [ha, hb] at this
    exact this
  · intro u hu
    exact (of_pback c k hk u hu).2.2
  · intro _ _; rfl

/-! ## The cells and the tokens -/

def allCells : Finset (GSem nD τ sig) := Finset.univ.map ⟨kcell, kcell_injective⟩

/-- The token of a payment. -/
def payTok (x : Dev nD × Fin 32) : GSem nD τ sig × ℕ × Fin 6 := (kcell (ptgt x.1 x.2.val, pcell x.1 x.2.val), 0, pduty x.2.val)
theorem payTok_inj : Function.Injective payTok := by
  rintro ⟨c, e⟩ ⟨c', e'⟩ h
  have h1 := kcell_injective (congrArg Prod.fst h)
  have h2 : pduty e.val = pduty e'.val := congrArg (fun y : GSem nD τ sig × ℕ × Fin 6 => y.2.2) h
  have h3 := pback_of c e
  rw [(Prod.mk.inj h1).1, (Prod.mk.inj h1).2, h2] at h3
  exact h3.symm.trans (pback_of c' e')

/-- The semaphores by which a sender learns that its rows have been read. -/
def outK : Fin 20 ↪ Fin 42 := ⟨fun i => ⟨21 + i.val, by omega⟩, fun i j h => Fin.ext (by have := congrArg Fin.val h; simp only at this; omega)⟩
theorem outK_all : Finset.univ.map outK = esSend 0 := by decide +kernel
/-- The token of such a semaphore. -/
def outTok (x : Dev nD × Fin 20) : GSem nD τ sig × ℕ × Fin 6 := (kcell (x.1, outK x.2), 0, 0)
theorem outTok_inj : Function.Injective outTok := by
  rintro ⟨c, i⟩ ⟨c', i'⟩ h
  have h1 := kcell_injective (congrArg Prod.fst h)
  exact Prod.ext (Prod.mk.inj h1).1 (outK.injective (Prod.mk.inj h1).2)

def payToks : Finset (GSem nD τ sig × ℕ × Fin 6) := Finset.univ.map ⟨payTok, payTok_inj⟩
def outToks : Finset (GSem nD τ sig × ℕ × Fin 6) := Finset.univ.map ⟨outTok, outTok_inj⟩
theorem toks_apart : Disjoint payToks outToks := by
  refine Finset.disjoint_left.2 fun x hx hy => ?_
  obtain ⟨⟨c, e⟩, -, rfl⟩ := Finset.mem_map.1 hx
  obtain ⟨⟨c', i⟩, -, h⟩ := Finset.mem_map.1 hy
  have h1 := (Prod.mk.inj (kcell_injective (congrArg Prod.fst h))).2
  have h2 := pcell_range c e
  have h3 : 21 + i.val = (pcell c e.val).val := congrArg Fin.val h1
  have := i.isLt
  omega

def u₀ : UU := (initOf (Pipeline.cells cfgs cellOf_inj) (Pipeline.launchToks cfgs cellOf_inj), initOf allCells (payToks ∪ outToks))

/-! ## What each device is dealt -/

variable (I : Ins F)

/-- A device's tokens. -/
def toks (c : Dev nD) : sProp 𝕄 :=
  iprop(bigSep (evs 0) (fun e => dutyTok ER (kcell (ptgt c e.val, pcell c e.val)) 0 (pduty e.val))
    ∗ bigSep (esSend 0) (fun k => dutyTok ER (kcell (c, k)) 0 (0 : Fin 6)))

def G (c : Dev nD) : sProp 𝕄 :=
  iprop((bigSep Finset.univ fun k : Fin 42 => roundState ER (Rd I) (kcell (c, k)) 0)
    ∗ (bigSep Finset.univ fun k : Fin 42 => iprop(atPos ER (kcell (c, k)) 0 ∅ 0 ∗ reached ER (kcell (c, k)) 0)) ∗ toks c)

/-- The rounds are opened. -/
theorem fund_all : BI.own (ER (initOf allCells (payToks ∪ outToks))) ⊢ (|==> bigSep Finset.univ (G I) : sProp 𝕄) := by
  have hX (Φ : GSem nD τ sig → sProp 𝕄) : bigSep allCells Φ = bigSep Finset.univ fun c : Dev nD => bigSep Finset.univ fun k : Fin 42 => Φ (kcell (c, k)) := by
    unfold allCells; rw [bigSep_map, bigSep_univ_prod]; rfl
  have hT : bigSep (payToks ∪ outToks) (fun x => (dutyTok ER x.1 x.2.1 x.2.2 : sProp 𝕄)) = bigSep Finset.univ fun c : Dev nD => toks c := by
    rw [bigSep_union toks_apart]
    unfold payToks outToks toks
    rw [bigSep_map, bigSep_univ_prod, bigSep_map, bigSep_univ_prod, bigSep_sep', evs_zero, ← outK_all]
    congr 1
  iintro HX
  imod (Rounds.fund ER (Rd I) allCells (payToks ∪ outToks)) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores of a launch's own: all but the entry barrier's. -/
abbrev osem (k : Fin 41) : SemLoc sig := csem k.succ

theorem sems_eq (c : Dev nD) :
    iprop(Pipeline.ownSems0 (Ix := Unit) (Name := ℕ) (U := UU) (Lvl := ℕ) (Val := Elt F) (τ := τ) osem c ∗ unscopedSems0 c)
      = (bigSep Finset.univ fun k : Fin 42 => semVal (kcell (c, k)) 0 : sProp 𝕄) := by
  have hu : (unscopedSems0 c : sProp 𝕄) = semVal (kcell (c, 0)) 0 := by
    unfold unscopedSems0
    rw [bigSep_eq_bigSepL_of_eq [csem 0] (by decide +kernel) (by decide +kernel)]; rfl
  have ho : (Pipeline.ownSems0 (Ix := Unit) (Name := ℕ) (U := UU) (Lvl := ℕ) (Val := Elt F) (τ := τ) osem c : sProp 𝕄)
      = bigSep Finset.univ fun k : Fin 41 => semVal (kcell (c, k.succ)) 0 := rfl
  have hc : ∀ A B : sProp 𝕄, iprop(A ∗ B) ⊢ iprop(B ∗ A) := fun A B => by
    iintro ⟨H, H'⟩
    isplitl [H'] <;> iassumption
  rw [hu, ho, Fin.univ_succ (n := 41), Finset.cons_eq_insert, bigSep_ins (by simp), bigSep_map]
  exact BI.Entails.antisymm (hc _ _) (hc _ _)

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c)) $$ [Hos Hus]
  · isplitl [Hos] <;> iassumption
  imod (show iprop((bigSep Finset.univ fun k : Fin 42 => semVal (kcell (c, k)) 0) ∗ bigSep Finset.univ fun k : Fin 42 => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all the devices know: the invariants, and that the rounds are open. -/
def records (K : Dev nD × Fin 42 → ℕ) : sProp 𝕄 :=
  iprop((bigSep Finset.univ fun ck : Dev nD × Fin 42 => cellInv ER (Rd I) (K ck) (kcell ck))
    ∗ bigSep Finset.univ fun ck : Dev nD × Fin 42 => reached ER (kcell ck) 0)
instance records_persistent (K : Dev nD × Fin 42 → ℕ) : BI.Persistent (records I K) := by unfold records; infer_instance

/-- A device's own: its positions and its tokens. -/
def linear (c : Dev nD) : sProp 𝕄 := iprop((bigSep Finset.univ fun k : Fin 42 => atPos ER (kcell (c, k)) 0 ∅ 0) ∗ toks c)

def G' (c : Dev nD) : sProp 𝕄 := iprop(∃ K, records I K ∗ linear c)

theorem ghost_intro (K : Dev nD × Fin 42 → ℕ) (c : Dev nD) : iprop(records I K ∗ linear (F := F) c) ⊢ G' I c := by
  unfold G'
  iintro H
  iexists K
  iexact H

theorem regroup :
    (bigSep Finset.univ fun c : Dev nD => iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × Fin 42 => iprop(∃ κ : ℕ, cellInv ER (Rd I) κ (kcell ck))),
    bigSep_congr (s := Finset.univ) (fun (c : Dev nD) _ => bigSep_sep' Finset.univ (fun k : Fin 42 => (atPos ER (kcell (c, k)) 0 ∅ 0 : sProp 𝕄)) (fun k => reached ER (kcell (c, k)) 0)),
    bigSep_sep', ← bigSep_univ_prod (fun ck : Dev nD × Fin 42 => (reached ER (kcell ck) 0 : sProp 𝕄))]
  iintro ⟨HI, ⟨Hat, #HR⟩, Htok⟩
  ihave HK := (BI.bigSep_exists_pi Finset.univ (fun (ck : Dev nD × Fin 42) (κ : ℕ) => (cellInv ER (Rd I) κ (kcell ck) : sProp 𝕄))) $$ HI
  icases HK with ⟨%K, #HI⟩
  have hall : iprop(records I K ∗ bigSep Finset.univ fun c : Dev nD => linear (F := F) c) ⊢ bigSep Finset.univ (G' I) :=
    (sep_mono_left (BI.bigSep_of_persistent Finset.univ (records I K))).trans (by
      rw [← bigSep_sep']
      exact bigSep_mono fun c _ => ghost_intro I K c)
  iapply hall
  isplitr
  · unfold records; isplitl; · iexact HI
    iexact HR
  unfold linear
  rw [bigSep_sep']
  isplitl [Hat]; · iexact Hat
  iexact Htok

/-- The invariants of all the devices' semaphores are made at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-- What the devices owe at launch. -/
def O₀ (c : Dev nD) : CellTallies nD τ sig Unit := Ob c 0

/-- A device's credits for what it will be sent. -/
theorem creds (c : Dev nD) : (Pipeline.launchCred O₀ c : sProp 𝕄) ⊢ bigSep (ksCred 0 0) (fun k => cred (tallyAt (kcell (c, k)) () (ctot k))) := by
  unfold Pipeline.launchCred
  have hinj : Function.Injective csem := fun k k' h => csem_inj k k' h
  refine (BI.bigSep_subset (t := (ksCred 0 0).map ⟨csem, hinj⟩) (Finset.subset_univ _)).trans ?_
  rw [bigSep_map]
  refine bigSep_mono fun k hk => Entails.of_eq (congrArg cred ?_)
  show tallyOn (kcell (c, k)) (launchCredit (Pipeline.owing O₀) 0 (kcell (c, k))) = tallyAt (kcell (c, k)) () (ctot k)
  unfold tallyAt
  refine congrArg _ (Finsupp.ext fun u => ?_)
  cases u
  rw [Pipeline.launchCredit_owing, Finsupp.single_eq_same]
  exact owed_all c k hk

end Cert.MoeProof
-- ==== Proof.Launch.lean ====
/-
# The run

The kernel's launch on every device: what a device starts from, what its body leaves, and what the
arrays hold at the end.
-/
module

public import proofs.«01_k».proof.Proof.Ghost
public import Idealize.ShloMosaic.Lib.Pipeline.Value
public import Idealize.ShloMosaic.Lib.Pipeline.CollectiveSegs
public import Idealize.ShloMosaic.Lib.Quiescent
public import proofs.«01_k».proof.Proof.Gen.KernelIdeal.Points

@[expose] public section

set_option maxRecDepth 8000

noncomputable section

namespace Cert.MoeProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The arrays the devices are given. -/
def ins : Ins F where
  x c := m ((c : Thread nD τ).loc main_arg0)
  r c := m ((c : Thread nD τ).loc main_arg2)
  w c := m ((c : Thread nD τ).loc main_arg3)

def s₀ : MemSt nD τ sig (Elt F) := ⟨m, fun _ => 0, ρ⟩

/-! ## The windows are the whole arrays -/

theorem read_0 (f : Vec F S2048x512 .f32) : (win0_0.blk t0_0).view.read (Elt F) f = f := by
  have e : ∀ a, win0_0.index t0_0 a * win0_0.size a = 0 := by decide +kernel
  funext i
  refine congrArg f (funext fun a => Fin.ext ?_)
  show win0_0.index t0_0 a * win0_0.size a + 1 * (i a).val = (i a).val
  rw [e a, Nat.zero_add, Nat.one_mul]
theorem read_1 (f : Vec F S2048x1 .i32) : (win0_1.blk t0_0).view.read (Elt F) f = f := by
  have e : ∀ a, win0_1.index t0_0 a * win0_1.size a = 0 := by decide +kernel
  funext i
  refine congrArg f (funext fun a => Fin.ext ?_)
  show win0_1.index t0_0 a * win0_1.size a + 1 * (i a).val = (i a).val
  rw [e a, Nat.zero_add, Nat.one_mul]
theorem read_2 (f : Vec F S4x512x1024 .f32) : (win0_2.blk t0_0).view.read (Elt F) f = f := by
  have e : ∀ a, win0_2.index t0_0 a * win0_2.size a = 0 := by decide +kernel
  funext i
  refine congrArg f (funext fun a => Fin.ext ?_)
  show win0_2.index t0_0 a * win0_2.size a + 1 * (i a).val = (i a).val
  rw [e a, Nat.zero_add, Nat.one_mul]
theorem read_3 (f : Vec F S2048x1024 .f32) : (win0_3.blk t0_0).view.read (Elt F) f = f := by
  have e : ∀ a, win0_3.index t0_0 a * win0_3.size a = 0 := by decide +kernel
  funext i
  refine congrArg f (funext fun a => Fin.ext ?_)
  show win0_3.index t0_0 a * win0_3.size a + 1 * (i a).val = (i a).val
  rw [e a, Nat.zero_add, Nat.one_mul]

/-! ## What a device starts from -/

/-- What a device holds besides its buffers when its body begins. -/
def start (c : Dev nD) : sProp 𝕄 :=
  iprop((∃ K, Inv (ins m) K) ∗ toks (F := F) c ∗ (bigSep Finset.univ fun k : Fin 42 => atPos ER (kcell (c, k)) 0 ∅ 0)
    ∗ bigSep (ksCred 0 0) (fun k => cred (tallyAt (kcell (c, k)) () (ctot k))))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).r c
    | ⟨2, _⟩ => (ins m).w c
    | ⟨3, _⟩ => (ins m).Og
  Φ t := match t with
    | ⟨0, _⟩ => iprop(start m c ∗ Pipeline.scopedRest cfg0.spec c)
    | ⟨_ + 1, _⟩ => iprop((bigSep Finset.univ fun k : Fin 42 => semVal (kcell (c, k)) 0) ∗ Pipeline.scopedRest cfg0.spec c)
  q _ := fullShare
  owed t := match t with
    | ⟨0, _⟩ => Ob c 0
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m ρ 0 c).before (0 : Fin 4) t0_0 d = (ins m).x c := by
  unfold Dat.before; rw [if_pos (fetch0_0 t0_0)]; exact read_0 (F := F) _
theorem before_1 (c : Dev nD) (d) : (dats m ρ 0 c).before (1 : Fin 4) t0_0 d = (ins m).r c := by
  unfold Dat.before; rw [if_pos (fetch0_1 t0_0)]; exact read_1 (F := F) _
theorem before_2 (c : Dev nD) (d) : (dats m ρ 0 c).before (2 : Fin 4) t0_0 d = (ins m).w c := by
  unfold Dat.before; rw [if_pos (fetch0_2 t0_0)]; exact read_2 (F := F) _

def bodyPre (c : Dev nD) : sProp 𝕄 :=
  iprop((start m c ∗ Pipeline.scopedRest cfg0.spec c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(((bigSep Finset.univ fun k : Fin 42 => semVal (kcell (c, k)) 0) ∗ Pipeline.scopedRest cfg0.spec c)
    ∗ (dats m ρ 0 c).owesAt () t0_0.succ
    ∗ stg c cc0_stg0_0 ((ins m).x c) ∗ stg c cc0_stg1_0 ((ins m).r c) ∗ stg c cc0_stg2_0 ((ins m).w c) ∗ stg c cc0_stg3_0 (ins m).Og)

/-- What is owed when the body begins. -/
theorem owes_begin (c : Dev nD) : (dats m ρ 0 c).owesAt () t0_0.castSucc ⊢ (iprop(∃ W, owes (c : Thread nD τ) (Ob c 0) W) : sProp 𝕄) := by
  unfold Dat.owesAt Pipeline.owesWithin
  iintro ⟨%W, -, H⟩
  iexists W
  iexact H
/-- What is owed when it ends: nothing. -/
theorem owes_end (c : Dev nD) (W : Waits sig Unit) : (owes (c : Thread nD τ) (Ob c 32) W : sProp 𝕄) ⊢ (dats m ρ 0 c).owesAt () t0_0.succ := by
  rw [Ob_end]
  unfold Dat.owesAt Pipeline.owesWithin
  iintro H
  iexists W
  isplitr
  · ipureintro; exact fun _ _ => Or.inl trivial
  iexact H

/-- The buffers a device begins with, cut into the pieces its body works on. -/
theorem begun (c : Dev nD) (fo : FVec F S2048x1024 .f32) (fw : FVec F S4x512x1024 .bf16) (f0 : FVec F S2048x1024 .bf16)
    (f2 : FVec F S1024x1024 .bf16) (f3 : FVec F S3x256x1024 .bf16) (f4 : FVec F S3x64x1024 .bf16) :
    iprop(bufP (F := F) cc0_stg3_0 c Finset.univ fullShare fo ∗ bufP (F := F) cc0_scratch0 c Finset.univ fullShare f0
      ∗ wbP c fw ∗ bufP (F := F) cc0_scratch2 c Finset.univ fullShare f2 ∗ bufP (F := F) cc0_scratch3 c Finset.univ fullShare f3
      ∗ bufP (F := F) cc0_scratch4 c Finset.univ fullShare f4) ⊢ Begun (ins m) c fo fw := by
  unfold Begun
  rw [wbUpTo_zero, out_whole, ob_whole, xs_whole, ys_whole, zs_whole, ob_half, ob_other, zsi_slots c fun k => zsP (F := F) c k f4]
  unfold someOb someXs someYs someZs
  iintro ⟨Ho, ⟨⟨M0, M1, M2, M3⟩, T0, T1, T2, T3⟩, Hw, ⟨X0, X1, X2, X3⟩, ⟨Y0, Y1, Y2⟩, Z0, Z1, Z2⟩
  isplitl [Hw]; · iexact Hw
  isplitl [Ho]; · iexact Ho
  isplitl [M0 M1 M2 M3]
  · isplitl [M0]; · iexists f0; iexact M0
    isplitl [M1]; · iexists f0; iexact M1
    isplitl [M2]; · iexists f0; iexact M2
    iexists f0; iexact M3
  isplitl [T0 T1 T2 T3]
  · isplitl [T0]; · iexists f0; iexact T0
    isplitl [T1]; · iexists f0; iexact T1
    isplitl [T2]; · iexists f0; iexact T2
    iexists f0; iexact T3
  isplitl [X0 X1 X2 X3]
  · isplitl [X0]; · iexists f2; iexact X0
    isplitl [X1]; · iexists f2; iexact X1
    isplitl [X2]; · iexists f2; iexact X2
    iexists f2; iexact X3
  isplitl [Y0 Y1 Y2]
  · isplitl [Y0]; · iexists f3; iexact Y0
    isplitl [Y1]; · iexists f3; iexact Y1
    iexists f3; iexact Y2
  isplitl [Z0]; · iexists f4; iexact Z0
  isplitl [Z1]; · iexists f4; iexact Z1
  iexists f4; iexact Z2

/-- The body, from what a device starts from. -/
theorem sound_body (c : Dev nD) : bodyPre m ρ c ⊢ WPD c (atBufs (cc0__moe_body (F := F))) (fun _ => bodyPost m ρ c) := by
  unfold bodyPre start toks
  rw [scopedRest0_eq]
  simp only [before_0, before_1, before_2]
  iintro ⟨⟨⟨⟨%K, #HI⟩, ⟨HT, HS⟩, Hat, HC⟩, ⟨%f0, B0⟩, ⟨%f1, B1⟩, ⟨%f2, B2⟩, ⟨%f3, B3⟩, ⟨%f4, B4⟩⟩, HO, ⟨%d0, %g0, %e0, Hx⟩, ⟨%d1, %g1, %e1, Hr⟩, ⟨%d2, %g2, %e2, Hw⟩, ⟨%d3, %g3, %e3, Ho⟩⟩
  subst e0 e1 e2
  ihave HO := (owes_begin m ρ c) $$ HO
  iapply (body_wp (ins m) K c g3 f1)
  isplitr; · iexact HI
  isplitl [HO HT HS Hat HC]
  · unfold Ledger
    rw [ksFrom_zero, ksTo_zero]
    isplitl [HO]; · iexact HO
    isplitl [HT]; · iexact HT
    isplitl [HS]; · iexact HS
    isplitl [Hat]; · iexact Hat
    isplitr
    · rw [BI.bigSep_empty]; iempintro
    iexact HC
  isplitl [Hx]; · iexact Hx
  isplitl [Hr]; · iexact Hr
  isplitl [Hw]; · iexact Hw
  isplitl [B0 B1 B2 B3 B4 Ho]
  · iapply (begun m c g3 f1 f0 f2 f3 f4)
    isplitl [Ho]; · iexact Ho
    isplitl [B0]; · iexact B0
    isplitl [B1]; · iexact B1
    isplitl [B2]; · iexact B2
    isplitl [B3]; · iexact B3
    iexact B4
  unfold Ledger Done Data bodyPost
  rw [ksTo_end, scopedRest0_eq]
  iintro ⟨⟨%W, HO⟩, -, -, -, HV, -⟩ ⟨⟨Hx, Hr, Hwb⟩, Hw, Ho, B0, B2, B3, B4⟩
  isplitl [HV Hwb B0 B2 B3 B4]
  · isplitl [HV]; · iexact HV
    isplitl [B0]; · iexists (ins m).Fn; iexact B0
    isplitl [Hwb]; · iexists (WB (ins m).w c); iexact Hwb
    isplitl [B2]; · iexists ((ins m).XSt c); iexact B2
    isplitl [B3]; · iexists ((ins m).YSt c); iexact B3
    iexists ((ins m).ZSt c); iexact B4
  isplitl [HO]
  · iapply (owes_end m ρ c W); iexact HO
  isplitl [Hx]
  · iexists ((ins m).x c); isplitr; · ipureintro; rfl
    iexact Hx
  isplitl [Hr]
  · iexists ((ins m).r c); isplitr; · ipureintro; rfl
    iexact Hr
  isplitl [Hw]
  · iexists ((ins m).w c); isplitr; · ipureintro; rfl
    iexact Hw
  iexists (ins m).Og; isplitr; · ipureintro; rfl
  iexact Ho

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem ownSemFacts : Pipeline.OwnSemFacts cfg0.spec osem :=
  ⟨by decide +kernel, fun k k' h => Fin.succ_injective _ (csem_inj _ _ h), by decide +kernel⟩

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ (((c : Thread nD τ).loc main_arg1) ↦{fullShare} m ((c : Thread nD τ).loc main_arg1))) := by
  rw [Pipeline.unscopedRestP_none, unscopedRest0_eq]
  have hl : (levAts L lv : sProp 𝕄) ⊢ Lev := Entails.of_eq (by unfold Lev; rfl)
  iintro ⟨Harg, Hlev, Hcr, -, HG⟩
  ihave Hc := (creds (F := F) c) $$ Hcr
  ihave Hl := hl $$ Hlev
  imodintro
  unfold start G' records linear Inv
  icases HG with ⟨%K, ⟨HI, HR⟩, Hat, Ht⟩
  isplitr [Harg]
  · isplitl [HI HR Hl]
    · iexists K
      isplitl [HI]; · iexact HI
      isplitl [HR]; · iexact HR
      iexact Hl
    isplitl [Ht]; · iexact Ht
    isplitl [Hat]; · iexact Hat
    iexact Hc
  iexact Harg

theorem phi_begin (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ Pipeline.scopedRest cfg0.spec c) from rfl]
  iintro ⟨Hs, -, Hr⟩
  isplitl [Hs] <;> iassumption

theorem phi_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop((bigSep Finset.univ fun k : Fin 42 => semVal (kcell (c, k)) 0) ∗ Pipeline.scopedRest cfg0.spec c) from rfl,
    ← sems_eq]
  iintro ⟨⟨Ho, Hu⟩, Hr⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hl : (levAts L lv : sProp 𝕄) ⊢ Lev := Entails.of_eq (by unfold Lev; rfl)
    rcases t with ⟨_ | _, ht⟩
    · exact hl.trans (mayWait c _ 0 0 (by fin_cases w <;> fin_cases s <;> exact le_refl 0) fun e _ => Nat.succ_pos _)
    · show _ ⊢ MayWait _ _ _ 0
      rw [MayWait_zero]; iintro -; iempintro

/-- The result array at the end. -/
theorem final_out (c : Dev nD) : (dats m ρ 0 c).arrAt (3 : Fin 4) cfg0.N = (ins m).Og :=
  (dats m ρ 0 c).arrAt_eq_of_cover (3 : Fin 4) (ins m).Og
    (fun t _ => by
      rw [fin_N0 t]
      exact (read_3 _).symm)
    (fun i => by
      refine ⟨t0_0, flush0_3 _, ?_⟩
      show i ∈ ((View.whole main_v1).slice (win0_3.rect t0_0)).set
      rw [View.set_slice_whole, Rect.mem_set_unit]
      have e : ∀ a, win0_3.index t0_0 a * win0_3.size a = 0 ∧ win0_3.xsize (grid0.coords t0_0) a = S2048x1024.size a := by
        decide +kernel
      intro a
      show win0_3.index t0_0 a * win0_3.size a ≤ (i a : Nat) ∧ (i a : Nat) < win0_3.index t0_0 a * win0_3.size a + win0_3.xsize (grid0.coords t0_0) a
      rw [(e a).1, (e a).2, Nat.zero_add]
      exact ⟨Nat.zero_le _, (i a).isLt⟩)

/-- What the argument left outside the kernel holds at the end. -/
theorem read_end (c : Dev nD) (s' : Phys nD τ sig (Elt F)) :
    iprop(unscopedSems0 c ∗ (((c : Thread nD τ).loc main_arg1) ↦{fullShare} m ((c : Thread nD τ).loc main_arg1)) ∗ SI s')
      ⊢ (|={Set.univ}=> iprop(⌜s'.mem.mem ((c : Thread nD τ).loc main_arg1) = m ((c : Thread nD τ).loc main_arg1)
        ∧ ∀ sm : SemLoc sig, sm.isScoped .tc = false → s'.mem.sem ((c.tc : Thread nD τ), sm) = 0⌝ ∗ SI s') : sProp 𝕄) := by
  iintro ⟨Hu, Harg, HSI⟩
  icombine HSI Harg gives %h
  imod (Pipeline.unscopedSems0_read (X := unscopedSems0 c) (c := c) fupd_intro s') $$ [Hu HSI] with ⟨%h2, HSI⟩
  · isplitl [Hu] <;> iassumption
  imodintro
  isplitr
  · ipureintro; exact ⟨funext fun i => h i (Finset.mem_univ i), h2⟩
  iexact HSI

/-- From any memory with every semaphore at zero, every execution of the kernel on the thirty-two
    devices ends, with the result on every device as stated, the arguments unchanged, and every
    semaphore at zero. -/
theorem run_main : θ_run defs (onTc (τ := τ) (main (F := F))) (s₀ m ρ) (fun r =>
    (∀ c : Dev nD, r.2.mem ((c : Thread nD τ).loc main_v1) = (ins m).Og
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_all (ins m)) $$ HX with HG
      imodintro
      isplitl [HP] <;> iassumption)
    (hglob := glob (ins m))
    (hA := fun _ _ => rfl) (hpf := fun _ k => k.elim0)
    (X := start m) (Y := fun c => unscopedSems0 c) (Z := fun c => iprop(((c : Thread nD τ).loc main_arg1) ↦{fullShare} m ((c : Thread nD τ).loc main_arg1)))
    (hX := start_intro m ρ) (hin := phi_begin m ρ) (hout := phi_end m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := read_end m)
    (hQ := fun _ h hs => ⟨fun c => ⟨((h c).1 (3 : Fin 4)).trans (final_out m ρ c),
        ((h c).1 (0 : Fin 4)).trans ((dats m ρ 0 c).arrAt_in (0 : Fin 4) rfl _), (h c).2.2.1,
        ((h c).1 (1 : Fin 4)).trans ((dats m ρ 0 c).arrAt_in (1 : Fin 4) rfl _),
        ((h c).1 (2 : Fin 4)).trans ((dats m ρ 0 c).arrAt_in (2 : Fin 4) rfl _)⟩,
      sem_eq_zero hs fun c => (h c).2.2.2⟩)

end Cert.MoeProof
-- ==== Proof.Value.lean ====
/-
# The kernel's result as a sum

At the ideal values a device's partial products are, row by row, the product with the expert the
row is routed to when that expert lives on the device, and zero otherwise. Every finished row is
the sum of the partial products of all 32 devices, so it is the product with its expert.
-/
module

public import proofs.«01_k».proof.Proof.Contents
public import Idealize.ShloMosaic.Lib.MatmulPlain
public import Idealize.ShloMosaic.Lib.Layout

@[expose] public section

noncomputable section

namespace Cert.MoeProof

open Cert.KernelIdeal Cert.KernelIdeal.Gen
open Idealize.ShloMosaic Idealize.ShloMosaic.TcCoe
open scoped BigOperators

/-- Row `t`'s activations times column `l` of expert `e`'s matrix. -/
def rowProd (x : Vec Ideal S2048x512 .f32) (W : (⟨3, ![128, 512, 1024]⟩ : Shape).Idx → EReal) (t : Fin 2048) (l : Fin 1024)
    (e : Fin 128) : EReal := ∑ d : Fin 512, x (ix2 t d) * W (ix3 e d l)

/-- Every row through the expert it names; zero where it names none. -/
def moe (x : Vec Ideal S2048x512 .f32) (r : Vec Ideal S2048x1 .i32) (W : (⟨3, ![128, 512, 1024]⟩ : Shape).Idx → EReal) :
    S2048x1024.Idx → EReal := fun i =>
  if h : (r (ix2 (i 0) 0)).toNat < 128 then rowProd x W (i 0) (i 1) ⟨_, h⟩ else 0

/-! ## One expert's product of one block -/

/-- The mask of a row: one where the row names the expert, zero elsewhere. -/
theorem mask_val (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by simp [IntOp.cmpi]
    rw [e]
    show (((1#32 : BitVec 32).toInt : ℝ) : EReal) = 1
    norm_num
  · rw [if_neg h]
    have e : (IntOp.cmpi .eq a b).setWidth 32 = 0#32 := by
      have hf : (a == b) = false := beq_eq_false_iff_ne.mpr h
      simp only [IntOp.cmpi, hf]; rfl
    rw [e]
    show (((0#32 : BitVec 32).toInt : ℝ) : EReal) = 0
    norm_num

/-- The masked product of a block with one expert's matrix, as the kernel writes it. -/
def term1 (xb : Vec Ideal S256x512 .f32) (rb : Vec Ideal S256x1 .i32) (w : BitVec 32) (w0 : Vec Ideal S1x512x1024 .bf16) :
    FVec Ideal S256x1024 .f32 :=
  matmul dot_S256x512_S512x1024_S256x1024_1_0_0_1_n_n none
    (mulf (k0_pay6 (F := Ideal) xb) (broadcastTo S256x512 (truncf .bf16 (sitofp .f32 (extui 32 (cmpi .eq (k0_pay7 (F := Ideal) rb) (broadcast S256x1 w)) natLt_1_32))
      bitsLt_bf16_f32) broadcasts_S256x1_S256x512))
    (shapeCast S512x1024 w0 shapeCasts_S1x512x1024_S512x1024 : FVec Ideal S512x1024 .bf16) (constant S256x1024 .f32 0x00000000#32)

/-- It is the row's product where the row names the expert, zero elsewhere. -/
theorem term1_apply (xb : Vec Ideal S256x512 .f32) (rb : Vec Ideal S256x1 .i32) (w : BitVec 32)
    (w0 : Vec Ideal S1x512x1024 .bf16) (t : Fin 256) (l : Fin 1024) :
    term1 xb rb w w0 (ix2 t l)
      = if rb (ix2 t 0) = w then ∑ d : Fin 512, (xb (ix2 t d) * w0 (ix3 0 d l) : EReal) else 0 := by
  unfold term1
  have hd : dot_S256x512_S512x1024_S256x1024_1_0_0_1_n_n = DotDims.plain 256 512 1024 := rfl
  rw [hd]
  refine (Ideal.matmul_plain_apply none _ _ _ t l).trans ?_
  have hi : ∀ {a b : ℕ} (p : Fin a) (q : Fin b), ValueIdx.ix2 p q = ix2 p q := fun _ _ => rfl
  simp only [hi]
  rw [show (constant S256x1024 .f32 0x00000000#32 : FVec Ideal S256x1024 .f32) (ix2 t l) = (0 : EReal) from Ideal.ofBits_zero_f32, zero_add]
  have hb : ∀ d : Fin 512, broadcastTo S256x512 (truncf .bf16 (sitofp .f32 (extui 32 (cmpi .eq (k0_pay7 (F := Ideal) rb) (broadcast S256x1 w)) natLt_1_32) : FVec Ideal S256x1 .f32)
      bitsLt_bf16_f32) broadcasts_S256x1_S256x512 (ix2 t d) = (if rb (ix2 t 0) = w then (1 : EReal) else 0) := by
    intro d
    refine (broadcastTo_apply _ _ _ (ix2 t 0) ?_).trans ?_
    · intro a
      match a with
      | ⟨0, _⟩ => rfl
      | ⟨1, _⟩ => rfl
    · have e7 : k0_pay7 (F := Ideal) rb = rb := by unfold k0_pay7; exact shapeCast_self _ _
      rw [e7]
      exact mask_val _ _
  have hx : ∀ d : Fin 512, (k0_pay6 (F := Ideal) xb) (ix2 t d) = xb (ix2 t d) := by
    intro d; unfold k0_pay6; rw [shapeCast_self]; rfl
  have hw : ∀ d : Fin 512, shapeCast S512x1024 w0 shapeCasts_S1x512x1024_S512x1024 (ix2 d l) = w0 (ix3 0 d l) := by
    intro d
    refine (shapeCast_dropUnit_apply ![512, 1024] w0 shapeCasts_S1x512x1024_S512x1024 (ix2 d l)).trans ?_
    congr 1
    funext a
    match a with
    | ⟨0, _⟩ => rfl
    | ⟨1, _⟩ => rfl
    | ⟨2, _⟩ => rfl
  by_cases h : rb (ix2 t 0) = w
  · rw [if_pos h]
    refine Finset.sum_congr rfl fun d _ => ?_
    rw [hw]
    refine congrArg (· * _) ?_
    refine (congrArg₂ (fun a b : EReal => a * b) (hx d) (hb d)).trans ?_
    rw [if_pos h, mul_one]
  · rw [if_neg h]
    refine Finset.sum_eq_zero fun d _ => ?_
    rw [hw]
    refine (congrArg (· * _) ((congrArg₂ (fun a b : EReal => a * b) (hx d) (hb d)).trans ?_)).trans (zero_mul _)
    rw [if_neg h, mul_zero]

/-- A block through four experts is the sum of the four masked products. -/
theorem comp_eq (w : BitVec 32) (xb : Vec Ideal S256x512 .f32) (rb : Vec Ideal S256x1 .i32) (w0 w1 w2 w3 : Vec Ideal S1x512x1024 .bf16)
    (j : S256x1024.Idx) :
    comp w xb rb w0 w1 w2 w3 j
      = ((((0 : EReal) + term1 xb rb (Scalar.addi (Scalar.muli 4#32 w) 0#32) w0 j) + term1 xb rb (Scalar.addi (Scalar.muli 4#32 w) 1#32) w1 j)
        + term1 xb rb (Scalar.addi (Scalar.muli 4#32 w) 2#32) w2 j) + term1 xb rb (Scalar.addi (Scalar.muli 4#32 w) 3#32) w3 j := by
  unfold comp k0_pay9 k0_pay8
  dsimp only
  rw [shapeCast_self]
  rw [← Ideal.ofBits_zero_f32]
  rfl

/-! ## A device's partial products -/

variable (xA : Dev nD → Vec Ideal S2048x512 .f32) (rA : Dev nD → Vec Ideal S2048x1 .i32) (wA : Dev nD → Vec Ideal S4x512x1024 .f32)

/-- The number of a device's `k`th expert, as the kernel computes it. -/
def eword (c : Dev nD) (k : Fin 4) : BitVec 32 := Scalar.addi (Scalar.muli 4#32 (wd c)) (BitVec.ofNat 32 k.val)

/-- It is four times the device's number plus `k`. -/
theorem eword_toNat : ∀ (c : Dev nD) (k : Fin 4), (eword c k).toNat = 4 * c.val + k.val := by decide +kernel

/-- A device's partial products are the products with those of its experts the row names. -/
theorem P_apply (c : Dev nD) (i : S2048x1024.Idx) :
    P xA rA wA c i = ∑ k : Fin 4, (if rA c (ix2 (i 0) 0) = eword c k
      then ∑ d : Fin 512, (xA c (ix2 (i 0) d) * wA c (ix3 k d (i 1)) : EReal) else 0) := by
  have h0 : (i 0).val < 2048 := (i 0).isLt
  have er : ∀ {C : ℕ} (l : Fin C), at2 2048 (by decide) (256 * ((i 0).val / 256) + (i 0).val % 256) l = ix2 (i 0) l := by
    intro C l
    unfold at2
    congr 1
    exact Fin.ext (by show (256 * ((i 0).val / 256) + (i 0).val % 256) % 2048 = (i 0).val; omega)
  have ex : ∀ d : Fin 512, xblk (256 * ((i 0).val / 256)) (xA c) (ix2 ⟨(i 0).val % 256, Nat.mod_lt _ (by decide)⟩ d)
      = xA c (ix2 (i 0) d) := fun d => congrArg (xA c) (er d)
  have ero : rblk (F := Ideal) (256 * ((i 0).val / 256)) (rA c) (ix2 ⟨(i 0).val % 256, Nat.mod_lt _ (by decide)⟩ 0)
      = rA c (ix2 (i 0) 0) := congrArg (rA c) (er 0)
  have et : ∀ k : Fin 4, term1 (xblk (256 * ((i 0).val / 256)) (xA c)) (rblk (F := Ideal) (256 * ((i 0).val / 256)) (rA c)) (eword c k)
      (wblk k (WB wA c)) (at2 256 (by decide) (i 0).val (i 1))
      = (if rA c (ix2 (i 0) 0) = eword c k then ∑ d : Fin 512, (xA c (ix2 (i 0) d) * wA c (ix3 k d (i 1)) : EReal) else 0) := by
    intro k
    refine (term1_apply _ _ _ _ _ _).trans ?_
    rw [ero]
    simp only [ex]
    rfl
  rw [Fin.sum_univ_four, ← et, ← et, ← et, ← et]
  refine (comp_eq _ _ _ _ _ _ _ _).trans ?_
  rw [zero_add]
  rfl

/-- On one device: the row's product if its expert lives there, zero otherwise. -/
theorem P_moe (x : Vec Ideal S2048x512 .f32) (r : Vec Ideal S2048x1 .i32) (W : (⟨3, ![128, 512, 1024]⟩ : Shape).Idx → EReal)
    (hx : ∀ c, xA c = x) (hr : ∀ c, rA c = r)
    (hw : ∀ c, wA c = Layout.block ⟨3, ![4, 512, 1024]⟩ ⟨3, ![128, 512, 1024]⟩ 0 32 c W) (c : Dev nD) (i : S2048x1024.Idx) :
    P xA rA wA c i = if (r (ix2 (i 0) 0)).toNat / 4 = c.val then moe x r W i else 0 := by
  have hc : c.val < 32 := c.isLt
  rw [P_apply, hx, hr, hw]
  by_cases h : (r (ix2 (i 0) 0)).toNat / 4 = c.val
  · rw [if_pos h, Finset.sum_eq_single (⟨(r (ix2 (i 0) 0)).toNat % 4, Nat.mod_lt _ (by decide)⟩ : Fin 4)]
    · have e : r (ix2 (i 0) 0) = eword c ⟨(r (ix2 (i 0) 0)).toNat % 4, Nat.mod_lt _ (by decide)⟩ :=
        BitVec.eq_of_toNat_eq (by rw [eword_toNat]; dsimp only; omega)
      rw [if_pos e]
      unfold moe
      rw [dif_pos (by omega)]
      unfold rowProd
      refine Finset.sum_congr rfl fun d _ => ?_
      rw [Layout.block_apply]
      congr 2
      funext b
      refine Fin.ext ?_
      rw [Layout.Tiles.idx_val]
      match b with
      | ⟨0, _⟩ =>
        show c.val * 4 + (r (ix2 (i 0) 0)).toNat % 4 = (r (ix2 (i 0) 0)).toNat
        omega
      | ⟨1, _⟩ => rfl
      | ⟨2, _⟩ => rfl
    · intro k _ hk
      refine if_neg fun e => hk (Fin.ext ?_)
      have := congrArg BitVec.toNat e
      rw [eword_toNat] at this
      have := k.isLt
      show k.val = _ % 4
      omega
    · exact fun hn => absurd (Finset.mem_univ _) hn
  · rw [if_neg h]
    refine Finset.sum_eq_zero fun k _ => if_neg fun e => h ?_
    have := congrArg BitVec.toNat e
    rw [eword_toNat] at this
    have := k.isLt
    omega

/-! ## The exchange adds every device once -/

/-- The devices whose partial products are in the ring's sum after `j` steps. -/
def inAcc : ℕ → Dev nD → List (Dev nD)
  | 0, c => [c, pX c]
  | j + 1, c => [c, pX c] ++ inAcc j (pYb c)

/-- The devices whose partial products are in a finished row. -/
def inZ (c : Dev nD) : List (Dev nD) := inAcc 3 c ++ inAcc 3 (zpeer 0 c) ++ inAcc 3 (zpeer 1 c) ++ inAcc 3 (zpeer 2 c)

/-- The ring's sum is the sum over those devices. -/
theorem Acc_sum (i : S2048x1024.Idx) : ∀ (j : ℕ) (c : Dev nD),
    Acc xA rA wA j c i = ((inAcc j c).map (fun d => (P xA rA wA d i : EReal))).sum
  | 0, c => by
    unfold inAcc
    rw [List.map_cons, List.map_cons, List.map_nil, List.sum_cons, List.sum_cons, List.sum_nil, add_zero]
    rfl
  | j + 1, c => by
    unfold inAcc
    rw [List.map_append, List.sum_append, ← Acc_sum i j (pYb c), List.map_cons, List.map_cons, List.map_nil,
      List.sum_cons, List.sum_cons, List.sum_nil, add_zero]
    rfl

/-- Every device is in a finished row once. -/
theorem inZ_nodup : ∀ c : Dev nD, (inZ c).Nodup := by decide +kernel
theorem inZ_all : ∀ c : Dev nD, (inZ c).toFinset = Finset.univ := by decide +kernel

/-- A finished row is the sum over all devices. -/
theorem Z_sum (c : Dev nD) (i : S2048x1024.Idx) : Z xA rA wA c i = ∑ d : Dev nD, (P xA rA wA d i : EReal) := by
  rw [← inZ_all c, List.sum_toFinset _ (inZ_nodup c)]
  unfold inZ
  rw [List.map_append, List.map_append, List.map_append, List.sum_append, List.sum_append, List.sum_append,
    ← Acc_sum, ← Acc_sum, ← Acc_sum, ← Acc_sum]
  rfl

/-- **The kernel's result: every row through the expert it names.** -/
theorem OutG_moe (x : Vec Ideal S2048x512 .f32) (r : Vec Ideal S2048x1 .i32) (W : (⟨3, ![128, 512, 1024]⟩ : Shape).Idx → EReal)
    (hx : ∀ c, xA c = x) (hr : ∀ c, rA c = r)
    (hw : ∀ c, wA c = Layout.block ⟨3, ![4, 512, 1024]⟩ ⟨3, ![128, 512, 1024]⟩ 0 32 c W) :
    OutG xA rA wA = moe x r W := by
  funext i
  refine (Z_sum xA rA wA (owner (i 0).val) i).trans ?_
  simp only [P_moe xA rA wA x r W hx hr hw]
  by_cases h : (r (ix2 (i 0) 0)).toNat < 128
  · have hq : (r (ix2 (i 0) 0)).toNat / 4 < 32 := by omega
    rw [Finset.sum_eq_single (⟨(r (ix2 (i 0) 0)).toNat / 4, hq⟩ : Dev nD)]
    · exact if_pos rfl
    · exact fun d _ hd => if_neg fun e => hd (Fin.ext e.symm)
    · exact fun hn => absurd (Finset.mem_univ _) hn
  · have h0 : moe x r W i = 0 := by unfold moe; exact dif_neg h
    rw [h0]
    exact Finset.sum_eq_zero fun d _ => ite_self _

end Cert.MoeProof
-- ==== Proof.RefValue.lean ====
/-
# The reference's result

The reference gathers each row's expert, multiplies row by row and keeps the rows whose expert
exists: every row through the expert it names.
-/
module

public import proofs.«01_k».proof.Proof.Value
public import proofs.«01_k».proof.Proof.Gen.ReferenceIdeal.Run
public import Idealize.ShloMosaic.Lib.IdealHost

@[expose] public section

noncomputable section

namespace Cert.MoeProof

open Cert.ReferenceIdeal Cert.ReferenceIdeal.Gen
open Idealize.ShloMosaic Idealize.ShloMosaic.TcCoe
open scoped BigOperators

/-- The gather at row `t`: the expert the row's word names, read signed and kept within range. -/
theorem gather_val (W : (⟨3, ![128, 512, 1024]⟩ : Shape).Idx → EReal) (ix : IVec S2048x1 32) (t : Fin 2048) (d : Fin 512) (l : Fin 1024) :
    Host.gather gather_S128x512x1024_S2048x1_S2048x512x1024_12_0_n_n_0_1_15121024 W ix (ix3 t d l)
      = W (ix3 ⟨min (ix (ix2 t 0)).toInt.toNat 127, by omega⟩ d l) := by
  unfold Host.gather
  congr 1
  funext a
  refine Fin.ext ?_
  show GatherDims.start _ _ ix a + GatherDims.batchCoord _ _ a + GatherDims.offCoord _ _ a = _
  rw [GatherDims.batchCoord_eq_zero _ _ _ List.not_mem_nil, Nat.add_zero]
  have hst : ∀ b : Fin 3, b ≠ 0 → gather_S128x512x1024_S2048x1_S2048x512x1024_12_0_n_n_0_1_15121024.start (ix3 t d l) ix b = 0 := by
    intro b hb
    unfold GatherDims.start
    exact dif_neg fun h => hb (List.mem_singleton.mp h)
  have hmem : ∀ b : Fin 3, b ≠ 0 → b ∈ gather_S128x512x1024_S2048x1_S2048x512x1024_12_0_n_n_0_1_15121024.sKept := by
    intro b hb
    exact (GatherDims.mem_sKept _ _).mpr ⟨fun h => hb (List.mem_singleton.mp h), List.not_mem_nil⟩
  have hcases : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases hcases with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S128x512x1024_S2048x1_S2048x512x1024_12_0_n_n_0_1_15121024.startIndexMap from List.mem_singleton.mpr rfl)]
    have hsi : ∀ h, gather_S128x512x1024_S2048x1_S2048x512x1024_12_0_n_n_0_1_15121024.siIdx (ix3 t d l) ⟨0, h⟩ = ix2 t 0 := by
      intro h
      funext b
      refine Fin.ext ?_
      match b with
      | ⟨0, _⟩ => rfl
      | ⟨1, _⟩ => rfl
    refine (congrArg (fun q => min (ix q).toInt.toNat 127) (hsi _)).trans ?_
    rfl
  · rw [hst 1 (by decide), Nat.zero_add]
    unfold GatherDims.offCoord
    rw [dif_pos (hmem 1 (by decide))]
    rfl
  · rw [hst 2 (by decide), Nat.zero_add]
    unfold GatherDims.offCoord
    rw [dif_pos (hmem 2 (by decide))]
    rfl

/-- The row-by-row product at an index. -/
theorem dot_val (x : Vec Ideal S2048x512 .f32) (G : Vec Ideal S2048x512x1024 .f32) (t : Fin 2048) (l : Fin 1024) :
    Host.dotGeneral (F := Ideal) (φ₁ := .f32) (φ₂ := .f32) dot_S2048x512_S2048x512x1024_S2048x1024_1_1_n_2_0_0 none x G (ix2 t l)
      = ∑ d : Fin 512, (x (ix2 t d) * G (ix3 t d l) : EReal) := by
  let D := dot_S2048x512_S2048x512x1024_S2048x1024_1_1_n_2_0_0
  have hr : D.contr.rank = 1 := rfl
  have hs : D.contr.size ⟨0, by rw [hr]; omega⟩ = 512 := rfl
  refine (Ideal.dotGeneral_apply D none _ x G (ix2 t l)).trans ?_
  rw [← Equiv.sum_comp (ValueIdx.contrEquiv1 D 512 hr hs).symm]
  refine Finset.sum_congr rfl fun d _ => ?_
  have hk := ValueIdx.contrEquiv1_symm_val D 512 hr hs d
  have el : D.lhsIdx (ix2 t l) ((ValueIdx.contrEquiv1 D 512 hr hs).symm d) = ix2 t d := by
    funext a; apply Fin.ext
    match a with
    | ⟨0, _⟩ => rfl
    | ⟨1, _⟩ => exact hk
  have er : D.rhsIdx (ix2 t l) ((ValueIdx.contrEquiv1 D 512 hr hs).symm d) = ix3 t d l := by
    funext a; apply Fin.ext
    match a with
    | ⟨0, _⟩ => rfl
    | ⟨1, _⟩ => exact hk
    | ⟨2, _⟩ => rfl
  rw [el, er]

/-- The routing as a list of words. -/
theorem flat_val (r : Vec Ideal S2048x1 .i32) (t : Fin 2048) :
    shapeCast S2048 r shapeCasts_S2048x1_S2048 (ix1 t) = r (ix2 t 0) := by
  refine shapeCast_apply r _ (ix1 t) (ix2 t 0) ?_
  rw [Shape.rowMajor_val_two, Shape.rowMajor_val_one]
  show t.val * 1 + 0 = t.val
  omega

/-- A list of 2048 entries as a column. -/
theorem col_val {α : Type} (v : S2048.Idx → α) (t : Fin 2048) :
    broadcastInDim S2048x1 ![0] bcast_S2048_S2048x1_0 v (ix2 t 0) = v (ix1 t) := by
  refine broadcastInDim_apply _ _ v _ (ix1 t) ?_
  intro a
  match a with
  | ⟨0, _⟩ => rfl

/-- A word names an expert exactly when it is, read signed, from 0 to 127. -/
theorem known_val (v : BitVec 32) :
    IntOp.andi (IntOp.cmpi .sge v 0#32) (IntOp.cmpi .slt v 128#32) = if v.toNat < 128 then 1#1 else 0#1 := by
  have h1 : (0#32 : BitVec 32).sle v = decide (0 ≤ v.toInt) := by simp [BitVec.sle]
  have h2 : v.slt 128#32 = decide (v.toInt < 128) := by simp [BitVec.slt]
  have hv := BitVec.toInt_eq_toNat_cond v
  have hl := v.isLt
  show BitVec.ofBool _ &&& BitVec.ofBool _ = _
  simp only [h1, h2]
  by_cases h : v.toNat < 128
  · rw [if_pos h, decide_eq_true (by split at hv <;> omega), decide_eq_true (by split at hv <;> omega)]; rfl
  · rw [if_neg h]
    by_cases h0 : 0 ≤ v.toInt
    · rw [decide_eq_false (p := v.toInt < 128) (by split at hv <;> omega)]; cases decide (0 ≤ v.toInt) <;> rfl
    · rw [decide_eq_false h0]; cases decide (v.toInt < 128) <;> rfl

/-- The word the gather reads for a row that names an expert is the row's own. -/
theorem wrap_val (v : BitVec 32) (h : v.toNat < 128) :
    min (Scalar.select (IntOp.cmpi .slt v 0#32) (IntOp.addi v 128#32) v).toInt.toNat 127 = v.toNat := by
  have hv := BitVec.toInt_eq_toNat_cond v
  rw [if_pos (by omega)] at hv
  have h2 : v.slt 0#32 = false := by simp [BitVec.slt, hv]
  have e : Scalar.select (IntOp.cmpi .slt v 0#32) (IntOp.addi v 128#32) v = v := by
    unfold Scalar.select
    refine if_neg ?_
    show ¬ BitVec.ofBool (v.slt 0#32) = 1
    rw [h2]; decide
  rw [e, hv]
  omega

/-- **The reference's result: every row through the expert it names.** -/
theorem ref_moe (x : Vec Ideal S2048x512 .f32) (r : Vec Ideal S2048x1 .i32) (W : Vec Ideal S128x512x1024 .f32) :
    select (broadcastInDim S2048x1024 ![0, 1] bcast_S2048x1_S2048x1024_0_1 (broadcastInDim S2048x1 ![0] bcast_S2048_S2048x1_0
        (andi (cmpi .sge (shapeCast S2048 r shapeCasts_S2048x1_S2048) (broadcastInDim S2048 ![] bcast_S_S2048 (constantI S_ 32 0#32)))
          (cmpi .slt (shapeCast S2048 r shapeCasts_S2048x1_S2048) (broadcastInDim S2048 ![] bcast_S_S2048 (constantI S_ 32 128#32))))))
      (Host.dotGeneral (F := Ideal) (φ₁ := .f32) (φ₂ := .f32) dot_S2048x512_S2048x512x1024_S2048x1024_1_1_n_2_0_0 none x
        (Host.gather gather_S128x512x1024_S2048x1_S2048x512x1024_12_0_n_n_0_1_15121024 W (broadcastInDim S2048x1 ![0] bcast_S2048_S2048x1_0
          (select (cmpi .slt (shapeCast S2048 r shapeCasts_S2048x1_S2048) (broadcastInDim S2048 ![] bcast_S_S2048 (constantI S_ 32 0#32)))
            (addi (shapeCast S2048 r shapeCasts_S2048x1_S2048) (broadcastInDim S2048 ![] bcast_S_S2048 (constantI S_ 32 128#32)))
            (shapeCast S2048 r shapeCasts_S2048x1_S2048)))))
      (broadcastInDim S2048x1024 ![] bcast_S_S2048x1024 (constant (F := Ideal) S_ .f32 0x00000000#32))
      = moe x r W := by
  funext i
  obtain ⟨t, l, rfl⟩ : ∃ (t : Fin 2048) (l : Fin 1024), i = ix2 t l := ⟨i 0, i 1, ValueIdx.eq_ix2 i⟩
  generalize hS : shapeCast S2048 r shapeCasts_S2048x1_S2048 = s
  have hs : ∀ t : Fin 2048, s (ix1 t) = r (ix2 t 0) := fun t => by rw [← hS]; exact flat_val r t
  have hc : broadcastInDim S2048x1024 ![0, 1] bcast_S2048x1_S2048x1024_0_1 (broadcastInDim S2048x1 ![0] bcast_S2048_S2048x1_0
        (andi (cmpi .sge s (broadcastInDim S2048 ![] bcast_S_S2048 (constantI S_ 32 0#32)))
          (cmpi .slt s (broadcastInDim S2048 ![] bcast_S_S2048 (constantI S_ 32 128#32))))) (ix2 t l)
      = if (r (ix2 t 0)).toNat < 128 then 1#1 else 0#1 := by
    refine (broadcastInDim_apply _ _ _ (ix2 t l) (ix2 t 0) ?_).trans ?_
    · intro a
      match a with
      | ⟨0, _⟩ => rfl
      | ⟨1, _⟩ => rfl
    · rw [col_val, ← known_val, ← hs]
      rfl
  show Scalar.select _ _ _ = if h : (r (ix2 t 0)).toNat < 128 then rowProd x W t l ⟨_, h⟩ else 0
  rw [hc]
  by_cases h : (r (ix2 t 0)).toNat < 128
  · rw [if_pos h, dif_pos h]
    refine (if_pos rfl).trans ?_
    refine (dot_val x _ t l).trans ?_
    unfold rowProd
    refine Finset.sum_congr rfl fun d _ => ?_
    rw [gather_val]
    congr 3
    refine Fin.ext ?_
    refine (congrArg (fun q : BitVec 32 => min q.toInt.toNat 127) ((col_val _ t).trans ?_)).trans (wrap_val _ h)
    rw [← hs]
    rfl
  · rw [if_neg h, dif_neg h]
    refine (if_neg (by decide)).trans ?_
    exact Ideal.ofBits_zero_f32

end Cert.MoeProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem

/-- The two printed programs' calls run the same body, -/
theorem calls_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    exact rfl
/-- so they are the same calls. -/
theorem defs_eq : Cert.Kernel.defs (F := Bits) = Cert.KernelIdeal.defs (F := Bits) := congrArg (Pipeline.defs _) calls_eq

/-- The kernel runs on float words, leaving its arguments and every semaphore as they were. -/
theorem frame_kernel : Cert.quiescent_Kernel := fun m ρ _ => by
  rw [defs_eq]
  exact (θ_run (Cert.KernelIdeal.defs (F := Bits)) _ _).mono (fun _ h => ⟨fun c => (h.1 c).2, h.2⟩) (Cert.MoeProof.run_main (F := Bits) m ρ)

/-- So it does over the exact reals. -/
theorem frame_kernelIdeal : Cert.quiescent_KernelIdeal := fun m ρ _ =>
  (θ_run Cert.KernelIdeal.defs _ _).mono (fun _ h => ⟨fun c => (h.1 c).2, h.2⟩) (Cert.MoeProof.run_main (F := Ideal) m ρ)

/-- So does the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, on every device. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (Cert.MoeProof.run_main (F := Ideal) m ρ)
  refine (Cert.MoeProof.OutG_moe _ _ _ _ _ _ (fun d => (hagree d).1) (fun d => (hagree d).2.2.1)
    (fun d => (hagree d).2.2.2)).trans ?_
  exact (Cert.MoeProof.ref_moe _ _ _).symm

theorem claim : Cert.Claim :=
  ⟨Cert.Kernel.Gen.facts, Cert.KernelIdeal.Gen.facts, Cert.ReferenceIdeal.Gen.facts, frame_kernel, frame_kernelIdeal, frame_referenceIdeal, trivial, algebraic⟩

end Cert.Proof

end
